-- ==== Defs.lean ====
def Pre_Kernel [hPre_groups_fit : Cert.Pre_groups_fit.Facts] (m : (ℓ : Loc Cert.Kernel.nD Cert.Kernel.τ Cert.Kernel.sig) → Buf (Elt Bits) ℓ) : Prop :=
  ∀ c : Dev Cert.Kernel.nD,
    (Cert.Pre_groups_fit.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_groups_fit : Cert.Pre_groups_fit.Facts] (m : (ℓ : Loc Cert.KernelIdeal.nD Cert.KernelIdeal.τ Cert.KernelIdeal.sig) → Buf (Elt Ideal) ℓ) : Prop :=
  ∀ c : Dev Cert.KernelIdeal.nD,
    (Cert.Pre_groups_fit.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_groups_fit [hPre_groups_fit : Cert.Pre_groups_fit.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_groups_fit.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def quiescent_Kernel [hKernel : Cert.Kernel.Facts] [hPre_groups_fit : Cert.Pre_groups_fit.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] [hPre_groups_fit : Cert.Pre_groups_fit.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_groups_fit [hReferenceIdeal : Cert.ReferenceIdeal.Facts] [hPre_groups_fit : Cert.Pre_groups_fit.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_groups_fit m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_groups_fit : Cert.Pre_groups_fit.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v39) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_groups_fit : Cert.Pre_groups_fit.Facts),
    quiescent_Kernel (hKernel := hKernel) (hPre_groups_fit := hPre_groups_fit)
    ∧ quiescent_KernelIdeal (hKernelIdeal := hKernelIdeal) (hPre_groups_fit := hPre_groups_fit)
    ∧ quiescent_ReferenceIdeal (hReferenceIdeal := hReferenceIdeal)
    ∧ quiescent_ReferenceIdeal_pre_groups_fit (hReferenceIdeal := hReferenceIdeal) (hPre_groups_fit := hPre_groups_fit)
    ∧ preserves_Kernel_KernelIdeal
    ∧ algebraic_KernelIdeal_ReferenceIdeal (hKernelIdeal := hKernelIdeal) (hReferenceIdeal := hReferenceIdeal) (hPre_groups_fit := hPre_groups_fit)
-- ==== Pre_groups_fit.lean ====
abbrev S512x2816 : Shape := ⟨2, ![512, 2816]⟩
abbrev S512x1 : Shape := ⟨2, ![512, 1]⟩
abbrev S4 : Shape := ⟨1, ![4]⟩
abbrev S4x2816x5632 : Shape := ⟨3, ![4, 2816, 5632]⟩
abbrev S4x5632 : Shape := ⟨2, ![4, 5632]⟩
abbrev S_ : Shape := ⟨0, ![]⟩

class Facts : Prop where
  bcast_S_S4 : S_.BroadcastsInDim S4 (![] : Fin 0 → Fin S4.rank)
  reducesTo_S4_S_d0 : S4.ReducesTo [0] S_
  h_S_ : 0 < S_.numel

variable [Facts]

def fn {F : FTy → Type} [FloatOps F] (main_arg0 : FVec F S512x2816 .fp8e4m3) (main_arg1 : FVec F S512x1 .f32) (main_arg2 : IVec S4 32) (main_arg3 : FVec F S4x2816x5632 .fp8e4m3) (main_arg4 : FVec F S4x5632 .f32) : IVec S_ 1 :=
  let main_c : IVec S_ 32 := constantI S_ 32 0#32
  let main_v0 : IVec S4 32 := broadcastInDim S4 ![] bcast_S_S4 main_c
  let main_v1 : IVec S4 1 := cmpi .sge main_arg2 main_v0
  let main_c_0 : IVec S_ 32 := constantI S_ 32 512#32
  let main_v2 : IVec S4 32 := broadcastInDim S4 ![] bcast_S_S4 main_c_0
  let main_v3 : IVec S4 1 := cmpi .sle main_arg2 main_v2
  let main_v4 : IVec S4 1 := andi main_v1 main_v3
  let main_c_1 : IVec S_ 1 := constantI S_ 1 1#1
  let main_v5 : IVec S_ 1 := (fun x v => Host.reduce IntOp.andi x v reducesTo_S4_S_d0 h_S_) main_v4 main_c_1
  let main_c_2 : IVec S_ 32 := constantI S_ 32 0#32
  let main_v6 : IVec S_ 32 := (fun x v => Host.reduce IntOp.addi x v reducesTo_S4_S_d0 h_S_) main_arg2 main_c_2
  let main_c_3 : IVec S_ 32 := constantI S_ 32 512#32
  let main_v7 : IVec S_ 1 := cmpi .sle main_v6 main_c_3
  let main_v8 : IVec S_ 1 := andi main_v5 main_v7
  main_v8
-- ==== Kernel.lean ====
abbrev S512x2816 : Shape := ⟨2, ![512, 2816]⟩
abbrev S512x1 : Shape := ⟨2, ![512, 1]⟩
abbrev S4 : Shape := ⟨1, ![4]⟩
abbrev S4x2816x5632 : Shape := ⟨3, ![4, 2816, 5632]⟩
abbrev S4x5632 : Shape := ⟨2, ![4, 5632]⟩
abbrev S512x5632 : Shape := ⟨2, ![512, 5632]⟩
abbrev S1x2816x512 : Shape := ⟨3, ![1, 2816, 512]⟩
abbrev S1 : Shape := ⟨1, ![1]⟩
abbrev S4x512 : Shape := ⟨2, ![4, 512]⟩
abbrev S512x512 : Shape := ⟨2, ![512, 512]⟩
abbrev S32x2816 : Shape := ⟨2, ![32, 2816]⟩
abbrev S2816x512 : Shape := ⟨2, ![2816, 512]⟩
abbrev S32x512 : Shape := ⟨2, ![32, 512]⟩
abbrev S32x1 : Shape := ⟨2, ![32, 1]⟩
abbrev S1x512 : Shape := ⟨2, ![1, 512]⟩
abbrev S64x2816 : Shape := ⟨2, ![64, 2816]⟩
abbrev S64x512 : Shape := ⟨2, ![64, 512]⟩
abbrev S64x1 : Shape := ⟨2, ![64, 1]⟩
abbrev S96x2816 : Shape := ⟨2, ![96, 2816]⟩
abbrev S96x512 : Shape := ⟨2, ![96, 512]⟩
abbrev S96x1 : Shape := ⟨2, ![96, 1]⟩
abbrev S128x2816 : Shape := ⟨2, ![128, 2816]⟩
abbrev S128x512 : Shape := ⟨2, ![128, 512]⟩
abbrev S128x1 : Shape := ⟨2, ![128, 1]⟩
abbrev S160x2816 : Shape := ⟨2, ![160, 2816]⟩
abbrev S160x512 : Shape := ⟨2, ![160, 512]⟩
abbrev S160x1 : Shape := ⟨2, ![160, 1]⟩
abbrev S192x2816 : Shape := ⟨2, ![192, 2816]⟩
abbrev S192x512 : Shape := ⟨2, ![192, 512]⟩
abbrev S192x1 : Shape := ⟨2, ![192, 1]⟩
abbrev S224x2816 : Shape := ⟨2, ![224, 2816]⟩
abbrev S224x512 : Shape := ⟨2, ![224, 512]⟩
abbrev S224x1 : Shape := ⟨2, ![224, 1]⟩
abbrev S256x2816 : Shape := ⟨2, ![256, 2816]⟩
abbrev S256x512 : Shape := ⟨2, ![256, 512]⟩
abbrev S256x1 : Shape := ⟨2, ![256, 1]⟩
abbrev S288x2816 : Shape := ⟨2, ![288, 2816]⟩
abbrev S288x512 : Shape := ⟨2, ![288, 512]⟩
abbrev S288x1 : Shape := ⟨2, ![288, 1]⟩
abbrev S320x2816 : Shape := ⟨2, ![320, 2816]⟩
abbrev S320x512 : Shape := ⟨2, ![320, 512]⟩
abbrev S320x1 : Shape := ⟨2, ![320, 1]⟩
abbrev S352x2816 : Shape := ⟨2, ![352, 2816]⟩
abbrev S352x512 : Shape := ⟨2, ![352, 512]⟩
abbrev S352x1 : Shape := ⟨2, ![352, 1]⟩
abbrev S384x2816 : Shape := ⟨2, ![384, 2816]⟩
abbrev S384x512 : Shape := ⟨2, ![384, 512]⟩
abbrev S384x1 : Shape := ⟨2, ![384, 1]⟩
abbrev S416x2816 : Shape := ⟨2, ![416, 2816]⟩
abbrev S416x512 : Shape := ⟨2, ![416, 512]⟩
abbrev S416x1 : Shape := ⟨2, ![416, 1]⟩
abbrev S448x2816 : Shape := ⟨2, ![448, 2816]⟩
abbrev S448x512 : Shape := ⟨2, ![448, 512]⟩
abbrev S448x1 : Shape := ⟨2, ![448, 1]⟩
abbrev S480x2816 : Shape := ⟨2, ![480, 2816]⟩
abbrev S480x512 : Shape := ⟨2, ![480, 512]⟩
abbrev S480x1 : Shape := ⟨2, ![480, 1]⟩

abbrev nBuf : Space → Nat
  | .hbm => 5
  | .vmem => 8
  | .smem => 1
  | _ => 0

abbrev bufTy : (tb : Table) → Fin (tcTables nBuf tb) → BufTy
  | .hbm, ⟨0, _⟩ => ⟨S512x2816, .fp8e4m3⟩
  | .hbm, ⟨1, _⟩ => ⟨S512x1, .f32⟩
  | .hbm, ⟨2, _⟩ => ⟨S4x2816x5632, .fp8e4m3⟩
  | .hbm, ⟨3, _⟩ => ⟨S4x5632, .f32⟩
  | .hbm, ⟨4, _⟩ => ⟨S512x5632, .bf16⟩
  | .local _ .vmem, ⟨0, _⟩ => ⟨S512x2816, .fp8e4m3⟩
  | .local _ .vmem, ⟨1, _⟩ => ⟨S512x1, .f32⟩
  | .local _ .vmem, ⟨2, _⟩ => ⟨S1x2816x512, .fp8e4m3⟩
  | .local _ .vmem, ⟨3, _⟩ => ⟨S1x2816x512, .fp8e4m3⟩
  | .local _ .vmem, ⟨4, _⟩ => ⟨S4x512, .f32⟩
  | .local _ .vmem, ⟨5, _⟩ => ⟨S4x512, .f32⟩
  | .local _ .vmem, ⟨6, _⟩ => ⟨S512x512, .bf16⟩
  | .local _ .vmem, ⟨7, _⟩ => ⟨S512x512, .bf16⟩
  | .local _ .smem, ⟨0, _⟩ => ⟨S4, .i32⟩
  | _, _ => ⟨S512x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg3 : Ref sig .tc := ⟨.hbm, 2, rfl⟩
abbrev main_arg4 : Ref sig .tc := ⟨.hbm, 3, rfl⟩
abbrev main_v0 : Ref sig .tc := ⟨.hbm, 4, rfl⟩
abbrev main_arg2 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![11, 4], ![false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg1 : BitVec 32 := BitVec.ofNat 32 (i 1).val
  let v16 : Index := Scalar.indexCast arg1
  ![v16.toNat]
def k0_mult1 (i : grid0.Coords) (v1 : BitVec 32) (v5 : BitVec 32) (v9 : BitVec 32) (v13 : BitVec 32) : BitVec 32 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  v23

def k0_chk1 (i : grid0.Coords) (v1 : BitVec 32) (v5 : BitVec 32) (v9 : BitVec 32) (v13 : BitVec 32) : Prop :=
  (32 ∣ (k0_mult1 i v1 v5 v9 v13).toNat)
theorem k0_mult1_dvd : ∀ (i : grid0.Coords) (v1 : BitVec 32) (v5 : BitVec 32) (v9 : BitVec 32) (v13 : BitVec 32) (k0_hw1 : k0_chk1 i v1 v5 v9 v13), 32 ∣ (k0_mult1 i v1 v5 v9 v13).toNat := fun i v1 v5 v9 v13 k0_hw1 => k0_hw1

def k0_off2 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond2 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v28 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c1_i32_9 : BitVec 32 := 1#32
  let v29 : BitVec 1 := Scalar.cmpi .eq v22 c1_i32_9
  let v30 : BitVec 1 := Scalar.andi v28 v29
  let v31 : BitVec 32 := Scalar.extui v30
  let c0_i32_10 : BitVec 32 := 0#32
  let v32 : BitVec 1 := Scalar.cmpi .ne v31 c0_i32_10
  v32

def k0_off3 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off4 (i : grid0.Coords) : Fin 2 → Nat :=
  let arg1 : BitVec 32 := BitVec.ofNat 32 (i 1).val
  let v117 : Index := Scalar.indexCast arg1
  let c0_33 : Index := 0#32
  ![v117.toNat, 0]
def k0_off5 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c0_i32_34 : BitVec 32 := 0#32
  let v121 : BitVec 32 := Scalar.addi v24 c0_i32_34
  let v131 : Index := Scalar.indexCast v121
  let c0_36 : Index := 0#32
  ![v131.toNat, 0]
def k0_off6 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond3 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v33 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c2_i32_11 : BitVec 32 := 2#32
  let v34 : BitVec 1 := Scalar.cmpi .eq v22 c2_i32_11
  let v35 : BitVec 1 := Scalar.andi v33 v34
  let v36 : BitVec 32 := Scalar.extui v35
  let c0_i32_12 : BitVec 32 := 0#32
  let v37 : BitVec 1 := Scalar.cmpi .ne v36 c0_i32_12
  v37

def k0_off7 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off8 (i : grid0.Coords) : Fin 2 → Nat :=
  let arg1 : BitVec 32 := BitVec.ofNat 32 (i 1).val
  let v117 : Index := Scalar.indexCast arg1
  let c0_33 : Index := 0#32
  ![v117.toNat, 0]
def k0_off9 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off10 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond4 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v38 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c3_i32_13 : BitVec 32 := 3#32
  let v39 : BitVec 1 := Scalar.cmpi .eq v22 c3_i32_13
  let v40 : BitVec 1 := Scalar.andi v38 v39
  let v41 : BitVec 32 := Scalar.extui v40
  let c0_i32_14 : BitVec 32 := 0#32
  let v42 : BitVec 1 := Scalar.cmpi .ne v41 c0_i32_14
  v42

def k0_off11 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off12 (i : grid0.Coords) : Fin 2 → Nat :=
  let arg1 : BitVec 32 := BitVec.ofNat 32 (i 1).val
  let v117 : Index := Scalar.indexCast arg1
  let c0_33 : Index := 0#32
  ![v117.toNat, 0]
def k0_off13 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off14 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond5 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v43 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c4_i32 : BitVec 32 := 4#32
  let v44 : BitVec 1 := Scalar.cmpi .eq v22 c4_i32
  let v45 : BitVec 1 := Scalar.andi v43 v44
  let v46 : BitVec 32 := Scalar.extui v45
  let c0_i32_15 : BitVec 32 := 0#32
  let v47 : BitVec 1 := Scalar.cmpi .ne v46 c0_i32_15
  v47

def k0_off15 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off16 (i : grid0.Coords) : Fin 2 → Nat :=
  let arg1 : BitVec 32 := BitVec.ofNat 32 (i 1).val
  let v117 : Index := Scalar.indexCast arg1
  let c0_33 : Index := 0#32
  ![v117.toNat, 0]
def k0_off17 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off18 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c32_i32_38 : BitVec 32 := 32#32
  let v143 : BitVec 32 := Scalar.addi v24 c32_i32_38
  let v145 : Index := Scalar.indexCast v143
  let c0_39 : Index := 0#32
  ![v145.toNat, 0]
def k0_off19 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond6 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v48 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c5_i32 : BitVec 32 := 5#32
  let v49 : BitVec 1 := Scalar.cmpi .eq v22 c5_i32
  let v50 : BitVec 1 := Scalar.andi v48 v49
  let v51 : BitVec 32 := Scalar.extui v50
  let c0_i32_16 : BitVec 32 := 0#32
  let v52 : BitVec 1 := Scalar.cmpi .ne v51 c0_i32_16
  v52

def k0_off20 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off21 (i : grid0.Coords) : Fin 2 → Nat :=
  let arg1 : BitVec 32 := BitVec.ofNat 32 (i 1).val
  let v117 : Index := Scalar.indexCast arg1
  let c0_33 : Index := 0#32
  ![v117.toNat, 0]
def k0_off22 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off23 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c32_i32_38 : BitVec 32 := 32#32
  let v143 : BitVec 32 := Scalar.addi v24 c32_i32_38
  let v145 : Index := Scalar.indexCast v143
  let c0_39 : Index := 0#32
  ![v145.toNat, 0]
def k0_off24 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond7 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v53 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c6_i32 : BitVec 32 := 6#32
  let v54 : BitVec 1 := Scalar.cmpi .eq v22 c6_i32
  let v55 : BitVec 1 := Scalar.andi v53 v54
  let v56 : BitVec 32 := Scalar.extui v55
  let c0_i32_17 : BitVec 32 := 0#32
  let v57 : BitVec 1 := Scalar.cmpi .ne v56 c0_i32_17
  v57

def k0_off25 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off26 (i : grid0.Coords) : Fin 2 → Nat :=
  let arg1 : BitVec 32 := BitVec.ofNat 32 (i 1).val
  let v117 : Index := Scalar.indexCast arg1
  let c0_33 : Index := 0#32
  ![v117.toNat, 0]
def k0_off27 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off28 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c32_i32_38 : BitVec 32 := 32#32
  let v143 : BitVec 32 := Scalar.addi v24 c32_i32_38
  let v145 : Index := Scalar.indexCast v143
  let c0_39 : Index := 0#32
  ![v145.toNat, 0]
def k0_off29 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond8 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v58 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c7_i32 : BitVec 32 := 7#32
  let v59 : BitVec 1 := Scalar.cmpi .eq v22 c7_i32
  let v60 : BitVec 1 := Scalar.andi v58 v59
  let v61 : BitVec 32 := Scalar.extui v60
  let c0_i32_18 : BitVec 32 := 0#32
  let v62 : BitVec 1 := Scalar.cmpi .ne v61 c0_i32_18
  v62

def k0_off30 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off31 (i : grid0.Coords) : Fin 2 → Nat :=
  let arg1 : BitVec 32 := BitVec.ofNat 32 (i 1).val
  let v117 : Index := Scalar.indexCast arg1
  let c0_33 : Index := 0#32
  ![v117.toNat, 0]
def k0_off32 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off33 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c32_i32_38 : BitVec 32 := 32#32
  let v143 : BitVec 32 := Scalar.addi v24 c32_i32_38
  let v145 : Index := Scalar.indexCast v143
  let c0_39 : Index := 0#32
  ![v145.toNat, 0]
def k0_off34 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond9 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v63 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c8_i32 : BitVec 32 := 8#32
  let v64 : BitVec 1 := Scalar.cmpi .eq v22 c8_i32
  let v65 : BitVec 1 := Scalar.andi v63 v64
  let v66 : BitVec 32 := Scalar.extui v65
  let c0_i32_19 : BitVec 32 := 0#32
  let v67 : BitVec 1 := Scalar.cmpi .ne v66 c0_i32_19
  v67

def k0_off35 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off36 (i : grid0.Coords) : Fin 2 → Nat :=
  let arg1 : BitVec 32 := BitVec.ofNat 32 (i 1).val
  let v117 : Index := Scalar.indexCast arg1
  let c0_33 : Index := 0#32
  ![v117.toNat, 0]
def k0_off37 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off38 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c32_i32_38 : BitVec 32 := 32#32
  let v143 : BitVec 32 := Scalar.addi v24 c32_i32_38
  let v145 : Index := Scalar.indexCast v143
  let c0_39 : Index := 0#32
  ![v145.toNat, 0]
def k0_off39 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond10 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v68 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c9_i32 : BitVec 32 := 9#32
  let v69 : BitVec 1 := Scalar.cmpi .eq v22 c9_i32
  let v70 : BitVec 1 := Scalar.andi v68 v69
  let v71 : BitVec 32 := Scalar.extui v70
  let c0_i32_20 : BitVec 32 := 0#32
  let v72 : BitVec 1 := Scalar.cmpi .ne v71 c0_i32_20
  v72

def k0_off40 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off41 (i : grid0.Coords) : Fin 2 → Nat :=
  let arg1 : BitVec 32 := BitVec.ofNat 32 (i 1).val
  let v117 : Index := Scalar.indexCast arg1
  let c0_33 : Index := 0#32
  ![v117.toNat, 0]
def k0_off42 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off43 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c32_i32_38 : BitVec 32 := 32#32
  let v143 : BitVec 32 := Scalar.addi v24 c32_i32_38
  let v145 : Index := Scalar.indexCast v143
  let c0_39 : Index := 0#32
  ![v145.toNat, 0]
def k0_off44 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond11 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v73 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c10_i32 : BitVec 32 := 10#32
  let v74 : BitVec 1 := Scalar.cmpi .eq v22 c10_i32
  let v75 : BitVec 1 := Scalar.andi v73 v74
  let v76 : BitVec 32 := Scalar.extui v75
  let c0_i32_21 : BitVec 32 := 0#32
  let v77 : BitVec 1 := Scalar.cmpi .ne v76 c0_i32_21
  v77

def k0_off45 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off46 (i : grid0.Coords) : Fin 2 → Nat :=
  let arg1 : BitVec 32 := BitVec.ofNat 32 (i 1).val
  let v117 : Index := Scalar.indexCast arg1
  let c0_33 : Index := 0#32
  ![v117.toNat, 0]
def k0_off47 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off48 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c32_i32_38 : BitVec 32 := 32#32
  let v143 : BitVec 32 := Scalar.addi v24 c32_i32_38
  let v145 : Index := Scalar.indexCast v143
  let c0_39 : Index := 0#32
  ![v145.toNat, 0]
def k0_off49 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond12 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v78 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c11_i32 : BitVec 32 := 11#32
  let v79 : BitVec 1 := Scalar.cmpi .eq v22 c11_i32
  let v80 : BitVec 1 := Scalar.andi v78 v79
  let v81 : BitVec 32 := Scalar.extui v80
  let c0_i32_22 : BitVec 32 := 0#32
  let v82 : BitVec 1 := Scalar.cmpi .ne v81 c0_i32_22
  v82

def k0_off50 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off51 (i : grid0.Coords) : Fin 2 → Nat :=
  let arg1 : BitVec 32 := BitVec.ofNat 32 (i 1).val
  let v117 : Index := Scalar.indexCast arg1
  let c0_33 : Index := 0#32
  ![v117.toNat, 0]
def k0_off52 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off53 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c32_i32_38 : BitVec 32 := 32#32
  let v143 : BitVec 32 := Scalar.addi v24 c32_i32_38
  let v145 : Index := Scalar.indexCast v143
  let c0_39 : Index := 0#32
  ![v145.toNat, 0]
def k0_off54 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond13 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v83 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c12_i32 : BitVec 32 := 12#32
  let v84 : BitVec 1 := Scalar.cmpi .eq v22 c12_i32
  let v85 : BitVec 1 := Scalar.andi v83 v84
  let v86 : BitVec 32 := Scalar.extui v85
  let c0_i32_23 : BitVec 32 := 0#32
  let v87 : BitVec 1 := Scalar.cmpi .ne v86 c0_i32_23
  v87

def k0_off55 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off56 (i : grid0.Coords) : Fin 2 → Nat :=
  let arg1 : BitVec 32 := BitVec.ofNat 32 (i 1).val
  let v117 : Index := Scalar.indexCast arg1
  let c0_33 : Index := 0#32
  ![v117.toNat, 0]
def k0_off57 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off58 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c32_i32_38 : BitVec 32 := 32#32
  let v143 : BitVec 32 := Scalar.addi v24 c32_i32_38
  let v145 : Index := Scalar.indexCast v143
  let c0_39 : Index := 0#32
  ![v145.toNat, 0]
def k0_off59 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond14 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v88 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c13_i32 : BitVec 32 := 13#32
  let v89 : BitVec 1 := Scalar.cmpi .eq v22 c13_i32
  let v90 : BitVec 1 := Scalar.andi v88 v89
  let v91 : BitVec 32 := Scalar.extui v90
  let c0_i32_24 : BitVec 32 := 0#32
  let v92 : BitVec 1 := Scalar.cmpi .ne v91 c0_i32_24
  v92

def k0_off60 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off61 (i : grid0.Coords) : Fin 2 → Nat :=
  let arg1 : BitVec 32 := BitVec.ofNat 32 (i 1).val
  let v117 : Index := Scalar.indexCast arg1
  let c0_33 : Index := 0#32
  ![v117.toNat, 0]
def k0_off62 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off63 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c32_i32_38 : BitVec 32 := 32#32
  let v143 : BitVec 32 := Scalar.addi v24 c32_i32_38
  let v145 : Index := Scalar.indexCast v143
  let c0_39 : Index := 0#32
  ![v145.toNat, 0]
def k0_off64 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond15 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v93 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c14_i32 : BitVec 32 := 14#32
  let v94 : BitVec 1 := Scalar.cmpi .eq v22 c14_i32
  let v95 : BitVec 1 := Scalar.andi v93 v94
  let v96 : BitVec 32 := Scalar.extui v95
  let c0_i32_25 : BitVec 32 := 0#32
  let v97 : BitVec 1 := Scalar.cmpi .ne v96 c0_i32_25
  v97

def k0_off65 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off66 (i : grid0.Coords) : Fin 2 → Nat :=
  let arg1 : BitVec 32 := BitVec.ofNat 32 (i 1).val
  let v117 : Index := Scalar.indexCast arg1
  let c0_33 : Index := 0#32
  ![v117.toNat, 0]
def k0_off67 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off68 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c32_i32_38 : BitVec 32 := 32#32
  let v143 : BitVec 32 := Scalar.addi v24 c32_i32_38
  let v145 : Index := Scalar.indexCast v143
  let c0_39 : Index := 0#32
  ![v145.toNat, 0]
def k0_off69 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond16 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v98 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c15_i32 : BitVec 32 := 15#32
  let v99 : BitVec 1 := Scalar.cmpi .eq v22 c15_i32
  let v100 : BitVec 1 := Scalar.andi v98 v99
  let v101 : BitVec 32 := Scalar.extui v100
  let c0_i32_26 : BitVec 32 := 0#32
  let v102 : BitVec 1 := Scalar.cmpi .ne v101 c0_i32_26
  v102

def k0_off70 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off71 (i : grid0.Coords) : Fin 2 → Nat :=
  let arg1 : BitVec 32 := BitVec.ofNat 32 (i 1).val
  let v117 : Index := Scalar.indexCast arg1
  let c0_33 : Index := 0#32
  ![v117.toNat, 0]
def k0_off72 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off73 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c32_i32_38 : BitVec 32 := 32#32
  let v143 : BitVec 32 := Scalar.addi v24 c32_i32_38
  let v145 : Index := Scalar.indexCast v143
  let c0_39 : Index := 0#32
  ![v145.toNat, 0]
def k0_off74 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v108 : Index := Scalar.indexCast v24
  let c0_28 : Index := 0#32
  ![v108.toNat, 0]
def k0_cond17 (i : grid0.Coords) (v1 : BitVec 32) (v5 : BitVec 32) (v9 : BitVec 32) (v13 : BitVec 32) (v17 : BitVec 32) : BitVec 1 :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let v18 : BitVec 32 := Scalar.addi v15 v17
  let v103 : BitVec 1 := Scalar.cmpi .sgt v18 v15
  let c31_i32 : BitVec 32 := 31#32
  let v20 : BitVec 32 := Scalar.addi v18 c31_i32
  let c32_i32_5 : BitVec 32 := 32#32
  let v21 : BitVec 32 := Scalar.divsi v20 c32_i32_5
  let c32_i32 : BitVec 32 := 32#32
  let v19 : BitVec 32 := Scalar.divsi v15 c32_i32
  let v22 : BitVec 32 := Scalar.subi v21 v19
  let c16_i32 : BitVec 32 := 16#32
  let v104 : BitVec 1 := Scalar.cmpi .eq v22 c16_i32
  let v105 : BitVec 1 := Scalar.andi v103 v104
  let v106 : BitVec 32 := Scalar.extui v105
  let c0_i32_27 : BitVec 32 := 0#32
  let v107 : BitVec 1 := Scalar.cmpi .ne v106 c0_i32_27
  v107

def k0_off75 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v113 : Index := Scalar.indexCast v24
  let c0_32 : Index := 0#32
  ![v113.toNat, 0]
def k0_off76 (i : grid0.Coords) : Fin 2 → Nat :=
  let arg1 : BitVec 32 := BitVec.ofNat 32 (i 1).val
  let v117 : Index := Scalar.indexCast arg1
  let c0_33 : Index := 0#32
  ![v117.toNat, 0]
def k0_off77 (i : grid0.Coords) (v1 : BitVec 32) (v5 : BitVec 32) (v9 : BitVec 32) (v13 : BitVec 32) (c0_i32_34 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let v122 : BitVec 32 := Scalar.addi v24 c0_i32_34
  let v132 : Index := Scalar.indexCast v122
  let c0_36 : Index := 0#32
  ![v132.toNat, 0]
def k0_off78 (i : grid0.Coords) (v1 : BitVec 32) (v5 : BitVec 32) (v9 : BitVec 32) (v13 : BitVec 32) : Fin 2 → Nat :=
  let c0_i32_1 : BitVec 32 := 0#32
  let arg1 : BitVec 32 := BitVec.ofNat 32 (i 1).val
  let c0_i32 : BitVec 32 := 0#32
  let v0 : BitVec 1 := Scalar.cmpi .sgt arg1 c0_i32
  let c0_i32_0 : BitVec 32 := 0#32
  let v2 : BitVec 32 := Scalar.select v0 v1 c0_i32_0
  let v3 : BitVec 32 := Scalar.addi c0_i32_1 v2
  let c1_i32 : BitVec 32 := 1#32
  let v4 : BitVec 1 := Scalar.cmpi .sgt arg1 c1_i32
  let c0_i32_2 : BitVec 32 := 0#32
  let v6 : BitVec 32 := Scalar.select v4 v5 c0_i32_2
  let v7 : BitVec 32 := Scalar.addi v3 v6
  let c2_i32 : BitVec 32 := 2#32
  let v8 : BitVec 1 := Scalar.cmpi .sgt arg1 c2_i32
  let c0_i32_3 : BitVec 32 := 0#32
  let v10 : BitVec 32 := Scalar.select v8 v9 c0_i32_3
  let v11 : BitVec 32 := Scalar.addi v7 v10
  let c3_i32 : BitVec 32 := 3#32
  let v12 : BitVec 1 := Scalar.cmpi .sgt arg1 c3_i32
  let c0_i32_4 : BitVec 32 := 0#32
  let v14 : BitVec 32 := Scalar.select v12 v13 c0_i32_4
  let v15 : BitVec 32 := Scalar.addi v11 v14
  let c32_i32 : BitVec 32 := 32#32
  let v19 : BitVec 32 := Scalar.divsi v15 c32_i32
  let c32_i32_6 : BitVec 32 := 32#32
  let v23 : BitVec 32 := Scalar.muli v19 c32_i32_6
  let v24 : BitVec 32 := v23
  let c32_i32_38 : BitVec 32 := 32#32
  let v143 : BitVec 32 := Scalar.addi v24 c32_i32_38
  let v145 : Index := Scalar.indexCast v143
  let c0_39 : Index := 0#32
  ![v145.toNat, 0]

def k0_chk2_0 (i : grid0.Coords) (v1 : BitVec 32) (v5 : BitVec 32) (v9 : BitVec 32) (v13 : BitVec 32) (v17 : BitVec 32) : Prop :=
  (∀ (k0_h2 : k0_cond2 i v1 v5 v9 v13 v17 = 1#1), ∀ a, (k0_off2 i v1 v5 v9 v13) a + S32x2816.size a ≤ S512x2816.size a) ∧
  (∀ (k0_h2 : k0_cond2 i v1 v5 v9 v13 v17 = 1#1), ∀ a, (k0_off3 i v1 v5 v9 v13) a + S32x1.size a ≤ S512x1.size a) ∧
  (∀ (k0_h2 : k0_cond2 i v1 v5 v9 v13 v17 = 1#1), ∀ a, (k0_off5 i v1 v5 v9 v13) a + S32x512.size a ≤ S512x512.size a) ∧
  (∀ (k0_h2 : k0_cond2 i v1 v5 v9 v13 v17 = 1#1), ∀ (hinb : ∀ a, (k0_off5 i v1 v5 v9 v13) a + S32x512.size a ≤ S512x512.size a), (Rect.unit (s := S512x512) (k0_off5 i v1 v5 v9 v13) S32x512.size hinb).PackedRows (EltTy.packing .bf16)) ∧
  (∀ (k0_h3 : k0_cond3 i v1 v5 v9 v13 v17 = 1#1), ∀ a, (k0_off6 i v1 v5 v9 v13) a + S64x2816.size a ≤ S512x2816.size a) ∧
  (∀ (k0_h3 : k0_cond3 i v1 v5 v9 v13 v17 = 1#1), ∀ a, (k0_off7 i v1 v5 v9 v13) a + S64x1.size a ≤ S512x1.size a) ∧
  (∀ (k0_h3 : k0_cond3 i v1 v5 v9 v13 v17 = 1#1), ∀ (r : Fin 2), ∀ a, (k0_off9 i v1 v5 v9 v13 (BitVec.ofNat 32 (32 * r.val))) a + S32x512.size a ≤ S512x512.size a) ∧
  (∀ (k0_h3 : k0_cond3 i v1 v5 v9 v13 v17 = 1#1), ∀ (r : Fin 2), ∀ (hinb : ∀ a, (k0_off9 i v1 v5 v9 v13 (BitVec.ofNat 32 (32 * r.val))) a + S32x512.size a ≤ S512x512.size a), (Rect.unit (s := S512x512) (k0_off9 i v1 v5 v9 v13 (BitVec.ofNat 32 (32 * r.val))) S32x512.size hinb).PackedRows (EltTy.packing .bf16)) ∧
  (∀ (k0_h4 : k0_cond4 i v1 v5 v9 v13 v17 = 1#1), ∀ a, (k0_off10 i v1 v5 v9 v13) a + S96x2816.size a ≤ S512x2816.size a) ∧
  (∀ (k0_h4 : k0_cond4 i v1 v5 v9 v13 v17 = 1#1), ∀ a, (k0_off11 i v1 v5 v9 v13) a + S96x1.size a ≤ S512x1.size a) ∧
  (∀ (k0_h4 : k0_cond4 i v1 v5 v9 v13 v17 = 1#1), ∀ (r : Fin 3), ∀ a, (k0_off13 i v1 v5 v9 v13 (BitVec.ofNat 32 (32 * r.val))) a + S32x512.size a ≤ S512x512.size a) ∧
  (∀ (k0_h4 : k0_cond4 i v1 v5 v9 v13 v17 = 1#1), ∀ (r : Fin 3), ∀ (hinb : ∀ a, (k0_off13 i v1 v5 v9 v13 (BitVec.ofNat 32 (32 * r.val))) a + S32x512.size a ≤ S512x512.size a), (Rect.unit (s := S512x512) (k0_off13 i v1 v5 v9 v13 (BitVec.ofNat 32 (32 * r.val))) S32x512.size hinb).PackedRows (EltTy.packing .bf16)) ∧
  (∀ (k0_h5 : k0_cond5 i v1 v5 v9 v13 v17 = 1#1), ∀ a, (k0_off14 i v1 v5 v9 v13) a + S128x2816.size a ≤ S512x2816.size a) ∧
  (∀ (k0_h5 : k0_cond5 i v1 v5 v9 v13 v17 = 1#1), ∀ a, (k0_off15 i v1 v5 v9 v13) a + S128x1.size a ≤ S512x1.size a) ∧
  (∀ (k0_h5 : k0_cond5 i v1 v5 v9 v13 v17 = 1#1), ∀ (r : Fin 2), ∀ a, (k0_off17 i v1 v5 v9 v13 (BitVec.ofNat 32 (96 * r.val))) a + S32x512.size a ≤ S512x512.size a) ∧
  (∀ (k0_h5 : k0_cond5 i v1 v5 v9 v13 v17 = 1#1), ∀ (r : Fin 2), ∀ (hinb : ∀ a, (k0_off17 i v1 v5 v9 v13 (BitVec.ofNat 32 (96 * r.val))) a + S32x512.size a ≤ S512x512.size a), (Rect.unit (s := S512x512) (k0_off17 i v1 v5 v9 v13 (BitVec.ofNat 32 (96 * r.val))) S32x512.size hinb).PackedRows (EltTy.packing .bf16)) ∧
  (∀ (k0_h5 : k0_cond5 i v1 v5 v9 v13 v17 = 1#1), ∀ a, (k0_off18 i v1 v5 v9 v13) a + S64x512.size a ≤ S512x512.size a) ∧
  (∀ (k0_h5 : k0_cond5 i v1 v5 v9 v13 v17 = 1#1), ∀ (hinb : ∀ a, (k0_off18 i v1 v5 v9 v13) a + S64x512.size a ≤ S512x512.size a), (Rect.unit (s := S512x512) (k0_off18 i v1 v5 v9 v13) S64x512.size hinb).PackedRows (EltTy.packing .bf16)) ∧
  (∀ (k0_h6 : k0_cond6 i v1 v5 v9 v13 v17 = 1#1), ∀ a, (k0_off19 i v1 v5 v9 v13) a + S160x2816.size a ≤ S512x2816.size a) ∧
  (∀ (k0_h6 : k0_cond6 i v1 v5 v9 v13 v17 = 1#1), ∀ a, (k0_off20 i v1 v5 v9 v13) a + S160x1.size a ≤ S512x1.size a) ∧
  (∀ (k0_h6 : k0_cond6 i v1 v5 v9 v13 v17 = 1#1), ∀ (r : Fin 2), ∀ a, (k0_off22 i v1 v5 v9 v13 (BitVec.ofNat 32 (128 * r.val))) a + S32x512.size a ≤ S512x512.size a) ∧
  (∀ (k0_h6 : k0_cond6 i v1 v5 v9 v13 v17 = 1#1), ∀ (r : Fin 2), ∀ (hinb : ∀ a, (k0_off22 i v1 v5 v9 v13 (BitVec.ofNat 32 (128 * r.val))) a + S32x512.size a ≤ S512x512.size a), (Rect.unit (s := S512x512) (k0_off22 i v1 v5 v9 v13 (BitVec.ofNat 32 (128 * r.val))) S32x512.size hinb).PackedRows (EltTy.packing .bf16)) ∧
  (∀ (k0_h6 : k0_cond6 i v1 v5 v9 v13 v17 = 1#1), ∀ a, (k0_off23 i v1 v5 v9 v13) a + S96x512.size a ≤ S512x512.size a) ∧
  (∀ (k0_h6 : k0_cond6 i v1 v5 v9 v13 v17 = 1#1), ∀ (hinb : ∀ a, (k0_off23 i v1 v5 v9 v13) a + S96x512.size a ≤ S512x512.size a), (Rect.unit (s := S512x512) (k0_off23 i v1 v5 v9 v13) S96x512.size hinb).PackedRows (EltTy.packing .bf16)) ∧
  (∀ (k0_h7 : k0_cond7 i v1 v5 v9 v13 v17 = 1#1), ∀ a, (k0_off24 i v1 v5 v9 v13) a + S192x2816.size a ≤ S512x2816.size a) ∧
  (∀ (k0_h7 : k0_cond7 i v1 v5 v9 v13 v17 = 1#1), ∀ a, (k0_off25 i v1 v5 v9 v13) a + S192x1.size a ≤ S512x1.size a) ∧
  (∀ (k0_h7 : k0_cond7 i v1 v5 v9 v13 v17 = 1#1), ∀ (r : Fin 2), ∀ a, (k0_off27 i v1 v5 v9 v13 (BitVec.ofNat 32 (160 * r.val))) a + S32x512.size a ≤ S512x512.size a) ∧
  (∀ (k0_h7 : k0_cond7 i v1 v5 v9 v13 v17 = 1#1), ∀ (r : Fin 2), ∀ (hinb : ∀ a, (k0_off27 i v1 v5 v9 v13 (BitVec.ofNat 32 (160 * r.val))) a + S32x512.size a ≤ S512x512.size a), (Rect.unit (s := S512x512) (k0_off27 i v1 v5 v9 v13 (BitVec.ofNat 32 (160 * r.val))) S32x512.size hinb).PackedRows (EltTy.packing .bf16)) ∧
  (∀ (k0_h7 : k0_cond7 i v1 v5 v9 v13 v17 = 1#1), ∀ a, (k0_off28 i v1 v5 v9 v13) a + S128x512.size a ≤ S512x512.size a) ∧
  (∀ (k0_h7 : k0_cond7 i v1 v5 v9 v13 v17 = 1#1), ∀ (hinb : ∀ a, (k0_off28 i v1 v5 v9 v13) a + S128x512.size a ≤ S512x512.size a), (Rect.unit (s := S512x512) (k0_off28 i v1 v5 v9 v13) S128x512.size hinb).PackedRows (EltTy.packing .bf16)) ∧
  (∀ (k0_h8 : k0_cond8 i v1 v5 v9 v13 v17 = 1#1), ∀ a, (k0_off29 i v1 v5 v9 v13) a + S224x2816.size a ≤ S512x2816.size a) ∧
  (∀ (k0_h8 : k0_cond8 i v1 v5 v9 v13 v17 = 1#1), ∀ a, (k0_off30 i v1 v5 v9 v13) a + S224x1.size a ≤ S512x1.size a)
def k0_chk2_1 (i : grid0.Coords) (v1 : BitVec 32) (v5 : BitVec 32) (v9 : BitVec 32) (v13 : BitVec 32) (v17 : BitVec 32) : Prop :=
  (∀ (k0_h8 : k0_cond8 i v1 v5 v9 v13 v17 = 1#1), ∀ (r : Fin 2), ∀ a, (k0_off32 i v1 v5 v9 v13 (BitVec.ofNat 32 (192 * r.val))) a + S32x512.size a ≤ S512x512.size a) ∧
  (∀ (k0_h8 : k0_cond8 i v1 v5 v9 v13 v17 = 1#1), ∀ (r : Fin 2), ∀ (hinb : ∀ a, (k0_off32 i v1 v5 v9 v13 (BitVec.ofNat 32 (192 * r.val))) a + S32x512.size a ≤ S512x512.size a), (Rect.unit (s := S512x512) (k0_off32 i v1 v5 v9 v13 (BitVec.ofNat 32 (192 * r.val))) S32x512.size hinb).PackedRows (EltTy.packing .bf16)) ∧
  (∀ (k0_h8 : k0_cond8 i v1 v5 v9 v13 v17 = 1#1), ∀ a, (k0_off33 i v1 v5 v9 v13) a + S160x512.size a ≤ S512x512.size a) ∧
  (∀ (k0_h8 : k0_cond8 i v1 v5 v9 v13 v17 = 1#1), ∀ (hinb : ∀ a, (k0_off33 i v1 v5 v9 v13) a + S160x512.size a ≤ S512x512.size a), (Rect.unit (s := S512x512) (k0_off33 i v1 v5 v9 v13) S160x512.size hinb).PackedRows (EltTy.packing .bf16)) ∧
  (∀ (k0_h9 : k0_cond9 i v1 v5 v9 v13 v17 = 1#1), ∀ a, (k0_off34 i v1 v5 v9 v13) a + S256x2816.size a ≤ S512x2816.size a) ∧
  (∀ (k0_h9 : k0_cond9 i v1 v5 v9 v13 v17 = 1#1), ∀ a, (k0_off35 i v1 v5 v9 v13) a + S256x1.size a ≤ S512x1.size a) ∧
  (∀ (k0_h9 : k0_cond9 i v1 v5 v9 v13 v17 = 1#1), ∀ (r : Fin 2), ∀ a, (k0_off37 i v1 v5 v9 v13 (BitVec.ofNat 32 (224 * r.val))) a + S32x512.size a ≤ S512x512.size a) ∧
  (∀ (k0_h9 : k0_cond9 i v1 v5 v9 v13 v17 = 1#1), ∀ (r : Fin 2), ∀ (hinb : ∀ a, (k0_off37 i v1 v5 v9 v13 (BitVec.ofNat 32 (224 * r.val))) a + S32x512.size a ≤ S512x512.size a), (Rect.unit (s := S512x512) (k0_off37 i v1 v5 v9 v13 (BitVec.ofNat 32 (224 * r.val))) S32x512.size hinb).PackedRows (EltTy.packing .bf16)) ∧
  (∀ (k0_h9 : k0_cond9 i v1 v5 v9 v13 v17 = 1#1), ∀ a, (k0_off38 i v1 v5 v9 v13) a + S192x512.size a ≤ S512x512.size a) ∧
  (∀ (k0_h9 : k0_cond9 i v1 v5 v9 v13 v17 = 1#1), ∀ (hinb : ∀ a, (k0_off38 i v1 v5 v9 v13) a + S192x512.size a ≤ S512x512.size a), (Rect.unit (s := S512x512) (k0_off38 i v1 v5 v9 v13) S192x512.size hinb).PackedRows (EltTy.packing .bf16)) ∧
  (∀ (k0_h10 : k0_cond10 i v1 v5 v9 v13 v17 = 1#1), ∀ a, (k0_off39 i v1 v5 v9 v13) a + S288x2816.size a ≤ S512x2816.size a) ∧
  (∀ (k0_h10 : k0_cond10 i v1 v5 v9 v13 v17 = 1#1), ∀ a, (k0_off40 i v1 v5 v9 v13) a + S288x1.size a ≤ S512x1.size a) ∧
  (∀ (k0_h10 : k0_cond10 i v1 v5 v9 v13 v17 = 1#1), ∀ (r : Fin 2), ∀ a, (k0_off42 i v1 v5 v9 v13 (BitVec.ofNat 32 (256 * r.val))) a + S32x512.size a ≤ S512x512.size a) ∧
  (∀ (k0_h10 : k0_cond10 i v1 v5 v9 v13 v17 = 1#1), ∀ (r : Fin 2), ∀ (hinb : ∀ a, (k0_off42 i v1 v5 v9 v13 (BitVec.ofNat 32 (256 * r.val))) a + S32x512.size a ≤ S512x512.size a), (Rect.unit (s := S512x512) (k0_off42 i v1 v5 v9 v13 (BitVec.ofNat 32 (256 * r.val))) S32x512.size hinb).PackedRows (EltTy.packing .bf16)) ∧
  (∀ (k0_h10 : k0_cond10 i v1 v5 v9 v13 v17 = 1#1), ∀ a, (k0_off43 i v1 v5 v9 v13) a + S224x512.size a ≤ S512x512.size a) ∧
  (∀ (k0_h10 : k0_cond10 i v1 v5 v9 v13 v17 = 1#1), ∀ (hinb : ∀ a, (k0_off43 i v1 v5 v9 v13) a + S224x512.size a ≤ S512x512.size a), (Rect.unit (s := S512x512) (k0_off43 i v1 v5 v9 v13) S224x512.size hinb).PackedRows (EltTy.packing .bf16)) ∧
  (∀ (k0_h11 : k0_cond11 i v1 v5 v9 v13 v17 = 1#1), ∀ a, (k0_off44 i v1 v5 v9 v13) a + S320x2816.size a ≤ S512x2816.size a) ∧
  (∀ (k0_h11 : k0_cond11 i v1 v5 v9 v13 v17 = 1#1), ∀ a, (k0_off45 i v1 v5 v9 v13) a + S320x1.size a ≤ S512x1.size a) ∧
  (∀ (k0_h11 : k0_cond11 i v1 v5 v9 v13 v17 = 1#1), ∀ (r : Fin 2), ∀ a, (k0_off47 i v1 v5 v9 v13 (BitVec.ofNat 32 (288 * r.val))) a + S32x512.size a ≤ S512x512.size a) ∧
  (∀ (k0_h11 : k0_cond11 i v1 v5 v9 v13 v17 = 1#1), ∀ (r : Fin 2), ∀ (hinb : ∀ a, (k0_off47 i v1 v5 v9 v13 (BitVec.ofNat 32 (288 * r.val))) a + S32x512.size a ≤ S512x512.size a), (Rect.unit (s := S512x512) (k0_off47 i v1 v5 v9 v13 (BitVec.ofNat 32 (288 * r.val))) S32x512.size hinb).PackedRows (EltTy.packing .bf16)) ∧
  (∀ (k0_h11 : k0_cond11 i v1 v5 v9 v13 v17 = 1#1), ∀ a, (k0_off48 i v1 v5 v9 v13) a + S256x512.size a ≤ S512x512.size a) ∧
  (∀ (k0_h11 : k0_cond11 i v1 v5 v9 v13 v17 = 1#1), ∀ (hinb : ∀ a, (k0_off48 i v1 v5 v9 v13) a + S256x512.size a ≤ S512x512.size a), (Rect.unit (s := S512x512) (k0_off48 i v1 v5 v9 v13) S256x512.size hinb).PackedRows (EltTy.packing .bf16)) ∧
  (∀ (k0_h12 : k0_cond12 i v1 v5 v9 v13 v17 = 1#1), ∀ a, (k0_off49 i v1 v5 v9 v13) a + S352x2816.size a ≤ S512x2816.size a) ∧
  (∀ (k0_h12 : k0_cond12 i v1 v5 v9 v13 v17 = 1#1), ∀ a, (k0_off50 i v1 v5 v9 v13) a + S352x1.size a ≤ S512x1.size a) ∧
  (∀ (k0_h12 : k0_cond12 i v1 v5 v9 v13 v17 = 1#1), ∀ (r : Fin 2), ∀ a, (k0_off52 i v1 v5 v9 v13 (BitVec.ofNat 32 (320 * r.val))) a + S32x512.size a ≤ S512x512.size a) ∧
  (∀ (k0_h12 : k0_cond12 i v1 v5 v9 v13 v17 = 1#1), ∀ (r : Fin 2), ∀ (hinb : ∀ a, (k0_off52 i v1 v5 v9 v13 (BitVec.ofNat 32 (320 * r.val))) a + S32x512.size a ≤ S512x512.size a), (Rect.unit (s := S512x512) (k0_off52 i v1 v5 v9 v13 (BitVec.ofNat 32 (320 * r.val))) S32x512.size hinb).PackedRows (EltTy.packing .bf16)) ∧
  (∀ (k0_h12 : k0_cond12 i v1 v5 v9 v13 v17 = 1#1), ∀ a, (k0_off53 i v1 v5 v9 v13) a + S288x512.size a ≤ S512x512.size a) ∧
  (∀ (k0_h12 : k0_cond12 i v1 v5 v9 v13 v17 = 1#1), ∀ (hinb : ∀ a, (k0_off53 i v1 v5 v9 v13) a + S288x512.size a ≤ S512x512.size a), (Rect.unit (s := S512x512) (k0_off53 i v1 v5 v9 v13) S288x512.size hinb).PackedRows (EltTy.packing .bf16)) ∧
  (∀ (k0_h13 : k0_cond13 i v1 v5 v9 v13 v17 = 1#1), ∀ a, (k0_off54 i v1 v5 v9 v13) a + S384x2816.size a ≤ S512x2816.size a) ∧
  (∀ (k0_h13 : k0_cond13 i v1 v5 v9 v13 v17 = 1#1), ∀ a, (k0_off55 i v1 v5 v9 v13) a + S384x1.size a ≤ S512x1.size a) ∧
  (∀ (k0_h13 : k0_cond13 i v1 v5 v9 v13 v17 = 1#1), ∀ (r : Fin 2), ∀ a, (k0_off57 i v1 v5 v9 v13 (BitVec.ofNat 32 (352 * r.val))) a + S32x512.size a ≤ S512x512.size a) ∧
  (∀ (k0_h13 : k0_cond13 i v1 v5 v9 v13 v17 = 1#1), ∀ (r : Fin 2), ∀ (hinb : ∀ a, (k0_off57 i v1 v5 v9 v13 (BitVec.ofNat 32 (352 * r.val))) a + S32x512.size a ≤ S512x512.size a), (Rect.unit (s := S512x512) (k0_off57 i v1 v5 v9 v13 (BitVec.ofNat 32 (352 * r.val))) S32x512.size hinb).PackedRows (EltTy.packing .bf16))
def k0_chk2_2 (i : grid0.Coords) (v1 : BitVec 32) (v5 : BitVec 32) (v9 : BitVec 32) (v13 : BitVec 32) (v17 : BitVec 32) : Prop :=
  (∀ (k0_h13 : k0_cond13 i v1 v5 v9 v13 v17 = 1#1), ∀ a, (k0_off58 i v1 v5 v9 v13) a + S320x512.size a ≤ S512x512.size a) ∧
  (∀ (k0_h13 : k0_cond13 i v1 v5 v9 v13 v17 = 1#1), ∀ (hinb : ∀ a, (k0_off58 i v1 v5 v9 v13) a + S320x512.size a ≤ S512x512.size a), (Rect.unit (s := S512x512) (k0_off58 i v1 v5 v9 v13) S320x512.size hinb).PackedRows (EltTy.packing .bf16)) ∧
  (∀ (k0_h14 : k0_cond14 i v1 v5 v9 v13 v17 = 1#1), ∀ a, (k0_off59 i v1 v5 v9 v13) a + S416x2816.size a ≤ S512x2816.size a) ∧
  (∀ (k0_h14 : k0_cond14 i v1 v5 v9 v13 v17 = 1#1), ∀ a, (k0_off60 i v1 v5 v9 v13) a + S416x1.size a ≤ S512x1.size a) ∧
  (∀ (k0_h14 : k0_cond14 i v1 v5 v9 v13 v17 = 1#1), ∀ (r : Fin 2), ∀ a, (k0_off62 i v1 v5 v9 v13 (BitVec.ofNat 32 (384 * r.val))) a + S32x512.size a ≤ S512x512.size a) ∧
  (∀ (k0_h14 : k0_cond14 i v1 v5 v9 v13 v17 = 1#1), ∀ (r : Fin 2), ∀ (hinb : ∀ a, (k0_off62 i v1 v5 v9 v13 (BitVec.ofNat 32 (384 * r.val))) a + S32x512.size a ≤ S512x512.size a), (Rect.unit (s := S512x512) (k0_off62 i v1 v5 v9 v13 (BitVec.ofNat 32 (384 * r.val))) S32x512.size hinb).PackedRows (EltTy.packing .bf16)) ∧
  (∀ (k0_h14 : k0_cond14 i v1 v5 v9 v13 v17 = 1#1), ∀ a, (k0_off63 i v1 v5 v9 v13) a + S352x512.size a ≤ S512x512.size a) ∧
  (∀ (k0_h14 : k0_cond14 i v1 v5 v9 v13 v17 = 1#1), ∀ (hinb : ∀ a, (k0_off63 i v1 v5 v9 v13) a + S352x512.size a ≤ S512x512.size a), (Rect.unit (s := S512x512) (k0_off63 i v1 v5 v9 v13) S352x512.size hinb).PackedRows (EltTy.packing .bf16)) ∧
  (∀ (k0_h15 : k0_cond15 i v1 v5 v9 v13 v17 = 1#1), ∀ a, (k0_off64 i v1 v5 v9 v13) a + S448x2816.size a ≤ S512x2816.size a) ∧
  (∀ (k0_h15 : k0_cond15 i v1 v5 v9 v13 v17 = 1#1), ∀ a, (k0_off65 i v1 v5 v9 v13) a + S448x1.size a ≤ S512x1.size a) ∧
  (∀ (k0_h15 : k0_cond15 i v1 v5 v9 v13 v17 = 1#1), ∀ (r : Fin 2), ∀ a, (k0_off67 i v1 v5 v9 v13 (BitVec.ofNat 32 (416 * r.val))) a + S32x512.size a ≤ S512x512.size a) ∧
  (∀ (k0_h15 : k0_cond15 i v1 v5 v9 v13 v17 = 1#1), ∀ (r : Fin 2), ∀ (hinb : ∀ a, (k0_off67 i v1 v5 v9 v13 (BitVec.ofNat 32 (416 * r.val))) a + S32x512.size a ≤ S512x512.size a), (Rect.unit (s := S512x512) (k0_off67 i v1 v5 v9 v13 (BitVec.ofNat 32 (416 * r.val))) S32x512.size hinb).PackedRows (EltTy.packing .bf16)) ∧
  (∀ (k0_h15 : k0_cond15 i v1 v5 v9 v13 v17 = 1#1), ∀ a, (k0_off68 i v1 v5 v9 v13) a + S384x512.size a ≤ S512x512.size a) ∧
  (∀ (k0_h15 : k0_cond15 i v1 v5 v9 v13 v17 = 1#1), ∀ (hinb : ∀ a, (k0_off68 i v1 v5 v9 v13) a + S384x512.size a ≤ S512x512.size a), (Rect.unit (s := S512x512) (k0_off68 i v1 v5 v9 v13) S384x512.size hinb).PackedRows (EltTy.packing .bf16)) ∧
  (∀ (k0_h16 : k0_cond16 i v1 v5 v9 v13 v17 = 1#1), ∀ a, (k0_off69 i v1 v5 v9 v13) a + S480x2816.size a ≤ S512x2816.size a) ∧
  (∀ (k0_h16 : k0_cond16 i v1 v5 v9 v13 v17 = 1#1), ∀ a, (k0_off70 i v1 v5 v9 v13) a + S480x1.size a ≤ S512x1.size a) ∧
  (∀ (k0_h16 : k0_cond16 i v1 v5 v9 v13 v17 = 1#1), ∀ (r : Fin 2), ∀ a, (k0_off72 i v1 v5 v9 v13 (BitVec.ofNat 32 (448 * r.val))) a + S32x512.size a ≤ S512x512.size a) ∧
  (∀ (k0_h16 : k0_cond16 i v1 v5 v9 v13 v17 = 1#1), ∀ (r : Fin 2), ∀ (hinb : ∀ a, (k0_off72 i v1 v5 v9 v13 (BitVec.ofNat 32 (448 * r.val))) a + S32x512.size a ≤ S512x512.size a), (Rect.unit (s := S512x512) (k0_off72 i v1 v5 v9 v13 (BitVec.ofNat 32 (448 * r.val))) S32x512.size hinb).PackedRows (EltTy.packing .bf16)) ∧
  (∀ (k0_h16 : k0_cond16 i v1 v5 v9 v13 v17 = 1#1), ∀ a, (k0_off73 i v1 v5 v9 v13) a + S416x512.size a ≤ S512x512.size a) ∧
  (∀ (k0_h16 : k0_cond16 i v1 v5 v9 v13 v17 = 1#1), ∀ (hinb : ∀ a, (k0_off73 i v1 v5 v9 v13) a + S416x512.size a ≤ S512x512.size a), (Rect.unit (s := S512x512) (k0_off73 i v1 v5 v9 v13) S416x512.size hinb).PackedRows (EltTy.packing .bf16)) ∧
  (∀ (k0_h17 : k0_cond17 i v1 v5 v9 v13 v17 = 1#1), ∀ a, (k0_off74 i v1 v5 v9 v13) a + S512x2816.size a ≤ S512x2816.size a) ∧
  (∀ (k0_h17 : k0_cond17 i v1 v5 v9 v13 v17 = 1#1), ∀ a, (k0_off75 i v1 v5 v9 v13) a + S512x1.size a ≤ S512x1.size a) ∧
  (∀ (k0_h17 : k0_cond17 i v1 v5 v9 v13 v17 = 1#1), ∀ (r : Fin 2), ∀ a, (k0_off77 i v1 v5 v9 v13 (BitVec.ofNat 32 (480 * r.val))) a + S32x512.size a ≤ S512x512.size a) ∧
  (∀ (k0_h17 : k0_cond17 i v1 v5 v9 v13 v17 = 1#1), ∀ (r : Fin 2), ∀ (hinb : ∀ a, (k0_off77 i v1 v5 v9 v13 (BitVec.ofNat 32 (480 * r.val))) a + S32x512.size a ≤ S512x512.size a), (Rect.unit (s := S512x512) (k0_off77 i v1 v5 v9 v13 (BitVec.ofNat 32 (480 * r.val))) S32x512.size hinb).PackedRows (EltTy.packing .bf16)) ∧
  (∀ (k0_h17 : k0_cond17 i v1 v5 v9 v13 v17 = 1#1), ∀ a, (k0_off78 i v1 v5 v9 v13) a + S448x512.size a ≤ S512x512.size a) ∧
  (∀ (k0_h17 : k0_cond17 i v1 v5 v9 v13 v17 = 1#1), ∀ (hinb : ∀ a, (k0_off78 i v1 v5 v9 v13) a + S448x512.size a ≤ S512x512.size a), (Rect.unit (s := S512x512) (k0_off78 i v1 v5 v9 v13) S448x512.size hinb).PackedRows (EltTy.packing .bf16))
def k0_chk2 (i : grid0.Coords) (v1 : BitVec 32) (v5 : BitVec 32) (v9 : BitVec 32) (v13 : BitVec 32) (v17 : BitVec 32) : Prop :=
  k0_chk2_0 i v1 v5 v9 v13 v17 ∧
  k0_chk2_1 i v1 v5 v9 v13 v17 ∧
  k0_chk2_2 i v1 v5 v9 v13 v17
theorem k0_off2_inb : ∀ (i : grid0.Coords) (v1 : BitVec 32) (v5 : BitVec 32) (v9 : BitVec 32) (v13 : BitVec 32) (v17 : BitVec 32) (k0_hw2 : k0_chk2 i v1 v5 v9 v13 v17), ∀ (k0_h2 : k0_cond2 i v1 v5 v9 v13 v17 = 1#1), ∀ a, (k0_off2 i v1 v5 v9 v13) a + S32x2816.size a ≤ S512x2816.size a := fun i v1 v5 v9 v13 v17 k0_hw2 k0_h2 => k0_hw2.1.1 k0_h2
theorem k0_off3_inb : ∀ (i : grid0.Coords) (v1 : BitVec 32) (v5 : BitVec 32) (v9 : BitVec 32) (v13 : BitVec 32) (v17 : BitVec 32) (k0_hw2 : k0_chk2 i v1 v5 v9 v13 v17), ∀ (k0_h2 : k0_cond2 i v1 v5 v9 v13 v17 = 1#1), ∀ a, (k0_off3 i v1 v5 v9 v13) a + S32x1.size a ≤ S512x1.size a := fun i v1 v5 v9 v13 v17 k0_hw2 k0_h2 => k0_hw2.1.2.1 k0_h2
theorem k0_off5_inb : ∀ (i : grid0.Coords) (v1 : BitVec 32) (v5 : BitVec 32) (v9 : BitVec 32) (v13 : BitVec 32) (v17 : BitVec 32) (k0_hw2 : k0_chk2 i v1 v5 v9 v13 v17), ∀ (k0_h2 : k0_cond2 i v1 v5 v9 v13 v17 = 1#1), ∀ a, (k0_off5 i v1 v5 v9 v13) a + S32x512.size a ≤ S512x512.size a := fun i v1 v5 v9 v13 v17 k0_hw2 k0_h2 => k0_hw2.1.2.2.1 k0_h2
theorem k0_off5_packedbf16 : ∀ (i : grid0.Coords) (v1 : BitVec 32) (v5 : BitVec 32) (v9 : BitVec 32) (v13 : BitVec 32) (v17 : BitVec 32) (k0_hw2 : k0_chk2 i v1 v5 v9 v13 v17), ∀ (k0_h2 : k0_cond2 i v1 v5 v9 v13 v17 = 1#1), (Rect.unit (s := S512x512) (k0_off5 i v1 v5 v9 v13) S32x512.size (k0_off5_inb i v1 v5 v9 v13 v17 k0_hw2 k0_h2)).PackedRows (EltTy.packing .bf16) := fun i v1 v5 v9 v13 v17 k0_hw2 k0_h2 => k0_hw2.1.2.2.2.1 k0_h2 (k0_off5_inb i v1 v5 v9 v13 v17 k0_hw2 k0_h2)
theorem k0_off6_inb : ∀ (i : grid0.Coords) (v1 : BitVec 32) (v5 : BitVec 32) (v9 : BitVec 32) (v13 : BitVec 32) (v17 : BitVec 32) (k0_hw2 : k0_chk2 i v1 v5 v9 v13 v17), ∀ (k0_h3 : k0_cond3 i v1 v5 v9 v13 v17 = 1#1), ∀ a, (k0_off6 i v1 v5 v9 v13) a + S64x2816.size a ≤ S512x2816.size a := fun i v1 v5 v9 v13 v17 k0_hw2 k0_h3 => k0_hw2.1.2.2.2.2.1 k0_h3
theorem k0_off7_inb : ∀ (i : grid0.Coords) (v1 : BitVec 32) (v5 : BitVec 32) (v9 : BitVec 32) (v13 : BitVec 32) (v17 : BitVec 32) (k0_hw2 : k0_chk2 i v1 v5 v9 v13 v17), ∀ (k0_h3 : k0_cond3 i v1 v5 v9 v13 v17 = 1#1), ∀ a, (k0_off7 i v1 v5 v9 v13) a + S64x1.size a ≤ S512x1.size a := fun i v1 v5 v9 v13 v17 k0_hw2 k0_h3 => k0_hw2.1.2.2.2.2.2.1 k0_h3
theorem k0_off9_inb : ∀ (i : grid0.Coords) (v1 : BitVec 32) (v5 : BitVec 32) (v9 : BitVec 32) (v13 : BitVec 32) (v17 : BitVec 32) (k0_hw2 : k0_chk2 i v1 v5 v9 v13 v17), ∀ (k0_h3 : k0_cond3 i v1 v5 v9 v13 v17 = 1#1), ∀ (r : Fin 2), ∀ a, (k0_off9 i v1 v5 v9 v13 (BitVec.ofNat 32 (32 * r.val))) a + S32x512.size a ≤ S512x512.size a := fun i v1 v5 v9 v13 v17 k0_hw2 k0_h3 r => k0_hw2.1.2.2.2.2.2.2.1 k0_h3 r
theorem k0_off9_packedbf16 : ∀ (i : grid0.Coords) (v1 : BitVec 32) (v5 : BitVec 32) (v9 : BitVec 32) (v13 : BitVec 32) (v17 : BitVec 32) (k0_hw2 : k0_chk2 i v1 v5 v9 v13 v17), ∀ (k0_h3 : k0_cond3 i v1 v5 v9 v13 v17 = 1#1), ∀ (r : Fin 2), (Rect.unit (s := S512x512) (k0_off9 i v1 v5 v9 v13 (BitVec.ofNat 32 (32 * r.val))) S32x512.size (k0_off9_inb i v1 v5 v9 v13 v17 k0_hw2 k0_h3 r)).PackedRows (EltTy.packing .bf16) := fun i v1 v5 v9 v13 v17 k0_hw2 k0_h3 r => k0_hw2.1.2.2.2.2.2.2.2.1 k0_h3 r (k0_off9_inb i v1 v5 v9 v13 v17 k0_hw2 k0_h3 r)
theorem k0_off10_inb : ∀ (i : grid0.Coords) (v1 : BitVec 32) (v5 : BitVec 32) (v9 : BitVec 32) (v13 : BitVec 32) (v17 : BitVec 32) (k0_hw2 : k0_chk2 i v1 v5 v9 v13 v17), ∀ (k0_h4 : k0_cond4 i v1 v5 v9 v13 v17 = 1#1), ∀ a, (k0_off10 i v1 v5 v9 v13) a + S96x2816.size a ≤ S512x2816.size a := fun i v1 v5 v9 v13 v17 k0_hw2 k0_h4 => k0_hw2.1.2.2.2.2.2.2.2.2.1 k0_h4
theorem k0_off11_inb : ∀ (i : grid0.Coords) (v1 : BitVec 32) (v5 : BitVec 32) (v9 : BitVec 32) (v13 : BitVec 32) (v17 : BitVec 32) (k0_hw2 : k0_chk2 i v1 v5 v9 v13 v17), ∀ (k0_h4 : k0_cond4 i v1 v5 v9 v13 v17 = 1#1), ∀ a, (k0_off11 i v1 v5 v9 v13) a + S96x1.size a ≤ S512x1.size a := fun i v1 v5 v9 v13 v17 k0_hw2 k0_h4 => k0_hw2.1.2.2.2.2.2.2.2.2.2.1 k0_h4
theorem k0_off13_inb : ∀ (i : grid0.Coords) (v1 : BitVec 32) (v5 : BitVec 32) (v9 : BitVec 32) (v13 : BitVec 32) (v17 : BitVec 32) (k0_hw2 : k0_chk2 i v1 v5 v9 v13 v17), ∀ (k0_h4 : k0_cond4 i v1 v5 v9 v13 v17 = 1#1), ∀ (r : Fin 3), ∀ a, (k0_off13 i v1 v5 v9 v13 (BitVec.ofNat 32 (32 * r.val))) a + S32x512.size a ≤ S512x512.size a := fun i v1 v5 v9 v13 v17 k0_hw2 k0_h4 r => k0_hw2.1.2.2.2.2.2.2.2.2.2.2.1 k0_h4 r
theorem k0_off13_packedbf16 : ∀ (i : grid0.Coords) (v1 : BitVec 32) (v5 : BitVec 32) (v9 : BitVec 32) (v13 : BitVec 32) (v17 : BitVec 32) (k0_hw2 : k0_chk2 i v1 v5 v9 v13 v17), ∀ (k0_h4 : k0_cond4 i v1 v5 v9 v13 v17 = 1#1), ∀ (r : Fin 3), (Rect.unit (s := S512x512) (k0_off13 i v1 v5 v9 v13 (BitVec.ofNat 32 (32 * r.val))) S32x512.size (k0_off13_inb i v1 v5 v9 v13 v17 k0_hw2 k0_h4 r)).PackedRows (EltTy.packing .bf16) := fun i v1 v5 v9 v13 v17 k0_hw2 k0_h4 r => k0_hw2.1.2.2.2.2.2.2.2.2.2.2.2.1 k0_h4 r (k0_off13_inb i v1 v5 v9 v13 v17 k0_hw2 k0_h4 r)
theorem k0_off14_inb : ∀ (i : grid0.Coords) (v1 : BitVec 32) (v5 : BitVec 32) (v9 : BitVec 32) (v13 : BitVec 32) (v17 : BitVec 32) (k0_hw2 : k0_chk2 i v1 v5 v9 v13 v17), ∀ (k0_h5 : k0_cond5 i v1 v5 v9 v13 v17 = 1#1), ∀ a, (k0_off14 i v1 v5 v9 v13) a + S128x2816.size a ≤ S512x2816.size a := fun i v1 v5 v9 v13 v17 k0_hw2 k0_h5 => k0_hw2.1.2.2.2.2.2.2.2.2.2.2.2.2.1 k0_h5
theorem k0_off15_inb : ∀ (i : grid0.Coords) (v1 : BitVec 32) (v5 : BitVec 32) (v9 : BitVec 32) (v13 : BitVec 32) (v17 : BitVec 32) (k0_hw2 : k0_chk2 i v1 v5 v9 v13 v17), ∀ (k0_h5 : k0_cond5 i v1 v5 v9 v13 v17 = 1#1), ∀ a, (k0_off15 i v1 v5 v9 v13) a + S128x1.size a ≤ S512x1.size a := fun i v1 v5 v9 v13 v17 k0_hw2 k0_h5 => k0_hw2.1.2.2.2.2.2.2.2.2.2.2.2.2.2.1 k0_h5
theorem k0_off17_inb : ∀ (i : grid0.Coords) (v1 : BitVec 32) (v5 : BitVec 32) (v9 : BitVec 32) (v13 : BitVec 32) (v17 : BitVec 32) (k0_hw2 : k0_chk2 i v1 v5 v9 v13 v17), ∀ (k0_h5 : k0_cond5 i v1 v5 v9 v13 v17 = 1#1), ∀ (r : Fin 2), ∀ a, (k0_off17 i v1 v5 v9 v13 (BitVec.ofNat 32 (96 * r.val))) a + S32x512.size a ≤ S512x512.size a := fun i v1 v5 v9 v13 v17 k0_hw2 k0_h5 r => k0_hw2.1.2.2.2.2.2.2.2.2.2.2.2.2.2.2.1 k0_h5 r
theorem k0_off17_packedbf16 : ∀ (i : grid0.Coords) (v1 : BitVec 32) (v5 : BitVec 32) (v9 : BitVec 32) (v13 : BitVec 32) (v17 : BitVec 32) (k0_hw2 : k0_chk2 i v1 v5 v9 v13 v17), ∀ (k0_h5 : k0_cond5 i v1 v5 v9 v13 v17 = 1#1), ∀ (r : Fin 2), (Rect.unit (s := S512x512) (k0_off17 i v1 v5 v9 v13 (BitVec.ofNat 32 (96 * r.val))) S32x512.size (k0_off17_inb i v1 v5 v9 v13 v17 k0_hw2 k0_h5 r)).PackedRows (EltTy.packing .bf16) := fun i v1 v5 v9 v13 v17 k0_hw2 k0_h5 r => k0_hw2.1.2.2.2.2.2.2.2.2.2.2.2.2.2.2.2.1 k0_h5 r (k0_off17_inb i v1 v5 v9 v13 v17 k0_hw2 k0_h5 r)
theorem k0_off18_inb : ∀ (i : grid0.Coords) (v1 : BitVec 32) (v5 : BitVec 32) (v9 : BitVec 32) (v13 : BitVec 32) (v17 : BitVec 32) (k0_hw2 : k0_chk2 i v1 v5 v9 v13 v17), ∀ (k0_h5 : k0_cond5 i v1 v5 v9 v13 v17 = 1#1), ∀ a, (k0_off18 i v1 v5 v9 v13) a + S64x512.size a ≤ S512x512.size a := fun i v1 v5 v9 v13 v17 k0_hw2 k0_h5 => k0_hw2.1.2.2.2.2.2.2.2.2.2.2.2.2.2.2.2.2.1 k0_h5
theorem k0_off18_packedbf16 : ∀ (i : grid0.Coords) (v1 : BitVec 32) (v5 : BitVec 32) (v9 : BitVec 32) (v13 : BitVec 32) (v17 : BitVec 32) (k0_hw2 : k0_chk2 i v1 v5 v9 v13 v17), ∀ (k0_h5 : k0_cond5 i v1 v5 v9 v13 v17 = 1#1), (Rect.unit (s := S512x512) (k0_off18 i v1 v5 v9 v13) S64x512.size (k0_off18_inb i v1 v5 v9 v13 v17 k0_hw2 k0_h5)).PackedRows (EltTy.packing .bf16) := fun i v1 v5 v9 v13 v17 k0_hw2 k0_h5 => k0_hw2.1.2.2.2.2.2.2.2.2.2.2.2.2.2.2.2.2.2.1 k0_h5 (k0_off18_inb i v1 v5 v9 v13 v17 k0_hw2 k0_h5)
theorem k0_off19_inb : ∀ (i : grid0.Coords) (v1 : BitVec 32) (v5 : BitVec 32) (v9 : BitVec 32) (v13 : BitVec 32) (v17 : BitVec 32) (k0_hw2 : k0_chk2 i v1 v5 v9 v13 v17), ∀ (k0_h6 : k0_cond6 i v1 v5 v9 v13 v17 = 1#1), ∀ a, (k0_off19 i v1 v5 v9 v13) a + S160x2816.size a ≤ S512x2816.size a := fun i v1 v5 v9 v13 v17 k0_hw2 k0_h6 => k0_hw2.1.2.2.2.2.2.2.2.2.2.2.2.2.2.2.2.2.2.2.1 k0_h6
theorem k0_off20_inb : ∀ (i : grid0.Coords) (v1 : BitVec 32) (v5 : BitVec 32) (v9 : BitVec 32) (v13 : BitVec 32) (v17 : BitVec 32) (k0_hw2 : k0_chk2 i v1 v5 v9 v13 v17), ∀ (k0_h6 : k0_cond6 i v1 v5 v9 v13 v17 = 1#1), ∀ a, (k0_off20 i v1 v5 v9 v13) a + S160x1.size a ≤ S512x1.size a := fun i v1 v5 v9 v13 v17 k0_hw2 k0_h6 => k0_hw2.1.2.2.2.2.2.2.2.2.2.2.2.2.2.2.2.2.2.2.2.1 k0_h6
theorem k0_off22_inb : ∀ (i : grid0.Coords) (v1 : BitVec 32) (v5 : BitVec 32) (v9 : BitVec 32) (v13 : BitVec 32) (v17 : BitVec 32) (k0_hw2 : k0_chk2 i v1 v5 v9 v13 v17), ∀ (k0_h6 : k0_cond6 i v1 v5 v9 v13 v17 = 1#1), ∀ (r : Fin 2), ∀ a, (k0_off22 i v1 v5 v9 v13 (BitVec.ofNat 32 (128 * r.val))) a + S32x512.size a ≤ S512x512.size a := fun i v1 v5 v9 v13 v17 k0_hw2 k0_h6 r => k0_hw2.1.2.2.2.2.2.2.2.2.2.2.2.2.2.2.2.2.2.2.2.2.1 k0_h6 r
theorem k0_off22_packedbf16 : ∀ (i : grid0.Coords) (v1 : BitVec 32) (v5 : BitVec 32) (v9 : BitVec 32) (v13 : BitVec 32) (v17 : BitVec 32) (k0_hw2 : k0_chk2 i v1 v5 v9 v13 v17), ∀ (k0_h6 : k0_cond6 i v1 v5 v9 v13 v17 = 1#1), ∀ (r : Fin 2), (Rect.unit (s := S512x512) (k0_off22 i v1 v5 v9 v13 (BitVec.ofNat 32 (128 * r.val))) S32x512.size (k0_off22_inb i v1 v5 v9 v13 v17 k0_hw2 k0_h6 r)).PackedRows (EltTy.packing .bf16) := fun i v1 v5 v9 v13 v17 k0_hw2 k0_h6 r => k0_hw2.1.2.2.2.2.2.2.2.2.2.2.2.2.2.2.2.2.2.2.2.2.2.1 k0_h6 r (k0_off22_inb i v1 v5 v9 v13 v17 k0_hw2 k0_h6 r)
theorem k0_off23_inb : ∀ (i : grid0.Coords) (v1 : BitVec 32) (v5 : BitVec 32) (v9 : BitVec 32) (v13 : BitVec 32) (v17 : BitVec 32) (k0_hw2 : k0_chk2 i v1 v5 v9 v13 v17), ∀ (k0_h6 : k0_cond6 i v1 v5 v9 v13 v17 = 1#1), ∀ a, (k0_off23 i v1 v5 v9 v13) a + S96x512.size a ≤ S512x512.size a := fun i v1 v5 v9 v13 v17 k0_hw2 k0_h6 => k0_hw2.1.2.2.2.2.2.2.2.2.2.2.2.2.2.2.2.2.2.2.2.2.2.2.1 k0_h6
theorem k0_off23_packedbf16 : ∀ (i : grid0.Coords) (v1 : BitVec 32) (v5 : BitVec 32) (v9 : BitVec 32) (v13 : BitVec 32) (v17 : BitVec 32) (k0_hw2 : k0_chk2 i v1 v5 v9 v13 v17), ∀ (k0_h6 : k0_cond6 i v1 v5 v9 v13 v17 = 1#1), (Rect.unit (s := S512x512) (k0_off23 i v1 v5 v9 v13) S96x512.size (k0_off23_inb i v1 v5 v9 v13 v17 k0_hw2 k0_h6)).PackedRows (EltTy.packing .bf16) := fun i v1 v5 v9 v13 v17 k0_hw2 k0_h6 => k0_hw2.1.2.2.2.2.2.2.2.2.2.2.2.2.2.2.2.2.2.2.2.2.2.2.2.1 k0_h6 (k0_off23_inb i v1 v5 v9 v13 v17 k0_hw2 k0_h6)
theorem k0_off24_inb : ∀ (i : grid0.Coords) (v1 : BitVec 32) (v5 : BitVec 32) (v9 : BitVec 32) (v13 : BitVec 32) (v17 : BitVec 32) (k0_hw2 : k0_chk2 i v1 v5 v9 v13 v17), ∀ (k0_h7 : k0_cond7 i v1 v5 v9 v13 v17 = 1#1), ∀ a, (k0_off24 i v1 v5 v9 v13) a + S192x2816.size a ≤ S512x2816.size a := fun i v1 v5 v9 v13 v17 k0_hw2 k0_h7 => k0_hw2.1.2.2.2.2.2.2.2.2.2.2.2.2.2.2.2.2.2.2.2.2.2.2.2.2.1 k0_h7
theorem k0_off25_inb : ∀ (i : grid0.Coords) (v1 : BitVec 32) (v5 : BitVec 32) (v9 : BitVec 32) (v13 : BitVec 32) (v17 : BitVec 32) (k0_hw2 : k0_chk2 i v1 v5 v9 v13 v17), ∀ (k0_h7 : k0_cond7 i v1 v5 v9 v13 v17 = 1#1), ∀ a, (k0_off25 i v1 v5 v9 v13) a + S192x1.size a ≤ S512x1.size a := fun i v1 v5 v9 v13 v17 k0_hw2 k0_h7 => k0_hw2.1.2.2.2.2.2.2.2.2.2.2.2.2.2.2.2.2.2.2.2.2.2.2.2.2.2.1 k0_h7
theorem k0_off27_inb : ∀ (i : grid0.Coords) (v1 : BitVec 32) (v5 : BitVec 32) (v9 : BitVec 32) (v13 : BitVec 32) (v17 : BitVec 32) (k0_hw2 : k0_chk2 i v1 v5 v9 v13 v17), ∀ (k0_h7 : k0_cond7 i v1 v5 v9 v13 v17 = 1#1), ∀ (r : Fin 2), ∀ a, (k0_off27 i v1 v5 v9 v13 (BitVec.ofNat 32 (160 * r.val))) a + S32x512.size a ≤ S512x512.size a := fun i v1 v5 v9 v13 v17 k0_hw2 k0_h7 r => k0_hw2.1.2.2.2.2.2.2.2.2.2.2.2.2.2.2.2.2.2.2.2.2.2.2.2.2.2.2.1 k0_h7 r
theorem k0_off27_packedbf16 : ∀ (i : grid0.Coords) (v1 : BitVec 32) (v5 : BitVec 32) (v9 : BitVec 32) (v13 : BitVec 32) (v17 : BitVec 32) (k0_hw2 : k0_chk2 i v1 v5 v9 v13 v17), ∀ (k0_h7 : k0_cond7 i v1 v5 v9 v13 v17 = 1#1), ∀ (r : Fin 2), (Rect.unit (s := S512x512) (k0_off27 i v1 v5 v9 v13 (BitVec.ofNat 32 (160 * r.val))) S32x512.size (k0_off27_inb i v1 v5 v9 v13 v17 k0_hw2 k0_h7 r)).PackedRows (EltTy.packing .bf16) := fun i v1 v5 v9 v13 v17 k0_hw2 k0_h7 r => k0_hw2.1.2.2.2.2.2.2.2.2.2.2.2.2.2.2.2.2.2.2.2.2.2.2.2.2.2.2.2.1 k0_h7 r (k0_off27_inb i v1 v5 v9 v13 v17 k0_hw2 k0_h7 r)
theorem k0_off28_inb : ∀ (i : grid0.Coords) (v1 : BitVec 32) (v5 : BitVec 32) (v9 : BitVec 32) (v13 : BitVec 32) (v17 : BitVec 32) (k0_hw2 : k0_chk2 i v1 v5 v9 v13 v17), ∀ (k0_h7 : k0_cond7 i v1 v5 v9 v13 v17 = 1#1), ∀ a, (k0_off28 i v1 v5 v9 v13) a + S128x512.size a ≤ S512x512.size a := fun i v1 v5 v9 v13 v17 k0_hw2 k0_h7 => k0_hw2.1.2.2.2.2.2.2.2.2.2.2.2.2.2.2.2.2.2.2.2.2.2.2.2.2.2.2.2.2.1 k0_h7
theorem k0_off28_packedbf16 : ∀ (i : grid0.Coords) (v1 : BitVec 32) (v5 : BitVec 32) (v9 : BitVec 32) (v13 : BitVec 32) (v17 : BitVec 32) (k0_hw2 : k0_chk2 i v1 v5 v9 v13 v17), ∀ (k0_h7 : k0_cond7 i v1 v5 v9 v13 v17 = 1#1), (Rect.unit (s := S512x512) (k0_off28 i v1 v5 v9 v13) S128x512.size (k0_off28_inb i v1 v5 v9 v13 v17 k0_hw2 k0_h7)).PackedRows (EltTy.packing .bf16) := fun i v1 v5 v9 v13 v17 k0_hw2 k0_h7 => k0_hw2.1.2.2.2.2.2.2.2.2.2.2.2.2.2.2.2.2.2.2.2.2.2.2.2.2.2.2.2.2.2.1 k0_h7 (k0_off28_inb i v1 v5 v9 v13 v17 k0_hw2 k0_h7)
theorem k0_off29_inb : ∀ (i : grid0.Coords) (v1 : BitVec 32) (v5 : BitVec 32) (v9 : BitVec 32) (v13 : BitVec 32) (v17 : BitVec 32) (k0_hw2 : k0_chk2 i v1 v5 v9 v13 v17), ∀ (k0_h8 : k0_cond8 i v1 v5 v9 v13 v17 = 1#1), ∀ a, (k0_off29 i v1 v5 v9 v13) a + S224x2816.size a ≤ S512x2816.size a := fun i v1 v5 v9 v13 v17 k0_hw2 k0_h8 => k0_hw2.1.2.2.2.2.2.2.2.2.2.2.2.2.2.2.2.2.2.2.2.2.2.2.2.2.2.2.2.2.2.2.1 k0_h8
theorem k0_off30_inb : ∀ (i : grid0.Coords) (v1 : BitVec 32) (v5 : BitVec 32) (v9 : BitVec 32) (v13 : BitVec 32) (v17 : BitVec 32) (k0_hw2 : k0_chk2 i v1 v5 v9 v13 v17), ∀ (k0_h8 : k0_cond8 i v1 v5 v9 v13 v17 = 1#1), ∀ a, (k0_off30 i v1 v5 v9 v13) a + S224x1.size a ≤ S512x1.size a := fun i v1 v5 v9 v13 v17 k0_hw2 k0_h8 => k0_hw2.1.2.2.2.2.2.2.2.2.2.2.2.2.2.2.2.2.2.2.2.2.2.2.2.2.2.2.2.2.2.2.2 k0_h8
theorem k0_off32_inb : ∀ (i : grid0.Coords) (v1 : BitVec 32) (v5 : BitVec 32) (v9 : BitVec 32) (v13 : BitVec 32) (v17 : BitVec 32) (k0_hw2 : k0_chk2 i v1 v5 v9 v13 v17), ∀ (k0_h8 : k0_cond8 i v1 v5 v9 v13 v17 = 1#1), ∀ (r : Fin 2), ∀ a, (k0_off32 i v1 v5 v9 v13 (BitVec.ofNat 32 (192 * r.val))) a + S32x512.size a ≤ S512x512.size a := fun i v1 v5 v9 v13 v17 k0_hw2 k0_h8 r => k0_hw2.2.1.1 k0_h8 r
theorem k0_off32_packedbf16 : ∀ (i : grid0.Coords) (v1 : BitVec 32) (v5 : BitVec 32) (v9 : BitVec 32) (v13 : BitVec 32) (v17 : BitVec 32) (k0_hw2 : k0_chk2 i v1 v5 v9 v13 v17), ∀ (k0_h8 : k0_cond8 i v1 v5 v9 v13 v17 = 1#1), ∀ (r : Fin 2), (Rect.unit (s := S512x512) (k0_off32 i v1 v5 v9 v13 (BitVec.ofNat 32 (192 * r.val))) S32x512.size (k0_off32_inb i v1 v5 v9 v13 v17 k0_hw2 k0_h8 r)).PackedRows (EltTy.packing .bf16) := fun i v1 v5 v9 v13 v17 k0_hw2 k0_h8 r => k0_hw2.2.1.2.1 k0_h8 r (k0_off32_inb i v1 v5 v9 v13 v17 k0_hw2 k0_h8 r)
theorem k0_off33_inb : ∀ (i : grid0.Coords) (v1 : BitVec 32) (v5 : BitVec 32) (v9 : BitVec 32) (v13 : BitVec 32) (v17 : BitVec 32) (k0_hw2 : k0_chk2 i v1 v5 v9 v13 v17), ∀ (k0_h8 : k0_cond8 i v1 v5 v9 v13 v17 = 1#1), ∀ a, (k0_off33 i v1 v5 v9 v13) a + S160x512.size a ≤ S512x512.size a := fun i v1 v5 v9 v13 v17 k0_hw2 k0_h8 => k0_hw2.2.1.2.2.1 k0_h8
theorem k0_off33_packedbf16 : ∀ (i : grid0.Coords) (v1 : BitVec 32) (v5 : BitVec 32) (v9 : BitVec 32) (v13 : BitVec 32) (v17 : BitVec 32) (k0_hw2 : k0_chk2 i v1 v5 v9 v13 v17), ∀ (k0_h8 : k0_cond8 i v1 v5 v9 v13 v17 = 1#1), (Rect.unit (s := S512x512) (k0_off33 i v1 v5 v9 v13) S160x512.size (k0_off33_inb i v1 v5 v9 v13 v17 k0_hw2 k0_h8)).PackedRows (EltTy.packing .bf16) := fun i v1 v5 v9 v13 v17 k0_hw2 k0_h8 => k0_hw2.2.1.2.2.2.1 k0_h8 (k0_off33_inb i v1 v5 v9 v13 v17 k0_hw2 k0_h8)
theorem k0_off34_inb : ∀ (i : grid0.Coords) (v1 : BitVec 32) (v5 : BitVec 32) (v9 : BitVec 32) (v13 : BitVec 32) (v17 : BitVec 32) (k0_hw2 : k0_chk2 i v1 v5 v9 v13 v17), ∀ (k0_h9 : k0_cond9 i v1 v5 v9 v13 v17 = 1#1), ∀ a, (k0_off34 i v1 v5 v9 v13) a + S256x2816.size a ≤ S512x2816.size a := fun i v1 v5 v9 v13 v17 k0_hw2 k0_h9 => k0_hw2.2.1.2.2.2.2.1 k0_h9
theorem k0_off35_inb : ∀ (i : grid0.Coords) (v1 : BitVec 32) (v5 : BitVec 32) (v9 : BitVec 32) (v13 : BitVec 32) (v17 : BitVec 32) (k0_hw2 : k0_chk2 i v1 v5 v9 v13 v17), ∀ (k0_h9 : k0_cond9 i v1 v5 v9 v13 v17 = 1#1), ∀ a, (k0_off35 i v1 v5 v9 v13) a + S256x1.size a ≤ S512x1.size a := fun i v1 v5 v9 v13 v17 k0_hw2 k0_h9 => k0_hw2.2.1.2.2.2.2.2.1 k0_h9
theorem k0_off37_inb : ∀ (i : grid0.Coords) (v1 : BitVec 32) (v5 : BitVec 32) (v9 : BitVec 32) (v13 : BitVec 32) (v17 : BitVec 32) (k0_hw2 : k0_chk2 i v1 v5 v9 v13 v17), ∀ (k0_h9 : k0_cond9 i v1 v5 v9 v13 v17 = 1#1), ∀ (r : Fin 2), ∀ a, (k0_off37 i v1 v5 v9 v13 (BitVec.ofNat 32 (224 * r.val))) a + S32x512.size a ≤ S512x512.size a := fun i v1 v5 v9 v13 v17 k0_hw2 k0_h9 r => k0_hw2.2.1.2.2.2.2.2.2.1 k0_h9 r
theorem k0_off37_packedbf16 : ∀ (i : grid0.Coords) (v1 : BitVec 32) (v5 : BitVec 32) (v9 : BitVec 32) (v13 : BitVec 32) (v17 : BitVec 32) (k0_hw2 : k0_chk2 i v1 v5 v9 v13 v17), ∀ (k0_h9 : k0_cond9 i v1 v5 v9 v13 v17 = 1#1), ∀ (r : Fin 2), (Rect.unit (s := S512x512) (k0_off37 i v1 v5 v9 v13 (BitVec.ofNat 32 (224 * r.val))) S32x512.size (k0_off37_inb i v1 v5 v9 v13 v17 k0_hw2 k0_h9 r)).PackedRows (EltTy.packing .bf16) := fun i v1 v5 v9 v13 v17 k0_hw2 k0_h9 r => k0_hw2.2.1.2.2.2.2.2.2.2.1 k0_h9 r (k0_off37_inb i v1 v5 v9 v13 v17 k0_hw2 k0_h9 r)
theorem k0_off38_inb : ∀ (i : grid0.Coords) (v1 : BitVec 32) (v5 : BitVec 32) (v9 : BitVec 32) (v13 : BitVec 32) (v17 : BitVec 32) (k0_hw2 : k0_chk2 i v1 v5 v9 v13 v17), ∀ (k0_h9 : k0_cond9 i v1 v5 v9 v13 v17 = 1#1), ∀ a, (k0_off38 i v1 v5 v9 v13) a + S192x512.size a ≤ S512x512.size a := fun i v1 v5 v9 v13 v17 k0_hw2 k0_h9 => k0_hw2.2.1.2.2.2.2.2.2.2.2.1 k0_h9
theorem k0_off38_packedbf16 : ∀ (i : grid0.Coords) (v1 : BitVec 32) (v5 : BitVec 32) (v9 : BitVec 32) (v13 : BitVec 32) (v17 : BitVec 32) (k0_hw2 : k0_chk2 i v1 v5 v9 v13 v17), ∀ (k0_h9 : k0_cond9 i v1 v5 v9 v13 v17 = 1#1), (Rect.unit (s := S512x512) (k0_off38 i v1 v5 v9 v13) S192x512.size (k0_off38_inb i v1 v5 v9 v13 v17 k0_hw2 k0_h9)).PackedRows (EltTy.packing .bf16) := fun i v1 v5 v9 v13 v17 k0_hw2 k0_h9 => k0_hw2.2.1.2.2.2.2.2.2.2.2.2.1 k0_h9 (k0_off38_inb i v1 v5 v9 v13 v17 k0_hw2 k0_h9)
theorem k0_off39_inb : ∀ (i : grid0.Coords) (v1 : BitVec 32) (v5 : BitVec 32) (v9 : BitVec 32) (v13 : BitVec 32) (v17 : BitVec 32) (k0_hw2 : k0_chk2 i v1 v5 v9 v13 v17), ∀ (k0_h10 : k0_cond10 i v1 v5 v9 v13 v17 = 1#1), ∀ a, (k0_off39 i v1 v5 v9 v13) a + S288x2816.size a ≤ S512x2816.size a := fun i v1 v5 v9 v13 v17 k0_hw2 k0_h10 => k0_hw2.2.1.2.2.2.2.2.2.2.2.2.2.1 k0_h10
theorem k0_off40_inb : ∀ (i : grid0.Coords) (v1 : BitVec 32) (v5 : BitVec 32) (v9 : BitVec 32) (v13 : BitVec 32) (v17 : BitVec 32) (k0_hw2 : k0_chk2 i v1 v5 v9 v13 v17), ∀ (k0_h10 : k0_cond10 i v1 v5 v9 v13 v17 = 1#1), ∀ a, (k0_off40 i v1 v5 v9 v13) a + S288x1.size a ≤ S512x1.size a := fun i v1 v5 v9 v13 v17 k0_hw2 k0_h10 => k0_hw2.2.1.2.2.2.2.2.2.2.2.2.2.2.1 k0_h10
theorem k0_off42_inb : ∀ (i : grid0.Coords) (v1 : BitVec 32) (v5 : BitVec 32) (v9 : BitVec 32) (v13 : BitVec 32) (v17 : BitVec 32) (k0_hw2 : k0_chk2 i v1 v5 v9 v13 v17), ∀ (k0_h10 : k0_cond10 i v1 v5 v9 v13 v17 = 1#1), ∀ (r : Fin 2), ∀ a, (k0_off42 i v1 v5 v9 v13 (BitVec.ofNat 32 (256 * r.val))) a + S32x512.size a ≤ S512x512.size a := fun i v1 v5 v9 v13 v17 k0_hw2 k0_h10 r => k0_hw2.2.1.2.2.2.2.2.2.2.2.2.2.2.2.1 k0_h10 r
theorem k0_off42_packedbf16 : ∀ (i : grid0.Coords) (v1 : BitVec 32) (v5 : BitVec 32) (v9 : BitVec 32) (v13 : BitVec 32) (v17 : BitVec 32) (k0_hw2 : k0_chk2 i v1 v5 v9 v13 v17), ∀ (k0_h10 : k0_cond10 i v1 v5 v9 v13 v17 = 1#1), ∀ (r : Fin 2), (Rect.unit (s := S512x512) (k0_off42 i v1 v5 v9 v13 (BitVec.ofNat 32 (256 * r.val))) S32x512.size (k0_off42_inb i v1 v5 v9 v13 v17 k0_hw2 k0_h10 r)).PackedRows (EltTy.packing .bf16) := fun i v1 v5 v9 v13 v17 k0_hw2 k0_h10 r => k0_hw2.2.1.2.2.2.2.2.2.2.2.2.2.2.2.2.1 k0_h10 r (k0_off42_inb i v1 v5 v9 v13 v17 k0_hw2 k0_h10 r)
theorem k0_off43_inb : ∀ (i : grid0.Coords) (v1 : BitVec 32) (v5 : BitVec 32) (v9 : BitVec 32) (v13 : BitVec 32) (v17 : BitVec 32) (k0_hw2 : k0_chk2 i v1 v5 v9 v13 v17), ∀ (k0_h10 : k0_cond10 i v1 v5 v9 v13 v17 = 1#1), ∀ a, (k0_off43 i v1 v5 v9 v13) a + S224x512.size a ≤ S512x512.size a := fun i v1 v5 v9 v13 v17 k0_hw2 k0_h10 => k0_hw2.2.1.2.2.2.2.2.2.2.2.2.2.2.2.2.2.1 k0_h10
theorem k0_off43_packedbf16 : ∀ (i : grid0.Coords) (v1 : BitVec 32) (v5 : BitVec 32) (v9 : BitVec 32) (v13 : BitVec 32) (v17 : BitVec 32) (k0_hw2 : k0_chk2 i v1 v5 v9 v13 v17), ∀ (k0_h10 : k0_cond10 i v1 v5 v9 v13 v17 = 1#1), (Rect.unit (s := S512x512) (k0_off43 i v1 v5 v9 v13) S224x512.size (k0_off43_inb i v1 v5 v9 v13 v17 k0_hw2 k0_h10)).PackedRows (EltTy.packing .bf16) := fun i v1 v5 v9 v13 v17 k0_hw2 k0_h10 => k0_hw2.2.1.2.2.2.2.2.2.2.2.2.2.2.2.2.2.2.1 k0_h10 (k0_off43_inb i v1 v5 v9 v13 v17 k0_hw2 k0_h10)
theorem k0_off44_inb : ∀ (i : grid0.Coords) (v1 : BitVec 32) (v5 : BitVec 32) (v9 : BitVec 32) (v13 : BitVec 32) (v17 : BitVec 32) (k0_hw2 : k0_chk2 i v1 v5 v9 v13 v17), ∀ (k0_h11 : k0_cond11 i v1 v5 v9 v13 v17 = 1#1), ∀ a, (k0_off44 i v1 v5 v9 v13) a + S320x2816.size a ≤ S512x2816.size a := fun i v1 v5 v9 v13 v17 k0_hw2 k0_h11 => k0_hw2.2.1.2.2.2.2.2.2.2.2.2.2.2.2.2.2.2.2.1 k0_h11
theorem k0_off45_inb : ∀ (i : grid0.Coords) (v1 : BitVec 32) (v5 : BitVec 32) (v9 : BitVec 32) (v13 : BitVec 32) (v17 : BitVec 32) (k0_hw2 : k0_chk2 i v1 v5 v9 v13 v17), ∀ (k0_h11 : k0_cond11 i v1 v5 v9 v13 v17 = 1#1), ∀ a, (k0_off45 i v1 v5 v9 v13) a + S320x1.size a ≤ S512x1.size a := fun i v1 v5 v9 v13 v17 k0_hw2 k0_h11 => k0_hw2.2.1.2.2.2.2.2.2.2.2.2.2.2.2.2.2.2.2.2.1 k0_h11
theorem k0_off47_inb : ∀ (i : grid0.Coords) (v1 : BitVec 32) (v5 : BitVec 32) (v9 : BitVec 32) (v13 : BitVec 32) (v17 : BitVec 32) (k0_hw2 : k0_chk2 i v1 v5 v9 v13 v17), ∀ (k0_h11 : k0_cond11 i v1 v5 v9 v13 v17 = 1#1), ∀ (r : Fin 2), ∀ a, (k0_off47 i v1 v5 v9 v13 (BitVec.ofNat 32 (288 * r.val))) a + S32x512.size a ≤ S512x512.size a := fun i v1 v5 v9 v13 v17 k0_hw2 k0_h11 r => k0_hw2.2.1.2.2.2.2.2.2.2.2.2.2.2.2.2.2.2.2.2.2.1 k0_h11 r
theorem k0_off47_packedbf16 : ∀ (i : grid0.Coords) (v1 : BitVec 32) (v5 : BitVec 32) (v9 : BitVec 32) (v13 : BitVec 32) (v17 : BitVec 32) (k0_hw2 : k0_chk2 i v1 v5 v9 v13 v17), ∀ (k0_h11 : k0_cond11 i v1 v5 v9 v13 v17 = 1#1), ∀ (r : Fin 2), (Rect.unit (s := S512x512) (k0_off47 i v1 v5 v9 v13 (BitVec.ofNat 32 (288 * r.val))) S32x512.size (k0_off47_inb i v1 v5 v9 v13 v17 k0_hw2 k0_h11 r)).PackedRows (EltTy.packing .bf16) := fun i v1 v5 v9 v13 v17 k0_hw2 k0_h11 r => k0_hw2.2.1.2.2.2.2.2.2.2.2.2.2.2.2.2.2.2.2.2.2.2.1 k0_h11 r (k0_off47_inb i v1 v5 v9 v13 v17 k0_hw2 k0_h11 r)
theorem k0_off48_inb : ∀ (i : grid0.Coords) (v1 : BitVec 32) (v5 : BitVec 32) (v9 : BitVec 32) (v13 : BitVec 32) (v17 : BitVec 32) (k0_hw2 : k0_chk2 i v1 v5 v9 v13 v17), ∀ (k0_h11 : k0_cond11 i v1 v5 v9 v13 v17 = 1#1), ∀ a, (k0_off48 i v1 v5 v9 v13) a + S256x512.size a ≤ S512x512.size a := fun i v1 v5 v9 v13 v17 k0_hw2 k0_h11 => k0_hw2.2.1.2.2.2.2.2.2.2.2.2.2.2.2.2.2.2.2.2.2.2.2.1 k0_h11
theorem k0_off48_packedbf16 : ∀ (i : grid0.Coords) (v1 : BitVec 32) (v5 : BitVec 32) (v9 : BitVec 32) (v13 : BitVec 32) (v17 : BitVec 32) (k0_hw2 : k0_chk2 i v1 v5 v9 v13 v17), ∀ (k0_h11 : k0_cond11 i v1 v5 v9 v13 v17 = 1#1), (Rect.unit (s := S512x512) (k0_off48 i v1 v5 v9 v13) S256x512.size (k0_off48_inb i v1 v5 v9 v13 v17 k0_hw2 k0_h11)).PackedRows (EltTy.packing .bf16) := fun i v1 v5 v9 v13 v17 k0_hw2 k0_h11 => k0_hw2.2.1.2.2.2.2.2.2.2.2.2.2.2.2.2.2.2.2.2.2.2.2.2.1 k0_h11 (k0_off48_inb i v1 v5 v9 v13 v17 k0_hw2 k0_h11)
theorem k0_off49_inb : ∀ (i : grid0.Coords) (v1 : BitVec 32) (v5 : BitVec 32) (v9 : BitVec 32) (v13 : BitVec 32) (v17 : BitVec 32) (k0_hw2 : k0_chk2 i v1 v5 v9 v13 v17), ∀ (k0_h12 : k0_cond12 i v1 v5 v9 v13 v17 = 1#1), ∀ a, (k0_off49 i v1 v5 v9 v13) a + S352x2816.size a ≤ S512x2816.size a := fun i v1 v5 v9 v13 v17 k0_hw2 k0_h12 => k0_hw2.2.1.2.2.2.2.2.2.2.2.2.2.2.2.2.2.2.2.2.2.2.2.2.2.1 k0_h12
theorem k0_off50_inb : ∀ (i : grid0.Coords) (v1 : BitVec 32) (v5 : BitVec 32) (v9 : BitVec 32) (v13 : BitVec 32) (v17 : BitVec 32) (k0_hw2 : k0_chk2 i v1 v5 v9 v13 v17), ∀ (k0_h12 : k0_cond12 i v1 v5 v9 v13 v17 = 1#1), ∀ a, (k0_off50 i v1 v5 v9 v13) a + S352x1.size a ≤ S512x1.size a := fun i v1 v5 v9 v13 v17 k0_hw2 k0_h12 => k0_hw2.2.1.2.2.2.2.2.2.2.2.2.2.2.2.2.2.2.2.2.2.2.2.2.2.2.1 k0_h12
theorem k0_off52_inb : ∀ (i : grid0.Coords) (v1 : BitVec 32) (v5 : BitVec 32) (v9 : BitVec 32) (v13 : BitVec 32) (v17 : BitVec 32) (k0_hw2 : k0_chk2 i v1 v5 v9 v13 v17), ∀ (k0_h12 : k0_cond12 i v1 v5 v9 v13 v17 = 1#1), ∀ (r : Fin 2), ∀ a, (k0_off52 i v1 v5 v9 v13 (BitVec.ofNat 32 (320 * r.val))) a + S32x512.size a ≤ S512x512.size a := fun i v1 v5 v9 v13 v17 k0_hw2 k0_h12 r => k0_hw2.2.1.2.2.2.2.2.2.2.2.2.2.2.2.2.2.2.2.2.2.2.2.2.2.2.2.1 k0_h12 r
theorem k0_off52_packedbf16 : ∀ (i : grid0.Coords) (v1 : BitVec 32) (v5 : BitVec 32) (v9 : BitVec 32) (v13 : BitVec 32) (v17 : BitVec 32) (k0_hw2 : k0_chk2 i v1 v5 v9 v13 v17), ∀ (k0_h12 : k0_cond12 i v1 v5 v9 v13 v17 = 1#1), ∀ (r : Fin 2), (Rect.unit (s := S512x512) (k0_off52 i v1 v5 v9 v13 (BitVec.ofNat 32 (320 * r.val))) S32x512.size (k0_off52_inb i v1 v5 v9 v13 v17 k0_hw2 k0_h12 r)).PackedRows (EltTy.packing .bf16) := fun i v1 v5 v9 v13 v17 k0_hw2 k0_h12 r => k0_hw2.2.1.2.2.2.2.2.2.2.2.2.2.2.2.2.2.2.2.2.2.2.2.2.2.2.2.2.1 k0_h12 r (k0_off52_inb i v1 v5 v9 v13 v17 k0_hw2 k0_h12 r)
theorem k0_off53_inb : ∀ (i : grid0.Coords) (v1 : BitVec 32) (v5 : BitVec 32) (v9 : BitVec 32) (v13 : BitVec 32) (v17 : BitVec 32) (k0_hw2 : k0_chk2 i v1 v5 v9 v13 v17), ∀ (k0_h12 : k0_cond12 i v1 v5 v9 v13 v17 = 1#1), ∀ a, (k0_off53 i v1 v5 v9 v13) a + S288x512.size a ≤ S512x512.size a := fun i v1 v5 v9 v13 v17 k0_hw2 k0_h12 => k0_hw2.2.1.2.2.2.2.2.2.2.2.2.2.2.2.2.2.2.2.2.2.2.2.2.2.2.2.2.2.1 k0_h12
theorem k0_off53_packedbf16 : ∀ (i : grid0.Coords) (v1 : BitVec 32) (v5 : BitVec 32) (v9 : BitVec 32) (v13 : BitVec 32) (v17 : BitVec 32) (k0_hw2 : k0_chk2 i v1 v5 v9 v13 v17), ∀ (k0_h12 : k0_cond12 i v1 v5 v9 v13 v17 = 1#1), (Rect.unit (s := S512x512) (k0_off53 i v1 v5 v9 v13) S288x512.size (k0_off53_inb i v1 v5 v9 v13 v17 k0_hw2 k0_h12)).PackedRows (EltTy.packing .bf16) := fun i v1 v5 v9 v13 v17 k0_hw2 k0_h12 => k0_hw2.2.1.2.2.2.2.2.2.2.2.2.2.2.2.2.2.2.2.2.2.2.2.2.2.2.2.2.2.2.1 k0_h12 (k0_off53_inb i v1 v5 v9 v13 v17 k0_hw2 k0_h12)
theorem k0_off54_inb : ∀ (i : grid0.Coords) (v1 : BitVec 32) (v5 : BitVec 32) (v9 : BitVec 32) (v13 : BitVec 32) (v17 : BitVec 32) (k0_hw2 : k0_chk2 i v1 v5 v9 v13 v17), ∀ (k0_h13 : k0_cond13 i v1 v5 v9 v13 v17 = 1#1), ∀ a, (k0_off54 i v1 v5 v9 v13) a + S384x2816.size a ≤ S512x2816.size a := fun i v1 v5 v9 v13 v17 k0_hw2 k0_h13 => k0_hw2.2.1.2.2.2.2.2.2.2.2.2.2.2.2.2.2.2.2.2.2.2.2.2.2.2.2.2.2.2.2.1 k0_h13
theorem k0_off55_inb : ∀ (i : grid0.Coords) (v1 : BitVec 32) (v5 : BitVec 32) (v9 : BitVec 32) (v13 : BitVec 32) (v17 : BitVec 32) (k0_hw2 : k0_chk2 i v1 v5 v9 v13 v17), ∀ (k0_h13 : k0_cond13 i v1 v5 v9 v13 v17 = 1#1), ∀ a, (k0_off55 i v1 v5 v9 v13) a + S384x1.size a ≤ S512x1.size a := fun i v1 v5 v9 v13 v17 k0_hw2 k0_h13 => k0_hw2.2.1.2.2.2.2.2.2.2.2.2.2.2.2.2.2.2.2.2.2.2.2.2.2.2.2.2.2.2.2.2.1 k0_h13
theorem k0_off57_inb : ∀ (i : grid0.Coords) (v1 : BitVec 32) (v5 : BitVec 32) (v9 : BitVec 32) (v13 : BitVec 32) (v17 : BitVec 32) (k0_hw2 : k0_chk2 i v1 v5 v9 v13 v17), ∀ (k0_h13 : k0_cond13 i v1 v5 v9 v13 v17 = 1#1), ∀ (r : Fin 2), ∀ a, (k0_off57 i v1 v5 v9 v13 (BitVec.ofNat 32 (352 * r.val))) a + S32x512.size a ≤ S512x512.size a := fun i v1 v5 v9 v13 v17 k0_hw2 k0_h13 r => k0_hw2.2.1.2.2.2.2.2.2.2.2.2.2.2.2.2.2.2.2.2.2.2.2.2.2.2.2.2.2.2.2.2.2.1 k0_h13 r
theorem k0_off57_packedbf16 : ∀ (i : grid0.Coords) (v1 : BitVec 32) (v5 : BitVec 32) (v9 : BitVec 32) (v13 : BitVec 32) (v17 : BitVec 32) (k0_hw2 : k0_chk2 i v1 v5 v9 v13 v17), ∀ (k0_h13 : k0_cond13 i v1 v5 v9 v13 v17 = 1#1), ∀ (r : Fin 2), (Rect.unit (s := S512x512) (k0_off57 i v1 v5 v9 v13 (BitVec.ofNat 32 (352 * r.val))) S32x512.size (k0_off57_inb i v1 v5 v9 v13 v17 k0_hw2 k0_h13 r)).PackedRows (EltTy.packing .bf16) := fun i v1 v5 v9 v13 v17 k0_hw2 k0_h13 r => k0_hw2.2.1.2.2.2.2.2.2.2.2.2.2.2.2.2.2.2.2.2.2.2.2.2.2.2.2.2.2.2.2.2.2.2 k0_h13 r (k0_off57_inb i v1 v5 v9 v13 v17 k0_hw2 k0_h13 r)
theorem k0_off58_inb : ∀ (i : grid0.Coords) (v1 : BitVec 32) (v5 : BitVec 32) (v9 : BitVec 32) (v13 : BitVec 32) (v17 : BitVec 32) (k0_hw2 : k0_chk2 i v1 v5 v9 v13 v17), ∀ (k0_h13 : k0_cond13 i v1 v5 v9 v13 v17 = 1#1), ∀ a, (k0_off58 i v1 v5 v9 v13) a + S320x512.size a ≤ S512x512.size a := fun i v1 v5 v9 v13 v17 k0_hw2 k0_h13 => k0_hw2.2.2.1 k0_h13
theorem k0_off58_packedbf16 : ∀ (i : grid0.Coords) (v1 : BitVec 32) (v5 : BitVec 32) (v9 : BitVec 32) (v13 : BitVec 32) (v17 : BitVec 32) (k0_hw2 : k0_chk2 i v1 v5 v9 v13 v17), ∀ (k0_h13 : k0_cond13 i v1 v5 v9 v13 v17 = 1#1), (Rect.unit (s := S512x512) (k0_off58 i v1 v5 v9 v13) S320x512.size (k0_off58_inb i v1 v5 v9 v13 v17 k0_hw2 k0_h13)).PackedRows (EltTy.packing .bf16) := fun i v1 v5 v9 v13 v17 k0_hw2 k0_h13 => k0_hw2.2.2.2.1 k0_h13 (k0_off58_inb i v1 v5 v9 v13 v17 k0_hw2 k0_h13)
theorem k0_off59_inb : ∀ (i : grid0.Coords) (v1 : BitVec 32) (v5 : BitVec 32) (v9 : BitVec 32) (v13 : BitVec 32) (v17 : BitVec 32) (k0_hw2 : k0_chk2 i v1 v5 v9 v13 v17), ∀ (k0_h14 : k0_cond14 i v1 v5 v9 v13 v17 = 1#1), ∀ a, (k0_off59 i v1 v5 v9 v13) a + S416x2816.size a ≤ S512x2816.size a := fun i v1 v5 v9 v13 v17 k0_hw2 k0_h14 => k0_hw2.2.2.2.2.1 k0_h14
theorem k0_off60_inb : ∀ (i : grid0.Coords) (v1 : BitVec 32) (v5 : BitVec 32) (v9 : BitVec 32) (v13 : BitVec 32) (v17 : BitVec 32) (k0_hw2 : k0_chk2 i v1 v5 v9 v13 v17), ∀ (k0_h14 : k0_cond14 i v1 v5 v9 v13 v17 = 1#1), ∀ a, (k0_off60 i v1 v5 v9 v13) a + S416x1.size a ≤ S512x1.size a := fun i v1 v5 v9 v13 v17 k0_hw2 k0_h14 => k0_hw2.2.2.2.2.2.1 k0_h14
theorem k0_off62_inb : ∀ (i : grid0.Coords) (v1 : BitVec 32) (v5 : BitVec 32) (v9 : BitVec 32) (v13 : BitVec 32) (v17 : BitVec 32) (k0_hw2 : k0_chk2 i v1 v5 v9 v13 v17), ∀ (k0_h14 : k0_cond14 i v1 v5 v9 v13 v17 = 1#1), ∀ (r : Fin 2), ∀ a, (k0_off62 i v1 v5 v9 v13 (BitVec.ofNat 32 (384 * r.val))) a + S32x512.size a ≤ S512x512.size a := fun i v1 v5 v9 v13 v17 k0_hw2 k0_h14 r => k0_hw2.2.2.2.2.2.2.1 k0_h14 r
theorem k0_off62_packedbf16 : ∀ (i : grid0.Coords) (v1 : BitVec 32) (v5 : BitVec 32) (v9 : BitVec 32) (v13 : BitVec 32) (v17 : BitVec 32) (k0_hw2 : k0_chk2 i v1 v5 v9 v13 v17), ∀ (k0_h14 : k0_cond14 i v1 v5 v9 v13 v17 = 1#1), ∀ (r : Fin 2), (Rect.unit (s := S512x512) (k0_off62 i v1 v5 v9 v13 (BitVec.ofNat 32 (384 * r.val))) S32x512.size (k0_off62_inb i v1 v5 v9 v13 v17 k0_hw2 k0_h14 r)).PackedRows (EltTy.packing .bf16) := fun i v1 v5 v9 v13 v17 k0_hw2 k0_h14 r => k0_hw2.2.2.2.2.2.2.2.1 k0_h14 r (k0_off62_inb i v1 v5 v9 v13 v17 k0_hw2 k0_h14 r)
theorem k0_off63_inb : ∀ (i : grid0.Coords) (v1 : BitVec 32) (v5 : BitVec 32) (v9 : BitVec 32) (v13 : BitVec 32) (v17 : BitVec 32) (k0_hw2 : k0_chk2 i v1 v5 v9 v13 v17), ∀ (k0_h14 : k0_cond14 i v1 v5 v9 v13 v17 = 1#1), ∀ a, (k0_off63 i v1 v5 v9 v13) a + S352x512.size a ≤ S512x512.size a := fun i v1 v5 v9 v13 v17 k0_hw2 k0_h14 => k0_hw2.2.2.2.2.2.2.2.2.1 k0_h14
theorem k0_off63_packedbf16 : ∀ (i : grid0.Coords) (v1 : BitVec 32) (v5 : BitVec 32) (v9 : BitVec 32) (v13 : BitVec 32) (v17 : BitVec 32) (k0_hw2 : k0_chk2 i v1 v5 v9 v13 v17), ∀ (k0_h14 : k0_cond14 i v1 v5 v9 v13 v17 = 1#1), (Rect.unit (s := S512x512) (k0_off63 i v1 v5 v9 v13) S352x512.size (k0_off63_inb i v1 v5 v9 v13 v17 k0_hw2 k0_h14)).PackedRows (EltTy.packing .bf16) := fun i v1 v5 v9 v13 v17 k0_hw2 k0_h14 => k0_hw2.2.2.2.2.2.2.2.2.2.1 k0_h14 (k0_off63_inb i v1 v5 v9 v13 v17 k0_hw2 k0_h14)
theorem k0_off64_inb : ∀ (i : grid0.Coords) (v1 : BitVec 32) (v5 : BitVec 32) (v9 : BitVec 32) (v13 : BitVec 32) (v17 : BitVec 32) (k0_hw2 : k0_chk2 i v1 v5 v9 v13 v17), ∀ (k0_h15 : k0_cond15 i v1 v5 v9 v13 v17 = 1#1), ∀ a, (k0_off64 i v1 v5 v9 v13) a + S448x2816.size a ≤ S512x2816.size a := fun i v1 v5 v9 v13 v17 k0_hw2 k0_h15 => k0_hw2.2.2.2.2.2.2.2.2.2.2.1 k0_h15
theorem k0_off65_inb : ∀ (i : grid0.Coords) (v1 : BitVec 32) (v5 : BitVec 32) (v9 : BitVec 32) (v13 : BitVec 32) (v17 : BitVec 32) (k0_hw2 : k0_chk2 i v1 v5 v9 v13 v17), ∀ (k0_h15 : k0_cond15 i v1 v5 v9 v13 v17 = 1#1), ∀ a, (k0_off65 i v1 v5 v9 v13) a + S448x1.size a ≤ S512x1.size a := fun i v1 v5 v9 v13 v17 k0_hw2 k0_h15 => k0_hw2.2.2.2.2.2.2.2.2.2.2.2.1 k0_h15
theorem k0_off67_inb : ∀ (i : grid0.Coords) (v1 : BitVec 32) (v5 : BitVec 32) (v9 : BitVec 32) (v13 : BitVec 32) (v17 : BitVec 32) (k0_hw2 : k0_chk2 i v1 v5 v9 v13 v17), ∀ (k0_h15 : k0_cond15 i v1 v5 v9 v13 v17 = 1#1), ∀ (r : Fin 2), ∀ a, (k0_off67 i v1 v5 v9 v13 (BitVec.ofNat 32 (416 * r.val))) a + S32x512.size a ≤ S512x512.size a := fun i v1 v5 v9 v13 v17 k0_hw2 k0_h15 r => k0_hw2.2.2.2.2.2.2.2.2.2.2.2.2.1 k0_h15 r
theorem k0_off67_packedbf16 : ∀ (i : grid0.Coords) (v1 : BitVec 32) (v5 : BitVec 32) (v9 : BitVec 32) (v13 : BitVec 32) (v17 : BitVec 32) (k0_hw2 : k0_chk2 i v1 v5 v9 v13 v17), ∀ (k0_h15 : k0_cond15 i v1 v5 v9 v13 v17 = 1#1), ∀ (r : Fin 2), (Rect.unit (s := S512x512) (k0_off67 i v1 v5 v9 v13 (BitVec.ofNat 32 (416 * r.val))) S32x512.size (k0_off67_inb i v1 v5 v9 v13 v17 k0_hw2 k0_h15 r)).PackedRows (EltTy.packing .bf16) := fun i v1 v5 v9 v13 v17 k0_hw2 k0_h15 r => k0_hw2.2.2.2.2.2.2.2.2.2.2.2.2.2.1 k0_h15 r (k0_off67_inb i v1 v5 v9 v13 v17 k0_hw2 k0_h15 r)
theorem k0_off68_inb : ∀ (i : grid0.Coords) (v1 : BitVec 32) (v5 : BitVec 32) (v9 : BitVec 32) (v13 : BitVec 32) (v17 : BitVec 32) (k0_hw2 : k0_chk2 i v1 v5 v9 v13 v17), ∀ (k0_h15 : k0_cond15 i v1 v5 v9 v13 v17 = 1#1), ∀ a, (k0_off68 i v1 v5 v9 v13) a + S384x512.size a ≤ S512x512.size a := fun i v1 v5 v9 v13 v17 k0_hw2 k0_h15 => k0_hw2.2.2.2.2.2.2.2.2.2.2.2.2.2.2.1 k0_h15
theorem k0_off68_packedbf16 : ∀ (i : grid0.Coords) (v1 : BitVec 32) (v5 : BitVec 32) (v9 : BitVec 32) (v13 : BitVec 32) (v17 : BitVec 32) (k0_hw2 : k0_chk2 i v1 v5 v9 v13 v17), ∀ (k0_h15 : k0_cond15 i v1 v5 v9 v13 v17 = 1#1), (Rect.unit (s := S512x512) (k0_off68 i v1 v5 v9 v13) S384x512.size (k0_off68_inb i v1 v5 v9 v13 v17 k0_hw2 k0_h15)).PackedRows (EltTy.packing .bf16) := fun i v1 v5 v9 v13 v17 k0_hw2 k0_h15 => k0_hw2.2.2.2.2.2.2.2.2.2.2.2.2.2.2.2.1 k0_h15 (k0_off68_inb i v1 v5 v9 v13 v17 k0_hw2 k0_h15)
theorem k0_off69_inb : ∀ (i : grid0.Coords) (v1 : BitVec 32) (v5 : BitVec 32) (v9 : BitVec 32) (v13 : BitVec 32) (v17 : BitVec 32) (k0_hw2 : k0_chk2 i v1 v5 v9 v13 v17), ∀ (k0_h16 : k0_cond16 i v1 v5 v9 v13 v17 = 1#1), ∀ a, (k0_off69 i v1 v5 v9 v13) a + S480x2816.size a ≤ S512x2816.size a := fun i v1 v5 v9 v13 v17 k0_hw2 k0_h16 => k0_hw2.2.2.2.2.2.2.2.2.2.2.2.2.2.2.2.2.1 k0_h16
theorem k0_off70_inb : ∀ (i : grid0.Coords) (v1 : BitVec 32) (v5 : BitVec 32) (v9 : BitVec 32) (v13 : BitVec 32) (v17 : BitVec 32) (k0_hw2 : k0_chk2 i v1 v5 v9 v13 v17), ∀ (k0_h16 : k0_cond16 i v1 v5 v9 v13 v17 = 1#1), ∀ a, (k0_off70 i v1 v5 v9 v13) a + S480x1.size a ≤ S512x1.size a := fun i v1 v5 v9 v13 v17 k0_hw2 k0_h16 => k0_hw2.2.2.2.2.2.2.2.2.2.2.2.2.2.2.2.2.2.1 k0_h16
theorem k0_off72_inb : ∀ (i : grid0.Coords) (v1 : BitVec 32) (v5 : BitVec 32) (v9 : BitVec 32) (v13 : BitVec 32) (v17 : BitVec 32) (k0_hw2 : k0_chk2 i v1 v5 v9 v13 v17), ∀ (k0_h16 : k0_cond16 i v1 v5 v9 v13 v17 = 1#1), ∀ (r : Fin 2), ∀ a, (k0_off72 i v1 v5 v9 v13 (BitVec.ofNat 32 (448 * r.val))) a + S32x512.size a ≤ S512x512.size a := fun i v1 v5 v9 v13 v17 k0_hw2 k0_h16 r => k0_hw2.2.2.2.2.2.2.2.2.2.2.2.2.2.2.2.2.2.2.1 k0_h16 r
theorem k0_off72_packedbf16 : ∀ (i : grid0.Coords) (v1 : BitVec 32) (v5 : BitVec 32) (v9 : BitVec 32) (v13 : BitVec 32) (v17 : BitVec 32) (k0_hw2 : k0_chk2 i v1 v5 v9 v13 v17), ∀ (k0_h16 : k0_cond16 i v1 v5 v9 v13 v17 = 1#1), ∀ (r : Fin 2), (Rect.unit (s := S512x512) (k0_off72 i v1 v5 v9 v13 (BitVec.ofNat 32 (448 * r.val))) S32x512.size (k0_off72_inb i v1 v5 v9 v13 v17 k0_hw2 k0_h16 r)).PackedRows (EltTy.packing .bf16) := fun i v1 v5 v9 v13 v17 k0_hw2 k0_h16 r => k0_hw2.2.2.2.2.2.2.2.2.2.2.2.2.2.2.2.2.2.2.2.1 k0_h16 r (k0_off72_inb i v1 v5 v9 v13 v17 k0_hw2 k0_h16 r)
theorem k0_off73_inb : ∀ (i : grid0.Coords) (v1 : BitVec 32) (v5 : BitVec 32) (v9 : BitVec 32) (v13 : BitVec 32) (v17 : BitVec 32) (k0_hw2 : k0_chk2 i v1 v5 v9 v13 v17), ∀ (k0_h16 : k0_cond16 i v1 v5 v9 v13 v17 = 1#1), ∀ a, (k0_off73 i v1 v5 v9 v13) a + S416x512.size a ≤ S512x512.size a := fun i v1 v5 v9 v13 v17 k0_hw2 k0_h16 => k0_hw2.2.2.2.2.2.2.2.2.2.2.2.2.2.2.2.2.2.2.2.2.1 k0_h16
theorem k0_off73_packedbf16 : ∀ (i : grid0.Coords) (v1 : BitVec 32) (v5 : BitVec 32) (v9 : BitVec 32) (v13 : BitVec 32) (v17 : BitVec 32) (k0_hw2 : k0_chk2 i v1 v5 v9 v13 v17), ∀ (k0_h16 : k0_cond16 i v1 v5 v9 v13 v17 = 1#1), (Rect.unit (s := S512x512) (k0_off73 i v1 v5 v9 v13) S416x512.size (k0_off73_inb i v1 v5 v9 v13 v17 k0_hw2 k0_h16)).PackedRows (EltTy.packing .bf16) := fun i v1 v5 v9 v13 v17 k0_hw2 k0_h16 => k0_hw2.2.2.2.2.2.2.2.2.2.2.2.2.2.2.2.2.2.2.2.2.2.1 k0_h16 (k0_off73_inb i v1 v5 v9 v13 v17 k0_hw2 k0_h16)
theorem k0_off74_inb : ∀ (i : grid0.Coords) (v1 : BitVec 32) (v5 : BitVec 32) (v9 : BitVec 32) (v13 : BitVec 32) (v17 : BitVec 32) (k0_hw2 : k0_chk2 i v1 v5 v9 v13 v17), ∀ (k0_h17 : k0_cond17 i v1 v5 v9 v13 v17 = 1#1), ∀ a, (k0_off74 i v1 v5 v9 v13) a + S512x2816.size a ≤ S512x2816.size a := fun i v1 v5 v9 v13 v17 k0_hw2 k0_h17 => k0_hw2.2.2.2.2.2.2.2.2.2.2.2.2.2.2.2.2.2.2.2.2.2.2.1 k0_h17
theorem k0_off75_inb : ∀ (i : grid0.Coords) (v1 : BitVec 32) (v5 : BitVec 32) (v9 : BitVec 32) (v13 : BitVec 32) (v17 : BitVec 32) (k0_hw2 : k0_chk2 i v1 v5 v9 v13 v17), ∀ (k0_h17 : k0_cond17 i v1 v5 v9 v13 v17 = 1#1), ∀ a, (k0_off75 i v1 v5 v9 v13) a + S512x1.size a ≤ S512x1.size a := fun i v1 v5 v9 v13 v17 k0_hw2 k0_h17 => k0_hw2.2.2.2.2.2.2.2.2.2.2.2.2.2.2.2.2.2.2.2.2.2.2.2.1 k0_h17
theorem k0_off77_inb : ∀ (i : grid0.Coords) (v1 : BitVec 32) (v5 : BitVec 32) (v9 : BitVec 32) (v13 : BitVec 32) (v17 : BitVec 32) (k0_hw2 : k0_chk2 i v1 v5 v9 v13 v17), ∀ (k0_h17 : k0_cond17 i v1 v5 v9 v13 v17 = 1#1), ∀ (r : Fin 2), ∀ a, (k0_off77 i v1 v5 v9 v13 (BitVec.ofNat 32 (480 * r.val))) a + S32x512.size a ≤ S512x512.size a := fun i v1 v5 v9 v13 v17 k0_hw2 k0_h17 r => k0_hw2.2.2.2.2.2.2.2.2.2.2.2.2.2.2.2.2.2.2.2.2.2.2.2.2.1 k0_h17 r
theorem k0_off77_packedbf16 : ∀ (i : grid0.Coords) (v1 : BitVec 32) (v5 : BitVec 32) (v9 : BitVec 32) (v13 : BitVec 32) (v17 : BitVec 32) (k0_hw2 : k0_chk2 i v1 v5 v9 v13 v17), ∀ (k0_h17 : k0_cond17 i v1 v5 v9 v13 v17 = 1#1), ∀ (r : Fin 2), (Rect.unit (s := S512x512) (k0_off77 i v1 v5 v9 v13 (BitVec.ofNat 32 (480 * r.val))) S32x512.size (k0_off77_inb i v1 v5 v9 v13 v17 k0_hw2 k0_h17 r)).PackedRows (EltTy.packing .bf16) := fun i v1 v5 v9 v13 v17 k0_hw2 k0_h17 r => k0_hw2.2.2.2.2.2.2.2.2.2.2.2.2.2.2.2.2.2.2.2.2.2.2.2.2.2.1 k0_h17 r (k0_off77_inb i v1 v5 v9 v13 v17 k0_hw2 k0_h17 r)
theorem k0_off78_inb : ∀ (i : grid0.Coords) (v1 : BitVec 32) (v5 : BitVec 32) (v9 : BitVec 32) (v13 : BitVec 32) (v17 : BitVec 32) (k0_hw2 : k0_chk2 i v1 v5 v9 v13 v17), ∀ (k0_h17 : k0_cond17 i v1 v5 v9 v13 v17 = 1#1), ∀ a, (k0_off78 i v1 v5 v9 v13) a + S448x512.size a ≤ S512x512.size a := fun i v1 v5 v9 v13 v17 k0_hw2 k0_h17 => k0_hw2.2.2.2.2.2.2.2.2.2.2.2.2.2.2.2.2.2.2.2.2.2.2.2.2.2.2.1 k0_h17
theorem k0_off78_packedbf16 : ∀ (i : grid0.Coords) (v1 : BitVec 32) (v5 : BitVec 32) (v9 : BitVec 32) (v13 : BitVec 32) (v17 : BitVec 32) (k0_hw2 : k0_chk2 i v1 v5 v9 v13 v17), ∀ (k0_h17 : k0_cond17 i v1 v5 v9 v13 v17 = 1#1), (Rect.unit (s := S512x512) (k0_off78 i v1 v5 v9 v13) S448x512.size (k0_off78_inb i v1 v5 v9 v13 v17 k0_hw2 k0_h17)).PackedRows (EltTy.packing .bf16) := fun i v1 v5 v9 v13 v17 k0_hw2 k0_h17 => k0_hw2.2.2.2.2.2.2.2.2.2.2.2.2.2.2.2.2.2.2.2.2.2.2.2.2.2.2.2 k0_h17 (k0_off78_inb i v1 v5 v9 v13 v17 k0_hw2 k0_h17)

def k0_cond1 (i : grid0.Coords) : BitVec 1 :=
  let arg1 : BitVec 32 := BitVec.ofNat 32 (i 1).val
  let c0_i32_7 : BitVec 32 := 0#32
  let v25 : BitVec 1 := Scalar.cmpi .eq arg1 c0_i32_7
  let v26 : BitVec 32 := Scalar.extui v25
  let c0_i32_8 : BitVec 32 := 0#32
  let v27 : BitVec 1 := Scalar.cmpi .ne v26 c0_i32_8
  v27

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (inb_S4_S1_3 : ∀ a, (![3] : Fin 1 → Nat) a + S1.size a ≤ S4.size a) (numel1_S1 : S1.numel = 1) (inb_S4_S1_2 : ∀ a, (![2] : Fin 1 → Nat) a + S1.size a ≤ S4.size a) (inb_S4_S1_1 : ∀ a, (![1] : Fin 1 → Nat) a + S1.size a ≤ S4.size a) (inb_S4_S1_0 : ∀ a, (![0] : Fin 1 → Nat) a + S1.size a ≤ S4.size a) (pf : pre0.Contents (Elt F)) (i : grid0.Coords) : Fin 3 → Nat :=
  let arg0 : BitVec 32 := BitVec.ofNat 32 (i 0).val
  let arg1 : BitVec 32 := BitVec.ofNat 32 (i 1).val
  let c3 : Index := 3#32
  let v0 : BitVec 32 := pf.at 0 (Rect.unit (s := S4) ![3] S1.size inb_S4_S1_3) numel1_S1
  let c0_i32 : BitVec 32 := 0#32
  let v1 : BitVec 1 := Scalar.cmpi .sgt v0 c0_i32
  let c3_i32 : BitVec 32 := 3#32
  let v2 : BitVec 1 := Scalar.cmpi .sle arg1 c3_i32
  let v3 : BitVec 1 := Scalar.andi v1 v2
  let c3_i32_0 : BitVec 32 := 3#32
  let c4_i32 : BitVec 32 := 4#32
  let v4 : BitVec 32 := Scalar.select v3 c3_i32_0 c4_i32
  let c3_i32_1 : BitVec 32 := 3#32
  let c0_i32_2 : BitVec 32 := 0#32
  let v5 : BitVec 32 := Scalar.select v1 c3_i32_1 c0_i32_2
  let c2 : Index := 2#32
  let v6 : BitVec 32 := pf.at 0 (Rect.unit (s := S4) ![2] S1.size inb_S4_S1_2) numel1_S1
  let c0_i32_3 : BitVec 32 := 0#32
  let v7 : BitVec 1 := Scalar.cmpi .sgt v6 c0_i32_3
  let c2_i32 : BitVec 32 := 2#32
  let v8 : BitVec 1 := Scalar.cmpi .sle arg1 c2_i32
  let v9 : BitVec 1 := Scalar.andi v7 v8
  let c2_i32_4 : BitVec 32 := 2#32
  let v10 : BitVec 32 := Scalar.select v9 c2_i32_4 v4
  let c2_i32_5 : BitVec 32 := 2#32
  let v11 : BitVec 32 := Scalar.select v7 c2_i32_5 v5
  let c1 : Index := 1#32
  let v12 : BitVec 32 := pf.at 0 (Rect.unit (s := S4) ![1] S1.size inb_S4_S1_1) numel1_S1
  let c0_i32_6 : BitVec 32 := 0#32
  let v13 : BitVec 1 := Scalar.cmpi .sgt v12 c0_i32_6
  let c1_i32 : BitVec 32 := 1#32
  let v14 : BitVec 1 := Scalar.cmpi .sle arg1 c1_i32
  let v15 : BitVec 1 := Scalar.andi v13 v14
  let c1_i32_7 : BitVec 32 := 1#32
  let v16 : BitVec 32 := Scalar.select v15 c1_i32_7 v10
  let c1_i32_8 : BitVec 32 := 1#32
  let v17 : BitVec 32 := Scalar.select v13 c1_i32_8 v11
  let c0 : Index := 0#32
  let v18 : BitVec 32 := pf.at 0 (Rect.unit (s := S4) ![0] S1.size inb_S4_S1_0) numel1_S1
  let c0_i32_9 : BitVec 32 := 0#32
  let v19 : BitVec 1 := Scalar.cmpi .sgt v18 c0_i32_9
  let c0_i32_10 : BitVec 32 := 0#32
  let v20 : BitVec 1 := Scalar.cmpi .sle arg1 c0_i32_10
  let v21 : BitVec 1 := Scalar.andi v19 v20
  let c0_i32_11 : BitVec 32 := 0#32
  let v22 : BitVec 32 := Scalar.select v21 c0_i32_11 v16
  let c0_i32_12 : BitVec 32 := 0#32
  let v23 : BitVec 32 := Scalar.select v19 c0_i32_12 v17
  let c0_13 : Index := 0#32
  let v24 : BitVec 32 := pf.at 0 (Rect.unit (s := S4) ![0] S1.size inb_S4_S1_0) numel1_S1
  let c0_i32_14 : BitVec 32 := 0#32
  let v25 : BitVec 1 := Scalar.cmpi .sgt v24 c0_i32_14
  let c0_i32_15 : BitVec 32 := 0#32
  let c0_i32_16 : BitVec 32 := 0#32
  let v26 : BitVec 32 := Scalar.select v25 c0_i32_15 c0_i32_16
  let c1_17 : Index := 1#32
  let v27 : BitVec 32 := pf.at 0 (Rect.unit (s := S4) ![1] S1.size inb_S4_S1_1) numel1_S1
  let c0_i32_18 : BitVec 32 := 0#32
  let v28 : BitVec 1 := Scalar.cmpi .sgt v27 c0_i32_18
  let c1_i32_19 : BitVec 32 := 1#32
  let v29 : BitVec 32 := Scalar.select v28 c1_i32_19 v26
  let c2_20 : Index := 2#32
  let v30 : BitVec 32 := pf.at 0 (Rect.unit (s := S4) ![2] S1.size inb_S4_S1_2) numel1_S1
  let c0_i32_21 : BitVec 32 := 0#32
  let v31 : BitVec 1 := Scalar.cmpi .sgt v30 c0_i32_21
  let c2_i32_22 : BitVec 32 := 2#32
  let v32 : BitVec 32 := Scalar.select v31 c2_i32_22 v29
  let c3_23 : Index := 3#32
  let v33 : BitVec 32 := pf.at 0 (Rect.unit (s := S4) ![3] S1.size inb_S4_S1_3) numel1_S1
  let c0_i32_24 : BitVec 32 := 0#32
  let v34 : BitVec 1 := Scalar.cmpi .sgt v33 c0_i32_24
  let c3_i32_25 : BitVec 32 := 3#32
  let v35 : BitVec 32 := Scalar.select v34 c3_i32_25 v32
  let c4_i32_26 : BitVec 32 := 4#32
  let v36 : BitVec 1 := Scalar.cmpi .slt v22 c4_i32_26
  let c1_i32_27 : BitVec 32 := 1#32
  let v37 : BitVec 32 := Scalar.addi arg0 c1_i32_27
  let c11_i32 : BitVec 32 := 11#32
  let v38 : BitVec 1 := Scalar.cmpi .slt v37 c11_i32
  let v39 : BitVec 32 := Scalar.select v38 v23 v35
  let v40 : BitVec 32 := Scalar.select v36 v22 v39
  let v_true : BitVec 1 := 1#1
  let v41 : BitVec 1 := Scalar.xori v38 v_true
  let v42 : BitVec 1 := Scalar.ori v36 v41
  let c1_i32_28 : BitVec 32 := 1#32
  let v43 : BitVec 32 := Scalar.addi arg0 c1_i32_28
  let v44 : BitVec 32 := Scalar.select v42 arg0 v43
  let c0_i32_29 : BitVec 32 := 0#32
  let c0_i32_30 : BitVec 32 := 0#32
  ![v40.toNat, c0_i32_29.toNat, v44.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 1 → Memref sig .tc .vmem S512x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S512x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x2816x512 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S4x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]
-- ==== ReferenceIdeal.lean ====
abbrev S512x2816 : Shape := ⟨2, ![512, 2816]⟩
abbrev S512x1 : Shape := ⟨2, ![512, 1]⟩
abbrev S4 : Shape := ⟨1, ![4]⟩
abbrev S4x2816x5632 : Shape := ⟨3, ![4, 2816, 5632]⟩
abbrev S4x5632 : Shape := ⟨2, ![4, 5632]⟩
abbrev S512 : Shape := ⟨1, ![512]⟩
abbrev S_ : Shape := ⟨0, ![]⟩
abbrev S1x512 : Shape := ⟨2, ![1, 512]⟩
abbrev S4x1 : Shape := ⟨2, ![4, 1]⟩
abbrev S4x512 : Shape := ⟨2, ![4, 512]⟩
abbrev S4x5632x512 : Shape := ⟨3, ![4, 5632, 512]⟩
abbrev S4x512x5632 : Shape := ⟨3, ![4, 512, 5632]⟩
abbrev S4x512x1 : Shape := ⟨3, ![4, 512, 1]⟩
abbrev S512x5632 : Shape := ⟨2, ![512, 5632]⟩
abbrev S1x4 : Shape := ⟨2, ![1, 4]⟩
abbrev S512x4 : Shape := ⟨2, ![512, 4]⟩

abbrev nBuf : Space → Nat
  | .hbm => 57
  | .vmem => 4
  | .smem => 0
  | _ => 0

abbrev bufTy : (tb : Table) → Fin (tcTables nBuf tb) → BufTy
  | .hbm, ⟨0, _⟩ => ⟨S512x2816, .fp8e4m3⟩
  | .hbm, ⟨1, _⟩ => ⟨S512x1, .f32⟩
  | .hbm, ⟨2, _⟩ => ⟨S4, .i32⟩
  | .hbm, ⟨3, _⟩ => ⟨S4x2816x5632, .fp8e4m3⟩
  | .hbm, ⟨4, _⟩ => ⟨S4x5632, .f32⟩
  | .hbm, ⟨5, _⟩ => ⟨S512x2816, .f32⟩
  | .hbm, ⟨6, _⟩ => ⟨S4x2816x5632, .f32⟩
  | .hbm, ⟨7, _⟩ => ⟨S512, .i32⟩
  | .hbm, ⟨8, _⟩ => ⟨S_, .i32⟩
  | .hbm, ⟨9, _⟩ => ⟨S_, .i32⟩
  | .hbm, ⟨10, _⟩ => ⟨S4, .i32⟩
  | .hbm, ⟨11, _⟩ => ⟨S1x512, .i32⟩
  | .hbm, ⟨12, _⟩ => ⟨S4, .i32⟩
  | .hbm, ⟨13, _⟩ => ⟨S4x1, .i32⟩
  | .hbm, ⟨14, _⟩ => ⟨S4x512, .i32⟩
  | .hbm, ⟨15, _⟩ => ⟨S4x512, .i32⟩
  | .hbm, ⟨16, _⟩ => ⟨S4x512, .i1⟩
  | .hbm, ⟨17, _⟩ => ⟨S1x512, .i32⟩
  | .hbm, ⟨18, _⟩ => ⟨S4x1, .i32⟩
  | .hbm, ⟨19, _⟩ => ⟨S4x512, .i32⟩
  | .hbm, ⟨20, _⟩ => ⟨S4x512, .i32⟩
  | .hbm, ⟨21, _⟩ => ⟨S4x512, .i1⟩
  | .hbm, ⟨22, _⟩ => ⟨S4x512, .i1⟩
  | .hbm, ⟨23, _⟩ => ⟨S4x5632x512, .f32⟩
  | .hbm, ⟨24, _⟩ => ⟨S4x512x5632, .f32⟩
  | .hbm, ⟨25, _⟩ => ⟨S4x512x1, .i1⟩
  | .hbm, ⟨26, _⟩ => ⟨S_, .f32⟩
  | .hbm, ⟨27, _⟩ => ⟨S_, .f32⟩
  | .hbm, ⟨28, _⟩ => ⟨S4x512x5632, .i1⟩
  | .hbm, ⟨29, _⟩ => ⟨S4x512x5632, .f32⟩
  | .hbm, ⟨30, _⟩ => ⟨S4x512x5632, .f32⟩
  | .hbm, ⟨31, _⟩ => ⟨S_, .f32⟩
  | .hbm, ⟨32, _⟩ => ⟨S512x5632, .f32⟩
  | .hbm, ⟨33, _⟩ => ⟨S512x1, .i32⟩
  | .hbm, ⟨34, _⟩ => ⟨S1x4, .i32⟩
  | .hbm, ⟨35, _⟩ => ⟨S512x4, .i32⟩
  | .hbm, ⟨36, _⟩ => ⟨S512x4, .i32⟩
  | .hbm, ⟨37, _⟩ => ⟨S512x4, .i1⟩
  | .hbm, ⟨38, _⟩ => ⟨S512x4, .i32⟩
  | .hbm, ⟨39, _⟩ => ⟨S_, .i32⟩
  | .hbm, ⟨40, _⟩ => ⟨S512, .i32⟩
  | .hbm, ⟨41, _⟩ => ⟨S_, .i32⟩
  | .hbm, ⟨42, _⟩ => ⟨S512, .i32⟩
  | .hbm, ⟨43, _⟩ => ⟨S512, .i32⟩
  | .hbm, ⟨44, _⟩ => ⟨S512x5632, .f32⟩
  | .hbm, ⟨45, _⟩ => ⟨S512x5632, .f32⟩
  | .hbm, ⟨46, _⟩ => ⟨S_, .i32⟩
  | .hbm, ⟨47, _⟩ => ⟨S512, .i32⟩
  | .hbm, ⟨48, _⟩ => ⟨S512, .i1⟩
  | .hbm, ⟨49, _⟩ => ⟨S_, .i32⟩
  | .hbm, ⟨50, _⟩ => ⟨S512, .i32⟩
  | .hbm, ⟨51, _⟩ => ⟨S512, .i32⟩
  | .hbm, ⟨52, _⟩ => ⟨S512, .i32⟩
  | .hbm, ⟨53, _⟩ => ⟨S512x1, .i32⟩
  | .hbm, ⟨54, _⟩ => ⟨S512x5632, .f32⟩
  | .hbm, ⟨55, _⟩ => ⟨S512x5632, .f32⟩
  | .hbm, ⟨56, _⟩ => ⟨S512x5632, .bf16⟩
  | .local _ .vmem, ⟨0, _⟩ => ⟨S512x2816, .fp8e4m3⟩
  | .local _ .vmem, ⟨1, _⟩ => ⟨S4x2816x5632, .fp8e4m3⟩
  | .local _ .vmem, ⟨2, _⟩ => ⟨S512x2816, .f32⟩
  | .local _ .vmem, ⟨3, _⟩ => ⟨S4x2816x5632, .f32⟩
  | _, _ => ⟨S512x2816, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v1 : Ref sig .tc := ⟨.hbm, 7, rfl⟩
abbrev main_call0_call0_c : Ref sig .tc := ⟨.hbm, 8, rfl⟩
abbrev main_call0_call0_v0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c : Ref sig .tc := ⟨.hbm, 39, rfl⟩
abbrev main_v26 : Ref sig .tc := ⟨.hbm, 40, rfl⟩
abbrev main_c_1 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_2 : Ref sig .tc := ⟨.hbm, 46, rfl⟩
abbrev main_v31 : Ref sig .tc := ⟨.hbm, 47, rfl⟩
abbrev main_v32 : Ref sig .tc := ⟨.hbm, 48, rfl⟩
abbrev main_c_3 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S512x2816 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4x2816x5632 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x2816 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4x2816x5632 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Proof.Words.lean ====
module

public import proofs.«01_k».proof.Proof.Gen.KernelIdeal.Skeleton

@[expose] public section

set_option maxRecDepth 16384

noncomputable section

/-! # The scalar words of the kernel's body

The body computes, from the four group sizes, where the group of the current expert starts and ends,
the first multiple of 32 at or before its start, and how many blocks of 32 rows it meets. Here each of
the printed offsets and conditions is named by these four words, the words are computed as natural
numbers, and the side conditions the program checks of the loaded group sizes are proved. -/

namespace Cert.KernelIdeal.Moe

open Cert.KernelIdeal Cert.KernelIdeal.Gen
open Idealize.ShloMosaic

/-- The first row of the expert's group. -/
def startW (i : grid0.Coords) (v1 v5 v9 v13 : BitVec 32) : BitVec 32 :=
  Scalar.addi (Scalar.addi (Scalar.addi (Scalar.addi 0#32
    (Scalar.select (Scalar.cmpi .sgt (BitVec.ofNat 32 (i 1).val) 0#32) v1 0#32))
    (Scalar.select (Scalar.cmpi .sgt (BitVec.ofNat 32 (i 1).val) 1#32) v5 0#32))
    (Scalar.select (Scalar.cmpi .sgt (BitVec.ofNat 32 (i 1).val) 2#32) v9 0#32))
    (Scalar.select (Scalar.cmpi .sgt (BitVec.ofNat 32 (i 1).val) 3#32) v13 0#32)

/-- The row after the last of the expert's group. -/
def endW (i : grid0.Coords) (v1 v5 v9 v13 v17 : BitVec 32) : BitVec 32 := Scalar.addi (startW i v1 v5 v9 v13) v17

/-- The start of the block of 32 rows that holds the group's first row. -/
def r0W (i : grid0.Coords) (v1 v5 v9 v13 : BitVec 32) : BitVec 32 :=
  Scalar.muli (Scalar.divsi (startW i v1 v5 v9 v13) 32#32) 32#32

/-- The number of blocks of 32 rows from that start to the group's end. -/
def nbW (i : grid0.Coords) (v1 v5 v9 v13 v17 : BitVec 32) : BitVec 32 :=
  Scalar.subi (Scalar.divsi (Scalar.addi (endW i v1 v5 v9 v13 v17) 31#32) 32#32) (Scalar.divsi (startW i v1 v5 v9 v13) 32#32)

/-- The condition of the branch for `k` blocks: the group is not empty and meets `k` blocks. -/
def condW (i : grid0.Coords) (v1 v5 v9 v13 v17 : BitVec 32) (k : BitVec 32) : BitVec 1 :=
  Scalar.cmpi .ne (Scalar.extui (Scalar.andi
    (Scalar.cmpi .sgt (endW i v1 v5 v9 v13 v17) (startW i v1 v5 v9 v13))
    (Scalar.cmpi .eq (nbW i v1 v5 v9 v13 v17) k))) 0#32

/-- The words fit: the group lies within the 512 rows. -/
def Fits (i : grid0.Coords) (v1 v5 v9 v13 v17 : BitVec 32) : Prop :=
  (startW i v1 v5 v9 v13).toNat + v17.toNat ≤ 512

section

variable {i : grid0.Coords} {v1 v5 v9 v13 v17 : BitVec 32}

/-- Signed division by 32 of a word that is not negative is division of its number. -/
theorem toNat_divsi_32 (x : BitVec 32) (hx : x.toNat < 2 ^ 31) : (Scalar.divsi x 32#32).toNat = x.toNat / 32 := by
  have h1 : Scalar.divsi x 32#32 = x.sdiv 32#32 := by
    show (if IntOp.SDivCorner x 32#32 then _ else _) = _
    rw [if_neg]
    unfold IntOp.SDivCorner
    simp
  rw [h1, BitVec.sdiv_eq]
  have hm : x.msb = false := by rw [BitVec.msb_eq_false_iff_two_mul_lt]; omega
  rw [hm]
  show (x / 32#32).toNat = _
  rw [BitVec.toNat_udiv]; rfl

/-- A sum that does not overflow is the sum of the numbers. -/
theorem toNat_addi (x y : BitVec 32) (h : x.toNat + y.toNat < 2 ^ 32) : (Scalar.addi x y).toNat = x.toNat + y.toNat := by
  show (x + y).toNat = _
  rw [BitVec.toNat_add, Nat.mod_eq_of_lt h]

/-- The group's end, as a number, is its start plus its size. -/
theorem endW_toNat (hf : Fits i v1 v5 v9 v13 v17) :
    (endW i v1 v5 v9 v13 v17).toNat = (startW i v1 v5 v9 v13).toNat + v17.toNat := by
  unfold Fits at hf
  exact toNat_addi _ _ (by omega)

/-- The first row read, as a number, is the start rounded down to a multiple of 32. -/
theorem r0W_toNat (hs : (startW i v1 v5 v9 v13).toNat ≤ 512) :
    (r0W i v1 v5 v9 v13).toNat = (startW i v1 v5 v9 v13).toNat / 32 * 32 := by
  unfold r0W
  show (Scalar.divsi _ 32#32 * 32#32).toNat = _
  rw [BitVec.toNat_mul, toNat_divsi_32 _ (by omega)]
  simp
  omega

/-- The number of blocks of 32 rows that the group touches. -/
theorem nbW_toNat (hf : Fits i v1 v5 v9 v13 v17) :
    (nbW i v1 v5 v9 v13 v17).toNat
      = ((startW i v1 v5 v9 v13).toNat + v17.toNat + 31) / 32 - (startW i v1 v5 v9 v13).toNat / 32 := by
  have he := endW_toNat hf
  unfold Fits at hf
  have ha : (Scalar.addi (endW i v1 v5 v9 v13 v17) 31#32).toNat = (startW i v1 v5 v9 v13).toNat + v17.toNat + 31 := by
    rw [toNat_addi _ _ (by rw [he]; simp; omega), he]; rfl
  unfold nbW
  show (Scalar.divsi _ 32#32 - Scalar.divsi _ 32#32).toNat = _
  rw [BitVec.toNat_sub, toNat_divsi_32 _ (by omega), toNat_divsi_32 _ (by omega), ha]
  omega

/-- A truth value as a one-bit word is one exactly when it is true. -/
theorem ofBool_eq_one (b : Bool) : BitVec.ofBool b = 1#1 ↔ b = true := by cases b <;> decide

/-- Signed less-than of words that are not negative is that of their numbers, -/
theorem slt_iff (x y : BitVec 32) (hx : x.toNat < 2 ^ 31) (hy : y.toNat < 2 ^ 31) : x.slt y = true ↔ x.toNat < y.toNat := by
  rw [BitVec.slt_iff_toInt_lt, BitVec.toInt_eq_toNat_of_lt (by omega), BitVec.toInt_eq_toNat_of_lt (by omega)]
  omega

/-- and so is signed at-most. -/
theorem sle_iff (x y : BitVec 32) (hx : x.toNat < 2 ^ 31) (hy : y.toNat < 2 ^ 31) : x.sle y = true ↔ x.toNat ≤ y.toNat := by
  rw [BitVec.sle_iff_toInt_le, BitVec.toInt_eq_toNat_of_lt (by omega), BitVec.toInt_eq_toNat_of_lt (by omega)]
  omega

/-- A one-bit word widened is not zero exactly when the word is one. -/
theorem ne_extui (b : BitVec 1) : Scalar.cmpi .ne (Scalar.extui b) 0#32 = b := by
  revert b; decide

/-- The branch for `k` blocks is taken exactly when the group has a row and meets `k` blocks. -/
theorem condW_iff (hf : Fits i v1 v5 v9 v13 v17) (k : BitVec 32) :
    condW i v1 v5 v9 v13 v17 k = 1#1 ↔ 0 < v17.toNat ∧ (nbW i v1 v5 v9 v13 v17).toNat = k.toNat := by
  have he := endW_toNat hf
  unfold Fits at hf
  unfold condW
  rw [ne_extui]
  have hand : ∀ a b : BitVec 1, Scalar.andi a b = 1#1 ↔ a = 1#1 ∧ b = 1#1 := by decide
  rw [hand]
  have h1 : Scalar.cmpi .sgt (endW i v1 v5 v9 v13 v17) (startW i v1 v5 v9 v13) = 1#1 ↔ 0 < v17.toNat := by
    show BitVec.ofBool _ = 1#1 ↔ _
    rw [ofBool_eq_one, slt_iff _ _ (by omega) (by omega), he]; omega
  have h2 : Scalar.cmpi .eq (nbW i v1 v5 v9 v13 v17) k = 1#1 ↔ (nbW i v1 v5 v9 v13 v17).toNat = k.toNat := by
    show BitVec.ofBool _ = 1#1 ↔ _
    rw [ofBool_eq_one, beq_iff_eq, BitVec.toNat_inj]
  rw [h1, h2]

/-- A taken branch's blocks end within the 512 rows. -/
theorem r0_fits (hf : Fits i v1 v5 v9 v13 v17) {k : BitVec 32} (hc : condW i v1 v5 v9 v13 v17 k = 1#1) :
    (r0W i v1 v5 v9 v13).toNat + 32 * k.toNat ≤ 512 := by
  obtain ⟨h0, hk⟩ := (condW_iff hf k).mp hc
  rw [nbW_toNat hf] at hk
  have hr := r0W_toNat (i := i) (v1 := v1) (v5 := v5) (v9 := v9) (v13 := v13) (by unfold Fits at hf; omega)
  unfold Fits at hf
  rw [hr, ← hk]
  omega

/-- A taken branch's window at the block start is inside its array. -/
theorem inb_r0 (hf : Fits i v1 v5 v9 v13 v17) (k : BitVec 32) (hc : condW i v1 v5 v9 v13 v17 k = 1#1) {n w : ℕ} (hn : n ≤ 32 * k.toNat) :
    ∀ a, (![(r0W i v1 v5 v9 v13).toNat, 0] : Fin 2 → ℕ) a + (⟨2, ![n, w]⟩ : Shape).size a ≤ (⟨2, ![512, w]⟩ : Shape).size a := by
  have h := r0_fits hf hc
  intro a
  fin_cases a
  · show (r0W i v1 v5 v9 v13).toNat + n ≤ 512; omega
  · show 0 + w ≤ w; omega

/-- The row `c` of a taken branch's blocks. -/
theorem toNat_r0_add (hf : Fits i v1 v5 v9 v13 v17) {k : BitVec 32} (hc : condW i v1 v5 v9 v13 v17 k = 1#1) {c : BitVec 32}
    (h : c.toNat ≤ 32 * k.toNat) : (Scalar.addi (r0W i v1 v5 v9 v13) c).toNat = (r0W i v1 v5 v9 v13).toNat + c.toNat := by
  have := r0_fits hf hc
  exact toNat_addi _ _ (by omega)

/-- A taken branch's window at row `c` of its blocks is inside its array. -/
theorem inb_r0_add (hf : Fits i v1 v5 v9 v13 v17) (k : BitVec 32) (hc : condW i v1 v5 v9 v13 v17 k = 1#1) {c : BitVec 32} {n w : ℕ}
    (hn : c.toNat + n ≤ 32 * k.toNat) :
    ∀ a, (![(Scalar.addi (r0W i v1 v5 v9 v13) c).toNat, 0] : Fin 2 → ℕ) a + (⟨2, ![n, w]⟩ : Shape).size a ≤ (⟨2, ![512, w]⟩ : Shape).size a := by
  have h := r0_fits hf hc
  have hr := toNat_r0_add hf hc (c := c) (by omega)
  intro a
  fin_cases a
  · show (Scalar.addi (r0W i v1 v5 v9 v13) c).toNat + n ≤ 512; omega
  · show 0 + w ≤ w; omega

/-- A rectangle of an even number of rows from an even row is whole words of bf16. -/
theorem packed_rows (off : Fin 2 → ℕ) (n w : ℕ) (h : ∀ a, off a + (⟨2, ![n, w]⟩ : Shape).size a ≤ (⟨2, ![512, w]⟩ : Shape).size a)
    (h0 : 2 ∣ off 0) (hn : 2 ∣ n) :
    (Rect.unit (s := ⟨2, ![512, w]⟩) off (⟨2, ![n, w]⟩ : Shape).size h).PackedRows (EltTy.packing .bf16) :=
  .inr ⟨le_refl 2, rfl, .inl ⟨h0, hn⟩⟩

/-- The first row read is even. -/
theorem r0_even (hf : Fits i v1 v5 v9 v13 v17) : 2 ∣ (r0W i v1 v5 v9 v13).toNat := by
  rw [r0W_toNat (by unfold Fits at hf; omega)]; omega

/-- So is an even offset from it, within the blocks read. -/
theorem r0_add_even (hf : Fits i v1 v5 v9 v13 v17) {k : BitVec 32} (hc : condW i v1 v5 v9 v13 v17 k = 1#1) {c : BitVec 32}
    (h : c.toNat ≤ 32 * k.toNat) (h2 : 2 ∣ c.toNat) : 2 ∣ (Scalar.addi (r0W i v1 v5 v9 v13) c).toNat := by
  rw [toNat_r0_add hf hc h]
  have := r0_even hf
  omega

/-- The first side condition: the block start is a multiple of 32. -/
theorem chk1 (hf : Fits i v1 v5 v9 v13 v17) : k0_chk1 i v1 v5 v9 v13 := by
  show 32 ∣ (r0W i v1 v5 v9 v13).toNat
  rw [r0W_toNat (by unfold Fits at hf; omega)]; omega

/-- The numbers of the words `m * r`, for `r` below a bound, all within the branch's blocks. -/
theorem toNat_mul_le {N m : ℕ} {k : BitVec 32} (r : Fin (N + 1)) (hm : m * N + 32 ≤ 32 * k.toNat) (hk : k.toNat ≤ 16) :
    (BitVec.ofNat 32 (m * r.val)).toNat = m * r.val ∧ m * r.val + 32 ≤ 32 * k.toNat := by
  have h1 : m * r.val ≤ m * N := Nat.mul_le_mul_left _ (by omega)
  rw [BitVec.toNat_ofNat, Nat.mod_eq_of_lt (by omega)]
  exact ⟨rfl, by omega⟩

/-- The windows of 32 rows at the rows `m * r` of a taken branch's blocks are inside the output block, -/
theorem inb_mul (hf : Fits i v1 v5 v9 v13 v17) (k : BitVec 32) (hc : condW i v1 v5 v9 v13 v17 k = 1#1) (N m : ℕ) {w : ℕ}
    (hm : m * N + 32 ≤ 32 * k.toNat) (hk : k.toNat ≤ 16) (r : Fin (N + 1)) :
    ∀ a, (![(Scalar.addi (r0W i v1 v5 v9 v13) (BitVec.ofNat 32 (m * r.val))).toNat, 0] : Fin 2 → ℕ) a + (⟨2, ![32, w]⟩ : Shape).size a
      ≤ (⟨2, ![512, w]⟩ : Shape).size a := by
  obtain ⟨e, h⟩ := toNat_mul_le r hm hk
  exact inb_r0_add hf k hc (by rw [e]; exact h)

/-- and start at an even row. -/
theorem even_mul (hf : Fits i v1 v5 v9 v13 v17) {k : BitVec 32} (hc : condW i v1 v5 v9 v13 v17 k = 1#1) {N m : ℕ}
    (hm : m * N + 32 ≤ 32 * k.toNat) (hk : k.toNat ≤ 16) (h2 : 2 ∣ m) (r : Fin (N + 1)) :
    2 ∣ (Scalar.addi (r0W i v1 v5 v9 v13) (BitVec.ofNat 32 (m * r.val))).toNat := by
  obtain ⟨e, h⟩ := toNat_mul_le r hm hk
  exact r0_add_even hf hc (by rw [e]; omega) (by rw [e]; exact Dvd.dvd.mul_right h2 _)

/-- A window of a taken branch's rows at row `c`, whole words of bf16. -/
theorem pk_add (hf : Fits i v1 v5 v9 v13 v17) (k : BitVec 32) (hc : condW i v1 v5 v9 v13 v17 k = 1#1) {c : BitVec 32} {n : ℕ}
    (h1 : c.toNat ≤ 32 * k.toNat) (h2 : 2 ∣ c.toNat) (h3 : 2 ∣ n)
    (hinb : ∀ a, (![(Scalar.addi (r0W i v1 v5 v9 v13) c).toNat, 0] : Fin 2 → ℕ) a + (⟨2, ![n, 512]⟩ : Shape).size a ≤ (⟨2, ![512, 512]⟩ : Shape).size a) :
    (Rect.unit (s := ⟨2, ![512, 512]⟩) ![(Scalar.addi (r0W i v1 v5 v9 v13) c).toNat, 0] (⟨2, ![n, 512]⟩ : Shape).size hinb).PackedRows
      (EltTy.packing .bf16) :=
  packed_rows _ _ _ hinb (r0_add_even hf hc h1 h2) h3

/-- A window of a taken branch's rows at row `m * r`, whole words of bf16. -/
theorem pk_mul (hf : Fits i v1 v5 v9 v13 v17) (k : BitVec 32) (hc : condW i v1 v5 v9 v13 v17 k = 1#1) (N m : ℕ)
    (hm : m * N + 32 ≤ 32 * k.toNat) (hk : k.toNat ≤ 16) (h2 : 2 ∣ m) (r : Fin (N + 1))
    (hinb : ∀ a, (![(Scalar.addi (r0W i v1 v5 v9 v13) (BitVec.ofNat 32 (m * r.val))).toNat, 0] : Fin 2 → ℕ) a + (⟨2, ![32, 512]⟩ : Shape).size a
      ≤ (⟨2, ![512, 512]⟩ : Shape).size a) :
    (Rect.unit (s := ⟨2, ![512, 512]⟩) ![(Scalar.addi (r0W i v1 v5 v9 v13) (BitVec.ofNat 32 (m * r.val))).toNat, 0]
      (⟨2, ![32, 512]⟩ : Shape).size hinb).PackedRows (EltTy.packing .bf16) :=
  packed_rows _ _ _ hinb (even_mul hf hc hm hk h2 r) (by decide)

end

end Cert.KernelIdeal.Moe

end
-- ==== Proof.Checks.lean ====
module

public import proofs.«01_k».proof.Proof.Words

@[expose] public section

set_option maxRecDepth 16384

noncomputable section

/-! # The side condition on the windows of the taken branch -/

namespace Cert.KernelIdeal.Moe

open Cert.KernelIdeal Cert.KernelIdeal.Gen
open Idealize.ShloMosaic

variable {i : grid0.Coords} {v1 v5 v9 v13 v17 : BitVec 32}

set_option maxHeartbeats 2000000 in
/-- The facts of the side condition about the branches for one to six blocks, and the first two of the branch for seven. -/
theorem chk2_0 (hf : Fits i v1 v5 v9 v13 v17) : k0_chk2_0 i v1 v5 v9 v13 v17 :=
  ⟨fun h => inb_r0 hf 1#32 h (by decide),
   fun h => inb_r0 hf 1#32 h (by decide),
   fun h => inb_r0_add hf 1#32 h (c := 0#32) (by decide),
   fun h => pk_add hf 1#32 h (c := 0#32) (by decide) (by decide) (by decide),
   fun h => inb_r0 hf 2#32 h (by decide),
   fun h => inb_r0 hf 2#32 h (by decide),
   fun h => inb_mul hf 2#32 h 1 32 (by decide) (by decide),
   fun h => pk_mul hf 2#32 h 1 32 (by decide) (by decide) (by decide),
   fun h => inb_r0 hf 3#32 h (by decide),
   fun h => inb_r0 hf 3#32 h (by decide),
   fun h => inb_mul hf 3#32 h 2 32 (by decide) (by decide),
   fun h => pk_mul hf 3#32 h 2 32 (by decide) (by decide) (by decide),
   fun h => inb_r0 hf 4#32 h (by decide),
   fun h => inb_r0 hf 4#32 h (by decide),
   fun h => inb_mul hf 4#32 h 1 96 (by decide) (by decide),
   fun h => pk_mul hf 4#32 h 1 96 (by decide) (by decide) (by decide),
   fun h => inb_r0_add hf 4#32 h (c := 32#32) (by decide),
   fun h => pk_add hf 4#32 h (c := 32#32) (by decide) (by decide) (by decide),
   fun h => inb_r0 hf 5#32 h (by decide),
   fun h => inb_r0 hf 5#32 h (by decide),
   fun h => inb_mul hf 5#32 h 1 128 (by decide) (by decide),
   fun h => pk_mul hf 5#32 h 1 128 (by decide) (by decide) (by decide),
   fun h => inb_r0_add hf 5#32 h (c := 32#32) (by decide),
   fun h => pk_add hf 5#32 h (c := 32#32) (by decide) (by decide) (by decide),
   fun h => inb_r0 hf 6#32 h (by decide),
   fun h => inb_r0 hf 6#32 h (by decide),
   fun h => inb_mul hf 6#32 h 1 160 (by decide) (by decide),
   fun h => pk_mul hf 6#32 h 1 160 (by decide) (by decide) (by decide),
   fun h => inb_r0_add hf 6#32 h (c := 32#32) (by decide),
   fun h => pk_add hf 6#32 h (c := 32#32) (by decide) (by decide) (by decide),
   fun h => inb_r0 hf 7#32 h (by decide),
   fun h => inb_r0 hf 7#32 h (by decide)⟩

set_option maxHeartbeats 2000000 in
/-- The facts of the side condition about the rest of that branch's, to the first windows of the branch for twelve. -/
theorem chk2_1 (hf : Fits i v1 v5 v9 v13 v17) : k0_chk2_1 i v1 v5 v9 v13 v17 :=
  ⟨fun h => inb_mul hf 7#32 h 1 192 (by decide) (by decide),
   fun h => pk_mul hf 7#32 h 1 192 (by decide) (by decide) (by decide),
   fun h => inb_r0_add hf 7#32 h (c := 32#32) (by decide),
   fun h => pk_add hf 7#32 h (c := 32#32) (by decide) (by decide) (by decide),
   fun h => inb_r0 hf 8#32 h (by decide),
   fun h => inb_r0 hf 8#32 h (by decide),
   fun h => inb_mul hf 8#32 h 1 224 (by decide) (by decide),
   fun h => pk_mul hf 8#32 h 1 224 (by decide) (by decide) (by decide),
   fun h => inb_r0_add hf 8#32 h (c := 32#32) (by decide),
   fun h => pk_add hf 8#32 h (c := 32#32) (by decide) (by decide) (by decide),
   fun h => inb_r0 hf 9#32 h (by decide),
   fun h => inb_r0 hf 9#32 h (by decide),
   fun h => inb_mul hf 9#32 h 1 256 (by decide) (by decide),
   fun h => pk_mul hf 9#32 h 1 256 (by decide) (by decide) (by decide),
   fun h => inb_r0_add hf 9#32 h (c := 32#32) (by decide),
   fun h => pk_add hf 9#32 h (c := 32#32) (by decide) (by decide) (by decide),
   fun h => inb_r0 hf 10#32 h (by decide),
   fun h => inb_r0 hf 10#32 h (by decide),
   fun h => inb_mul hf 10#32 h 1 288 (by decide) (by decide),
   fun h => pk_mul hf 10#32 h 1 288 (by decide) (by decide) (by decide),
   fun h => inb_r0_add hf 10#32 h (c := 32#32) (by decide),
   fun h => pk_add hf 10#32 h (c := 32#32) (by decide) (by decide) (by decide),
   fun h => inb_r0 hf 11#32 h (by decide),
   fun h => inb_r0 hf 11#32 h (by decide),
   fun h => inb_mul hf 11#32 h 1 320 (by decide) (by decide),
   fun h => pk_mul hf 11#32 h 1 320 (by decide) (by decide) (by decide),
   fun h => inb_r0_add hf 11#32 h (c := 32#32) (by decide),
   fun h => pk_add hf 11#32 h (c := 32#32) (by decide) (by decide) (by decide),
   fun h => inb_r0 hf 12#32 h (by decide),
   fun h => inb_r0 hf 12#32 h (by decide),
   fun h => inb_mul hf 12#32 h 1 352 (by decide) (by decide),
   fun h => pk_mul hf 12#32 h 1 352 (by decide) (by decide) (by decide)⟩

set_option maxHeartbeats 2000000 in
/-- The facts of the side condition about the rest. -/
theorem chk2_2 (hf : Fits i v1 v5 v9 v13 v17) : k0_chk2_2 i v1 v5 v9 v13 v17 :=
  ⟨fun h => inb_r0_add hf 12#32 h (c := 32#32) (by decide),
   fun h => pk_add hf 12#32 h (c := 32#32) (by decide) (by decide) (by decide),
   fun h => inb_r0 hf 13#32 h (by decide),
   fun h => inb_r0 hf 13#32 h (by decide),
   fun h => inb_mul hf 13#32 h 1 384 (by decide) (by decide),
   fun h => pk_mul hf 13#32 h 1 384 (by decide) (by decide) (by decide),
   fun h => inb_r0_add hf 13#32 h (c := 32#32) (by decide),
   fun h => pk_add hf 13#32 h (c := 32#32) (by decide) (by decide) (by decide),
   fun h => inb_r0 hf 14#32 h (by decide),
   fun h => inb_r0 hf 14#32 h (by decide),
   fun h => inb_mul hf 14#32 h 1 416 (by decide) (by decide),
   fun h => pk_mul hf 14#32 h 1 416 (by decide) (by decide) (by decide),
   fun h => inb_r0_add hf 14#32 h (c := 32#32) (by decide),
   fun h => pk_add hf 14#32 h (c := 32#32) (by decide) (by decide) (by decide),
   fun h => inb_r0 hf 15#32 h (by decide),
   fun h => inb_r0 hf 15#32 h (by decide),
   fun h => inb_mul hf 15#32 h 1 448 (by decide) (by decide),
   fun h => pk_mul hf 15#32 h 1 448 (by decide) (by decide) (by decide),
   fun h => inb_r0_add hf 15#32 h (c := 32#32) (by decide),
   fun h => pk_add hf 15#32 h (c := 32#32) (by decide) (by decide) (by decide),
   fun h => inb_r0 hf 16#32 h (by decide),
   fun h => inb_r0 hf 16#32 h (by decide),
   fun h => inb_mul hf 16#32 h 1 480 (by decide) (by decide),
   fun h => pk_mul hf 16#32 h 1 480 (by decide) (by decide) (by decide),
   fun h => inb_r0_add hf 16#32 h (c := 32#32) (by decide),
   fun h => pk_add hf 16#32 h (c := 32#32) (by decide) (by decide) (by decide)⟩

/-- The second side condition: every window a taken branch reads or writes is inside its array, and the
    windows written are whole words. -/
theorem chk2 (hf : Fits i v1 v5 v9 v13 v17) : k0_chk2 i v1 v5 v9 v13 v17 := ⟨chk2_0 hf, chk2_1 hf, chk2_2 hf⟩

end Cert.KernelIdeal.Moe

end
-- ==== Proof.Body.lean ====
module

public import proofs.«01_k».proof.Proof.Checks
public import proofs.«01_k».proof.Proof.Gen.KernelIdeal.Launch
public import Idealize.ShloMosaic.Lib.VecWindow

@[expose] public section

set_option maxRecDepth 16384

noncomputable section

/-! # One branch of the kernel's body

The body has one branch for each number of blocks of 32 rows a group may meet. The branches differ in
the number of rows alone, so they are one program, `branch`, in the number of rows; here is what one
run of it leaves in the output block, as a function of the four input blocks. -/

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-! ## What the branches compute -/

/-- The rows of the block of 32 at row `r` that lie in the group from row `s` to row `e`. -/
def maskOf (s e r : BitVec 32) : IVec S32x1 1 :=
  andi (cmpi .sge (addi (broadcast S32x1 r) (iota .tc S32x1 32 [0] iota_S32x1_d0_w32)) (broadcast S32x1 s))
    (cmpi .slt (addi (broadcast S32x1 r) (iota .tc S32x1 32 [0] iota_S32x1_d0_w32)) (broadcast S32x1 e))

/-- A block of 32 rows with the computed values where the mask holds and the old ones elsewhere. -/
def blend (m : IVec S32x1 1) (y : FVec F S32x512 .f32) (old : Vec F S32x512 .bf16) : FVec F S32x512 .bf16 :=
  truncf .bf16
    (select (broadcastTo S32x512 (shapeCast S32x1 m shapeCasts_S32x1_S32x1) broadcasts_S32x1_S32x512) y
      (extf .f32 (shapeCast S32x512 old shapeCasts_S32x512_S32x512) bitsLt_bf16_f32))
    bitsLt_bf16_f32

/-- A column of scales repeats along the rows of any matrix of as many rows. -/
theorem bc_col (n : ℕ) : (⟨2, ![n, 1]⟩ : Shape).Broadcasts ⟨2, ![n, 512]⟩ := by
  refine ⟨le_refl _, fun a => ?_⟩
  fin_cases a
  · exact Or.inr fun _ => rfl
  · exact Or.inl rfl

/-- A row of scales repeats down the columns of any matrix as wide. -/
theorem bc_row (n : ℕ) : S1x512.Broadcasts ⟨2, ![n, 512]⟩ := by
  refine ⟨le_refl _, fun a => ?_⟩
  fin_cases a
  · exact Or.inl rfl
  · exact Or.inr fun _ => rfl

/-- The scaled product of `n` rows with the expert's weights. -/
def prodOf (n : ℕ) (x : Vec F ⟨2, ![n, 2816]⟩ .fp8e4m3) (w : Vec F S1x2816x512 .fp8e4m3) (xs : Vec F ⟨2, ![n, 1]⟩ .f32)
    (ws : Vec F S1x512 .f32) : FVec F ⟨2, ![n, 512]⟩ .f32 :=
  mulf (mulf (matmul (DotDims.plain n 2816 512) none x (shapeCast S2816x512 w shapeCasts_S1x2816x512_S2816x512)
      (constant ⟨2, ![n, 512]⟩ .f32 0x00000000#32))
    (broadcastTo ⟨2, ![n, 512]⟩ xs (bc_col n))) (broadcastTo ⟨2, ![n, 512]⟩ ws (bc_row n))

/-- A range of rows of a matrix. -/
theorem rows_slice {n o r : ℕ} (h : o + r ≤ n) : (⟨2, ![n, 512]⟩ : Shape).Slices ![o, 0] ⟨2, ![r, 512]⟩ := by
  refine ⟨rfl, fun a => ?_⟩
  fin_cases a
  · exact h
  · exact le_refl _

/-- The rows of a product from row `o` on. -/
def rowsOf {n : ℕ} (o r : ℕ) (h : o + r ≤ n) (y : FVec F ⟨2, ![n, 512]⟩ .f32) : FVec F ⟨2, ![r, 512]⟩ .f32 :=
  extractStridedSlice ⟨2, ![r, 512]⟩ ![o, 0] y (rows_slice h)

/-! ## Loads and stores of a block held by its values -/

variable (c : Dev nD)

/-- A load of a window of a block that holds `x` answers the window of `x`. -/
theorem load_owns {cs : CoreSpace} {s : Shape} {e : EltTy} {m : Memref sig .tc cs s e} {q : PosShare TreeShare} (x : s.Idx → Elt F e)
    (off size : Fin s.rank → ℕ) (inb : ∀ a, off a + size a ≤ s.size a)
    (hl : m.view.LoadsAt (Rect.unit off size inb).toLoadRect)
    (Q : ((Rect.unit off size inb).shape.Idx → Elt F e) → sProp 𝕄) :
    (owns (c : Thread nD τ) m q x : sProp 𝕄)
      ⊢ iprop(((owns (c : Thread nD τ) m q x : sProp 𝕄) -∗ Q (VecWindow.window x off size inb))
        -∗ wp frame (wpE (defs₀ (F := F)) Variants.none c none) Set.univ
            (Prog.lift (.load m (Rect.unit off size inb).toLoadRect hl)) Q) := by
  unfold owns
  iintro ⟨%f, %hf, HO⟩ Hk
  iapply (wp_load Variants.none (c : Thread nD τ) none Set.univ (View.setOn_subset_set _ _)) $$ HO
  iintro HO
  iapply le_wp_ret
  rw [View.readAt_unit _ f inb rfl inb, hf]
  iapply Hk
  iexists f
  isplitr
  · ipureintro; exact hf
  iexact HO

/-- A store over a window of a block that holds `x` leaves `x` with the window replaced. -/
theorem store_owns {cs : CoreSpace} {s : Shape} {e : EltTy} {m : Memref sig .tc cs s e} (x : s.Idx → Elt F e)
    (off size : Fin s.rank → ℕ) (inb : ∀ a, off a + size a ≤ s.size a) (w : (Rect.unit off size inb).shape.Idx → Elt F e)
    (hx : (m.access (Rect.unit off size inb)).Stores Finset.univ)
    (hm : Finset.univ = Finset.univ ∨ ∀ a, (Rect.unit off size inb).stride a = 1) (Q : PUnit → sProp 𝕄) :
    (owns (c : Thread nD τ) m fullShare x : sProp 𝕄)
      ⊢ iprop(((owns (c : Thread nD τ) m fullShare (VecWindow.put x off size w) : sProp 𝕄) -∗ Q ⟨⟩)
        -∗ wp frame (wpE (defs₀ (F := F)) Variants.none c none) Set.univ
            (Prog.lift (.store m (Rect.unit off size inb) w Finset.univ hx hm)) Q) := by
  unfold owns
  iintro ⟨%f, %hf, HO⟩ Hk
  iapply (wp_store_writes₀ Variants.none (c : Thread nD τ) none Set.univ (View.set_slice_subset _ _)) $$ HO
  iintro HO
  iapply le_wp_ret
  iapply Hk
  iexists _
  isplitr
  · ipureintro
    exact (View.read_writes_cons_put _ f inb w [] rfl).trans (congrArg (fun z => VecWindow.put z off size w) hf)
  iexact HO

/-! ## The branches -/

/-- The windows a branch of `n` rows from row `r` on loads lie inside the input blocks. -/
structure Rows (n : ℕ) (r : BitVec 32) (offE : Fin 2 → ℕ) : Prop where
  x : ∀ a, (![r.toNat, 0] : Fin 2 → ℕ) a + (⟨2, ![n, 2816]⟩ : Shape).size a ≤ S512x2816.size a
  xs : ∀ a, (![r.toNat, 0] : Fin 2 → ℕ) a + (⟨2, ![n, 1]⟩ : Shape).size a ≤ S512x1.size a
  ws : ∀ a, offE a + S1x512.size a ≤ S4x512.size a
  pos : 0 < n

/-- A window of the output block that may be stored to: it lies inside, in whole packed rows. -/
structure Out (n : ℕ) (off : Fin 2 → ℕ) : Prop where
  inb : ∀ a, off a + (⟨2, ![n, 512]⟩ : Shape).size a ≤ S512x512.size a
  packed : (Rect.unit (s := S512x512) off (⟨2, ![n, 512]⟩ : Shape).size inb).PackedRows (EltTy.packing .bf16)
  pos : 0 < n

/-- A rectangle with rows and columns has elements. -/
theorem numel_pos {n w : ℕ} (hn : 0 < n) (hw : 0 < w) : 0 < (⟨2, ![n, w]⟩ : Shape).numel := by
  have h : (⟨2, ![n, w]⟩ : Shape).numel = n * w := by simp [Shape.numel, Fin.prod_univ_two]
  rw [h]; exact Nat.mul_pos hn hw

/-- The scaled product a branch of `n` rows computes from the input blocks. -/
def prodAt (x0 : Vec F S512x2816 .fp8e4m3) (x1 : Vec F S512x1 .f32) (x2 : Vec F S1x2816x512 .fp8e4m3) (x3 : Vec F S4x512 .f32)
    {n : ℕ} {r : BitVec 32} {offE : Fin 2 → ℕ} (h : Rows n r offE) : FVec F ⟨2, ![n, 512]⟩ .f32 :=
  prodOf n (VecWindow.window (s := S512x2816) x0 ![r.toNat, 0] (⟨2, ![n, 2816]⟩ : Shape).size h.x)
    (VecWindow.window (s := S1x2816x512) x2 ![0, 0, 0] S1x2816x512.size inb_S1x2816x512_S1x2816x512_0_0_0)
    (VecWindow.window (s := S512x1) x1 ![r.toNat, 0] (⟨2, ![n, 1]⟩ : Shape).size h.xs)
    (VecWindow.window (s := S4x512) x3 offE S1x512.size h.ws)

/-- The output block with 32 rows of it from row `off` blended with `y`. -/
def putBlend (off : Fin 2 → ℕ) (h : Out 32 off) (m : IVec S32x1 1) (y : FVec F S32x512 .f32) (o : Vec F S512x512 .bf16) : Vec F S512x512 .bf16 :=
  VecWindow.put (s := S512x512) o off S32x512.size (blend m y (VecWindow.window (s := S512x512) o off S32x512.size h.inb))

/-- The output block with `n` rows of it replaced by `y`. -/
def putRows {n : ℕ} (off : Fin 2 → ℕ) (y : FVec F ⟨2, ![n, 512]⟩ .f32) (o : Vec F S512x512 .bf16) : Vec F S512x512 .bf16 :=
  VecWindow.put (s := S512x512) o off (⟨2, ![n, 512]⟩ : Shape).size (truncf .bf16 y bitsLt_bf16_f32)

section Prog

variable (arg3 : Memref sig .tc .vmem S512x2816 .fp8e4m3) (arg4 : Memref sig .tc .vmem S512x1 .f32)
  (arg5 : Memref sig .tc .vmem S1x2816x512 .fp8e4m3) (arg6 : Memref sig .tc .vmem S4x512 .f32)
  (arg7 : Memref sig .tc .vmem S512x512 .bf16) (harg7 : arg7.IsWhole)

/-- The loads of a branch, and the product of what they answer. -/
def loadsP {n : ℕ} {r : BitVec 32} {offE : Fin 2 → ℕ} (h : Rows n r offE) {α : Type}
    (k : FVec F ⟨2, ![n, 512]⟩ .f32 → Prog (TpuEff nD τ sig (Elt F) Λ₀ .tc) α) : Prog (TpuEff nD τ sig (Elt F) Λ₀ .tc) α := do
  let a : Vec F ⟨2, ![n, 2816]⟩ .fp8e4m3 ← Prog.lift (.load arg3 (Rect.unit (s := S512x2816) ![r.toNat, 0] (⟨2, ![n, 2816]⟩ : Shape).size h.x).toLoadRect (View.loadsAt_vmem (numel_pos h.pos (by decide))))
  let w : Vec F S1x2816x512 .fp8e4m3 ← Prog.lift (.load arg5 (Rect.unit (s := S1x2816x512) ![0, 0, 0] S1x2816x512.size inb_S1x2816x512_S1x2816x512_0_0_0).toLoadRect (View.loadsAt_vmem h_S1x2816x512))
  let xs : Vec F ⟨2, ![n, 1]⟩ .f32 ← Prog.lift (.load arg4 (Rect.unit (s := S512x1) ![r.toNat, 0] (⟨2, ![n, 1]⟩ : Shape).size h.xs).toLoadRect (View.loadsAt_vmem (numel_pos h.pos (by decide))))
  let ws : Vec F S1x512 .f32 ← Prog.lift (.load arg6 (Rect.unit (s := S4x512) offE S1x512.size h.ws).toLoadRect (View.loadsAt_vmem h_S1x512))
  k (prodOf n a w xs ws)

/-- The store of 32 blended rows. -/
def blendP (off : Fin 2 → ℕ) (h : Out 32 off) (m : IVec S32x1 1) (y : FVec F S32x512 .f32) {α : Type}
    (k : Prog (TpuEff nD τ sig (Elt F) Λ₀ .tc) α) : Prog (TpuEff nD τ sig (Elt F) Λ₀ .tc) α := do
  let old : Vec F S32x512 .bf16 ← Prog.lift (.load arg7 (Rect.unit (s := S512x512) off S32x512.size h.inb).toLoadRect (View.loadsAt_vmem h_S32x512))
  let _ : Vec F S32x512 .bf16 ← Prog.lift (.load arg7 (Rect.unit (s := S512x512) off S32x512.size h.inb).toLoadRect (View.loadsAt_vmem h_S32x512))
  Prog.lift (.store arg7 (Rect.unit (s := S512x512) off S32x512.size h.inb) (blend m y old) Finset.univ (View.stores_vmem h_S32x512 (harg7.storeExact_slice rfl _ h.packed) (fun _ => rfl)) (.inl rfl))
  k

/-- The store of rows that lie inside the group. -/
def rowsP {n : ℕ} (off : Fin 2 → ℕ) (h : Out n off) (y : FVec F ⟨2, ![n, 512]⟩ .f32) {α : Type}
    (k : Prog (TpuEff nD τ sig (Elt F) Λ₀ .tc) α) : Prog (TpuEff nD τ sig (Elt F) Λ₀ .tc) α := do
  let _ : Vec F ⟨2, ![n, 512]⟩ .bf16 ← Prog.lift (.load arg7 (Rect.unit (s := S512x512) off (⟨2, ![n, 512]⟩ : Shape).size h.inb).toLoadRect (View.loadsAt_vmem (numel_pos h.pos (by decide))))
  Prog.lift (.store arg7 (Rect.unit (s := S512x512) off (⟨2, ![n, 512]⟩ : Shape).size h.inb) (truncf .bf16 y bitsLt_bf16_f32) Finset.univ (View.stores_vmem (numel_pos h.pos (by decide)) (harg7.storeExact_slice rfl _ h.packed) (fun _ => rfl)) (.inl rfl))
  k

/-- The five blocks a point of the grid works on. -/
def Blocks (x0 : Vec F S512x2816 .fp8e4m3) (x1 : Vec F S512x1 .f32) (x2 : Vec F S1x2816x512 .fp8e4m3) (x3 : Vec F S4x512 .f32)
    (o : Vec F S512x512 .bf16) : sProp 𝕄 :=
  iprop((owns (c : Thread nD τ) arg3 fullShare x0 : sProp 𝕄) ∗ (owns (c : Thread nD τ) arg4 fullShare x1 : sProp 𝕄)
    ∗ (owns (c : Thread nD τ) arg5 fullShare x2 : sProp 𝕄) ∗ (owns (c : Thread nD τ) arg6 fullShare x3 : sProp 𝕄)
    ∗ (owns (c : Thread nD τ) arg7 fullShare o : sProp 𝕄))

variable (x0 : Vec F S512x2816 .fp8e4m3) (x1 : Vec F S512x1 .f32) (x2 : Vec F S1x2816x512 .fp8e4m3) (x3 : Vec F S4x512 .f32)
  (o : Vec F S512x512 .bf16)

/-- The loads of a branch hand on the product of the windows of the input blocks. -/
theorem loads_spec {n : ℕ} {r : BitVec 32} {offE : Fin 2 → ℕ} (h : Rows n r offE) {α : Type}
    (k : FVec F ⟨2, ![n, 512]⟩ .f32 → Prog (TpuEff nD τ sig (Elt F) Λ₀ .tc) α) (Q : α → sProp 𝕄) :
    Blocks c arg3 arg4 arg5 arg6 arg7 x0 x1 x2 x3 o
      ⊢ iprop((Blocks c arg3 arg4 arg5 arg6 arg7 x0 x1 x2 x3 o
          -∗ wp frame (wpE (defs₀ (F := F)) Variants.none c none) Set.univ (k (prodAt x0 x1 x2 x3 h)) Q)
        -∗ wp frame (wpE (defs₀ (F := F)) Variants.none c none) Set.univ (loadsP arg3 arg4 arg5 arg6 h k) Q) := by
  unfold loadsP Blocks
  simp only [wp_bind]
  iintro ⟨H0, H1, H2, H3, H4⟩ Hk
  iapply (load_owns c x0 _ _ h.x _ _) $$ H0
  iintro H0
  iapply (load_owns c x2 _ _ _ _ _) $$ H2
  iintro H2
  iapply (load_owns c x1 _ _ h.xs _ _) $$ H1
  iintro H1
  iapply (load_owns c x3 _ _ h.ws _ _) $$ H3
  iintro H3
  iapply Hk
  isplitl [H0]; · iexact H0
  isplitl [H1]; · iexact H1
  isplitl [H2]; · iexact H2
  isplitl [H3]; · iexact H3
  iexact H4

/-- A blended store. -/
theorem blend_spec (off : Fin 2 → ℕ) (h : Out 32 off) (m : IVec S32x1 1) (y : FVec F S32x512 .f32) {α : Type}
    (k : Prog (TpuEff nD τ sig (Elt F) Λ₀ .tc) α) (Q : α → sProp 𝕄) :
    Blocks c arg3 arg4 arg5 arg6 arg7 x0 x1 x2 x3 o
      ⊢ iprop((Blocks c arg3 arg4 arg5 arg6 arg7 x0 x1 x2 x3 (putBlend off h m y o)
          -∗ wp frame (wpE (defs₀ (F := F)) Variants.none c none) Set.univ k Q)
        -∗ wp frame (wpE (defs₀ (F := F)) Variants.none c none) Set.univ (blendP arg7 harg7 off h m y k) Q) := by
  unfold blendP Blocks
  simp only [wp_bind]
  iintro ⟨H0, H1, H2, H3, H4⟩ Hk
  iapply (load_owns c o _ _ h.inb _ _) $$ H4
  iintro H4
  iapply (load_owns c o _ _ h.inb _ _) $$ H4
  iintro H4
  iapply (store_owns c o _ _ h.inb _ _ _ _) $$ H4
  iintro H4
  iapply Hk
  isplitl [H0]; · iexact H0
  isplitl [H1]; · iexact H1
  isplitl [H2]; · iexact H2
  isplitl [H3]; · iexact H3
  iexact H4

/-- A store of rows inside the group. -/
theorem rows_spec {n : ℕ} (off : Fin 2 → ℕ) (h : Out n off) (y : FVec F ⟨2, ![n, 512]⟩ .f32) {α : Type}
    (k : Prog (TpuEff nD τ sig (Elt F) Λ₀ .tc) α) (Q : α → sProp 𝕄) :
    Blocks c arg3 arg4 arg5 arg6 arg7 x0 x1 x2 x3 o
      ⊢ iprop((Blocks c arg3 arg4 arg5 arg6 arg7 x0 x1 x2 x3 (putRows off y o)
          -∗ wp frame (wpE (defs₀ (F := F)) Variants.none c none) Set.univ k Q)
        -∗ wp frame (wpE (defs₀ (F := F)) Variants.none c none) Set.univ (rowsP arg7 harg7 off h y k) Q) := by
  unfold rowsP Blocks
  simp only [wp_bind]
  iintro ⟨H0, H1, H2, H3, H4⟩ Hk
  iapply (load_owns c o _ _ h.inb _ _) $$ H4
  iintro H4
  iapply (store_owns c o _ _ h.inb _ _ _ _) $$ H4
  iintro H4
  iapply Hk
  isplitl [H0]; · iexact H0
  isplitl [H1]; · iexact H1
  isplitl [H2]; · iexact H2
  isplitl [H3]; · iexact H3
  iexact H4

end Prog

end Cert.KernelIdeal.Moe

end
-- ==== Proof.Steps.lean ====
module

public import proofs.«01_k».proof.Proof.Body

@[expose] public section

set_option maxRecDepth 16384

noncomputable section

/-! # The kernel's body, run at one point of the grid

Every branch of the body is one of three programs: one store of 32 rows, two stores of 32 rows, or two
stores of 32 rows with one of the rows between. The body is a first step, which clears the output block
at the first expert, and then one step for each branch; here it is run for any group sizes that fit. -/

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

section Facts

variable {i : grid0.Coords} {v1 v5 v9 v13 v17 : BitVec 32}

/-- A taken branch's loads are inside the input blocks. -/
theorem rows_of (hf : Fits i v1 v5 v9 v13 v17) (k : BitVec 32) (hc : condW i v1 v5 v9 v13 v17 k = 1#1) {n : ℕ}
    (hn : n ≤ 32 * k.toNat) (h0 : 0 < n) : Rows n (r0W i v1 v5 v9 v13) (k0_off4 i) :=
  ⟨inb_r0 hf k hc hn, inb_r0 hf k hc hn, k0_off4_inb i, h0⟩

/-- A taken branch's stores at a row of its blocks are inside the output block. -/
theorem out_of (hf : Fits i v1 v5 v9 v13 v17) (k : BitVec 32) (hc : condW i v1 v5 v9 v13 v17 k = 1#1) {c : BitVec 32} {n : ℕ}
    (hn : c.toNat + n ≤ 32 * k.toNat) (h2 : 2 ∣ c.toNat) (h3 : 2 ∣ n) (h0 : 0 < n) :
    Out n ![(Scalar.addi (r0W i v1 v5 v9 v13) c).toNat, 0] :=
  ⟨inb_r0_add hf k hc hn, pk_add hf k hc (by omega) h2 h3 _, h0⟩

end Facts

/-- The sizes of a branch of `k` blocks, three or more: its rows, those between the first and the last
block, and the row of the last block, as a number and as a word. -/
structure Sizes (kW : BitVec 32) (n m l : ℕ) (lW : BitVec 32) : Prop where
  hn : n = 32 * kW.toNat
  hm : 32 + m = l
  hl : l + 32 = n
  hlW : lW.toNat = l
  pos : 0 < m
  even : 2 ∣ m

section Step

variable (c : Dev nD) (i : grid0.Coords) (v1 v5 v9 v13 v17 : BitVec 32) (hf : Fits i v1 v5 v9 v13 v17)
variable (arg3 : Memref sig .tc .vmem S512x2816 .fp8e4m3) (arg4 : Memref sig .tc .vmem S512x1 .f32)
  (arg5 : Memref sig .tc .vmem S1x2816x512 .fp8e4m3) (arg6 : Memref sig .tc .vmem S4x512 .f32)
  (arg7 : Memref sig .tc .vmem S512x512 .bf16) (harg7 : arg7.IsWhole)
variable (x0 : Vec F S512x2816 .fp8e4m3) (x1 : Vec F S512x1 .f32) (x2 : Vec F S1x2816x512 .fp8e4m3) (x3 : Vec F S4x512 .f32)
  (o : Vec F S512x512 .bf16)

/-- The rows of the 32 from row `c` of the branch on that are in the group. -/
abbrev maskAt (c : BitVec 32) : IVec S32x1 1 :=
  maskOf (startW i v1 v5 v9 v13) (endW i v1 v5 v9 v13 v17) (Scalar.addi (r0W i v1 v5 v9 v13) c)

/-- Where row `c` of the branch lies in the output block. -/
abbrev rowAt (c : BitVec 32) : Fin 2 → ℕ := ![(Scalar.addi (r0W i v1 v5 v9 v13) c).toNat, 0]

/-- The branch of one block of 32 rows, -/
def branch1 (hc : condW i v1 v5 v9 v13 v17 1#32 = 1#1) {α : Type} (k : Prog (TpuEff nD τ sig (Elt F) Λ₀ .tc) α) :
    Prog (TpuEff nD τ sig (Elt F) Λ₀ .tc) α :=
  loadsP arg3 arg4 arg5 arg6 (rows_of hf 1#32 hc (le_refl 32) (by decide)) fun y =>
    blendP arg7 harg7 (rowAt i v1 v5 v9 v13 0#32) (out_of hf 1#32 hc (by decide) (by decide) (by decide) (by decide)) (maskAt i v1 v5 v9 v13 v17 0#32) y k

/-- and what it leaves in the output block. -/
def step1 : Vec F S512x512 .bf16 :=
  if hc : condW i v1 v5 v9 v13 v17 1#32 = 1#1 then
    putBlend (rowAt i v1 v5 v9 v13 0#32) (out_of hf 1#32 hc (by decide) (by decide) (by decide) (by decide)) (maskAt i v1 v5 v9 v13 v17 0#32)
      (prodAt x0 x1 x2 x3 (rows_of hf 1#32 hc (le_refl 32) (by decide))) o
  else o

/-- The branch of two blocks, -/
def branch2 (hc : condW i v1 v5 v9 v13 v17 2#32 = 1#1) {α : Type} (k : Prog (TpuEff nD τ sig (Elt F) Λ₀ .tc) α) :
    Prog (TpuEff nD τ sig (Elt F) Λ₀ .tc) α :=
  loadsP arg3 arg4 arg5 arg6 (rows_of hf 2#32 hc (le_refl 64) (by decide)) fun y =>
    blendP arg7 harg7 (rowAt i v1 v5 v9 v13 0#32) (out_of hf 2#32 hc (by decide) (by decide) (by decide) (by decide))
      (maskAt i v1 v5 v9 v13 v17 0#32) (rowsOf 0 32 (by decide) y) <|
    blendP arg7 harg7 (rowAt i v1 v5 v9 v13 32#32) (out_of hf 2#32 hc (by decide) (by decide) (by decide) (by decide))
      (maskAt i v1 v5 v9 v13 v17 32#32) (rowsOf 32 32 (by decide) y) k

/-- and what it leaves in the output block. -/
def step2 : Vec F S512x512 .bf16 :=
  if hc : condW i v1 v5 v9 v13 v17 2#32 = 1#1 then
    putBlend (rowAt i v1 v5 v9 v13 32#32) (out_of hf 2#32 hc (by decide) (by decide) (by decide) (by decide)) (maskAt i v1 v5 v9 v13 v17 32#32)
      (rowsOf 32 32 (by decide) (prodAt x0 x1 x2 x3 (rows_of hf 2#32 hc (le_refl 64) (by decide))))
    (putBlend (rowAt i v1 v5 v9 v13 0#32) (out_of hf 2#32 hc (by decide) (by decide) (by decide) (by decide)) (maskAt i v1 v5 v9 v13 v17 0#32)
      (rowsOf 0 32 (by decide) (prodAt x0 x1 x2 x3 (rows_of hf 2#32 hc (le_refl 64) (by decide)))) o)
  else o

variable {kW : BitVec 32} {n m l : ℕ} {lW : BitVec 32} (hs : Sizes kW n m l lW)

include hf hs in
/-- In a branch's case, the rows it reads lie in the array; -/
theorem Sizes.rows (hc : condW i v1 v5 v9 v13 v17 kW = 1#1) : Rows n (r0W i v1 v5 v9 v13) (k0_off4 i) :=
  rows_of hf kW hc (le_of_eq hs.hn) (by have := hs.hl; omega)

include hf hs in
/-- the first 32 rows it writes lie in the output, -/
theorem Sizes.first (hc : condW i v1 v5 v9 v13 v17 kW = 1#1) : Out 32 (rowAt i v1 v5 v9 v13 0#32) :=
  out_of hf kW hc (by have := hs.hl; have := hs.hn; show 0 + 32 ≤ _; omega) (by decide) (by decide) (by decide)

include hf hs in
/-- so do the rows between, -/
theorem Sizes.mid (hc : condW i v1 v5 v9 v13 v17 kW = 1#1) : Out m (rowAt i v1 v5 v9 v13 32#32) :=
  out_of hf kW hc (by have := hs.hl; have := hs.hn; have := hs.hm; show 32 + m ≤ _; omega) (by decide) hs.even hs.pos

include hf hs in
/-- and so do the last 32. -/
theorem Sizes.last (hc : condW i v1 v5 v9 v13 v17 kW = 1#1) : Out 32 (rowAt i v1 v5 v9 v13 lW) :=
  out_of hf kW hc (by rw [hs.hlW]; have := hs.hl; have := hs.hn; omega)
    (by rw [hs.hlW]; have := hs.hm; have := hs.even; omega) (by decide) (by decide)

/-- The branch of `k` blocks, three or more, -/
def branch3 (hc : condW i v1 v5 v9 v13 v17 kW = 1#1) {α : Type} (k : Prog (TpuEff nD τ sig (Elt F) Λ₀ .tc) α) :
    Prog (TpuEff nD τ sig (Elt F) Λ₀ .tc) α :=
  loadsP arg3 arg4 arg5 arg6 (hs.rows i v1 v5 v9 v13 v17 hf hc) fun y =>
    blendP arg7 harg7 _ (hs.first i v1 v5 v9 v13 v17 hf hc) (maskAt i v1 v5 v9 v13 v17 0#32)
      (rowsOf 0 32 (by have := hs.hl; omega) y) <|
    rowsP arg7 harg7 _ (hs.mid i v1 v5 v9 v13 v17 hf hc) (rowsOf 32 m (by have := hs.hl; have := hs.hm; omega) y) <|
    blendP arg7 harg7 _ (hs.last i v1 v5 v9 v13 v17 hf hc) (maskAt i v1 v5 v9 v13 v17 lW)
      (rowsOf l 32 (le_of_eq hs.hl) y) k

/-- and what it leaves in the output block. -/
def step3 : Vec F S512x512 .bf16 :=
  if hc : condW i v1 v5 v9 v13 v17 kW = 1#1 then
    putBlend _ (hs.last i v1 v5 v9 v13 v17 hf hc) (maskAt i v1 v5 v9 v13 v17 lW)
      (rowsOf l 32 (le_of_eq hs.hl) (prodAt x0 x1 x2 x3 (hs.rows i v1 v5 v9 v13 v17 hf hc)))
    (putRows (rowAt i v1 v5 v9 v13 32#32)
      (rowsOf 32 m (by have := hs.hl; have := hs.hm; omega) (prodAt x0 x1 x2 x3 (hs.rows i v1 v5 v9 v13 v17 hf hc)))
    (putBlend _ (hs.first i v1 v5 v9 v13 v17 hf hc) (maskAt i v1 v5 v9 v13 v17 0#32)
      (rowsOf 0 32 (by have := hs.hl; omega) (prodAt x0 x1 x2 x3 (hs.rows i v1 v5 v9 v13 v17 hf hc))) o))
  else o

/-- The step of the branch of one block. -/
theorem step1_spec {α : Type} (p k : Prog (TpuEff nD τ sig (Elt F) Λ₀ .tc) α) (Q : α → sProp 𝕄)
    (ht : ∀ hc : condW i v1 v5 v9 v13 v17 1#32 = 1#1, p = branch1 i v1 v5 v9 v13 v17 hf arg3 arg4 arg5 arg6 arg7 harg7 hc k)
    (he : ¬ condW i v1 v5 v9 v13 v17 1#32 = 1#1 → p = k) :
    Blocks c arg3 arg4 arg5 arg6 arg7 x0 x1 x2 x3 o
      ⊢ iprop((Blocks c arg3 arg4 arg5 arg6 arg7 x0 x1 x2 x3 (step1 i v1 v5 v9 v13 v17 hf x0 x1 x2 x3 o)
          -∗ wp frame (wpE (defs₀ (F := F)) Variants.none c none) Set.univ k Q)
        -∗ wp frame (wpE (defs₀ (F := F)) Variants.none c none) Set.univ p Q) := by
  unfold step1
  by_cases hc : condW i v1 v5 v9 v13 v17 1#32 = 1#1
  · rw [ht hc, dif_pos hc]
    unfold branch1
    iintro HB Hk
    iapply (loads_spec c arg3 arg4 arg5 arg6 arg7 x0 x1 x2 x3 _ _ _ _) $$ HB
    iintro HB
    iapply (blend_spec c arg3 arg4 arg5 arg6 arg7 harg7 x0 x1 x2 x3 _ _ _ _ _ _ _) $$ HB
    iexact Hk
  · rw [he hc, dif_neg hc]
    iintro HB Hk
    iapply Hk
    iexact HB

/-- The step of the branch of two blocks. -/
theorem step2_spec {α : Type} (p k : Prog (TpuEff nD τ sig (Elt F) Λ₀ .tc) α) (Q : α → sProp 𝕄)
    (ht : ∀ hc : condW i v1 v5 v9 v13 v17 2#32 = 1#1, p = branch2 i v1 v5 v9 v13 v17 hf arg3 arg4 arg5 arg6 arg7 harg7 hc k)
    (he : ¬ condW i v1 v5 v9 v13 v17 2#32 = 1#1 → p = k) :
    Blocks c arg3 arg4 arg5 arg6 arg7 x0 x1 x2 x3 o
      ⊢ iprop((Blocks c arg3 arg4 arg5 arg6 arg7 x0 x1 x2 x3 (step2 i v1 v5 v9 v13 v17 hf x0 x1 x2 x3 o)
          -∗ wp frame (wpE (defs₀ (F := F)) Variants.none c none) Set.univ k Q)
        -∗ wp frame (wpE (defs₀ (F := F)) Variants.none c none) Set.univ p Q) := by
  unfold step2
  by_cases hc : condW i v1 v5 v9 v13 v17 2#32 = 1#1
  · rw [ht hc, dif_pos hc]
    unfold branch2
    iintro HB Hk
    iapply (loads_spec c arg3 arg4 arg5 arg6 arg7 x0 x1 x2 x3 _ _ _ _) $$ HB
    iintro HB
    iapply (blend_spec c arg3 arg4 arg5 arg6 arg7 harg7 x0 x1 x2 x3 _ _ _ _ _ _ _) $$ HB
    iintro HB
    iapply (blend_spec c arg3 arg4 arg5 arg6 arg7 harg7 x0 x1 x2 x3 _ _ _ _ _ _ _) $$ HB
    iexact Hk
  · rw [he hc, dif_neg hc]
    iintro HB Hk
    iapply Hk
    iexact HB

/-- The step of a branch of three blocks or more. -/
theorem step3_spec {α : Type} (p k : Prog (TpuEff nD τ sig (Elt F) Λ₀ .tc) α) (Q : α → sProp 𝕄)
    (ht : ∀ hc : condW i v1 v5 v9 v13 v17 kW = 1#1, p = branch3 i v1 v5 v9 v13 v17 hf arg3 arg4 arg5 arg6 arg7 harg7 hs hc k)
    (he : ¬ condW i v1 v5 v9 v13 v17 kW = 1#1 → p = k) :
    Blocks c arg3 arg4 arg5 arg6 arg7 x0 x1 x2 x3 o
      ⊢ iprop((Blocks c arg3 arg4 arg5 arg6 arg7 x0 x1 x2 x3 (step3 i v1 v5 v9 v13 v17 hf x0 x1 x2 x3 o hs)
          -∗ wp frame (wpE (defs₀ (F := F)) Variants.none c none) Set.univ k Q)
        -∗ wp frame (wpE (defs₀ (F := F)) Variants.none c none) Set.univ p Q) := by
  unfold step3
  by_cases hc : condW i v1 v5 v9 v13 v17 kW = 1#1
  · rw [ht hc, dif_pos hc]
    unfold branch3
    iintro HB Hk
    iapply (loads_spec c arg3 arg4 arg5 arg6 arg7 x0 x1 x2 x3 _ _ _ _) $$ HB
    iintro HB
    iapply (blend_spec c arg3 arg4 arg5 arg6 arg7 harg7 x0 x1 x2 x3 _ _ _ _ _ _ _) $$ HB
    iintro HB
    iapply (rows_spec c arg3 arg4 arg5 arg6 arg7 harg7 x0 x1 x2 x3 _ _ _ _ _ _) $$ HB
    iintro HB
    iapply (blend_spec c arg3 arg4 arg5 arg6 arg7 harg7 x0 x1 x2 x3 _ _ _ _ _ _ _) $$ HB
    iexact Hk
  · rw [he hc, dif_neg hc]
    iintro HB Hk
    iapply Hk
    iexact HB

end Step

end Cert.KernelIdeal.Moe

end
-- ==== Proof.Run.lean ====
module

public import proofs.«01_k».proof.Proof.Steps

@[expose] public section

set_option maxRecDepth 65536

noncomputable section

/-! # The whole body at one point of the grid -/

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The numbers of the branch of 3 blocks. -/
theorem sizes3 : Sizes 3#32 96 32 64 64#32 := ⟨rfl, rfl, rfl, rfl, by decide, by decide⟩
/-- The numbers of the branch of 4 blocks. -/
theorem sizes4 : Sizes 4#32 128 64 96 96#32 := ⟨rfl, rfl, rfl, rfl, by decide, by decide⟩
/-- The numbers of the branch of 5 blocks. -/
theorem sizes5 : Sizes 5#32 160 96 128 128#32 := ⟨rfl, rfl, rfl, rfl, by decide, by decide⟩
/-- The numbers of the branch of 6 blocks. -/
theorem sizes6 : Sizes 6#32 192 128 160 160#32 := ⟨rfl, rfl, rfl, rfl, by decide, by decide⟩
/-- The numbers of the branch of 7 blocks. -/
theorem sizes7 : Sizes 7#32 224 160 192 192#32 := ⟨rfl, rfl, rfl, rfl, by decide, by decide⟩
/-- The numbers of the branch of 8 blocks. -/
theorem sizes8 : Sizes 8#32 256 192 224 224#32 := ⟨rfl, rfl, rfl, rfl, by decide, by decide⟩
/-- The numbers of the branch of 9 blocks. -/
theorem sizes9 : Sizes 9#32 288 224 256 256#32 := ⟨rfl, rfl, rfl, rfl, by decide, by decide⟩
/-- The numbers of the branch of 10 blocks. -/
theorem sizes10 : Sizes 10#32 320 256 288 288#32 := ⟨rfl, rfl, rfl, rfl, by decide, by decide⟩
/-- The numbers of the branch of 11 blocks. -/
theorem sizes11 : Sizes 11#32 352 288 320 320#32 := ⟨rfl, rfl, rfl, rfl, by decide, by decide⟩
/-- The numbers of the branch of 12 blocks. -/
theorem sizes12 : Sizes 12#32 384 320 352 352#32 := ⟨rfl, rfl, rfl, rfl, by decide, by decide⟩
/-- The numbers of the branch of 13 blocks. -/
theorem sizes13 : Sizes 13#32 416 352 384 384#32 := ⟨rfl, rfl, rfl, rfl, by decide, by decide⟩
/-- The numbers of the branch of 14 blocks. -/
theorem sizes14 : Sizes 14#32 448 384 416 416#32 := ⟨rfl, rfl, rfl, rfl, by decide, by decide⟩
/-- The numbers of the branch of 15 blocks. -/
theorem sizes15 : Sizes 15#32 480 416 448 448#32 := ⟨rfl, rfl, rfl, rfl, by decide, by decide⟩
/-- The numbers of the branch of 16 blocks. -/
theorem sizes16 : Sizes 16#32 512 448 480 480#32 := ⟨rfl, rfl, rfl, rfl, by decide, by decide⟩

section

variable (c : Dev nD) (i : grid0.Coords) (v1 v5 v9 v13 v17 : BitVec 32) (hf : Fits i v1 v5 v9 v13 v17)
variable (arg2 : Memref sig .tc .smem S4 .i32) (harg2 : arg2.IsWhole)
  (arg3 : Memref sig .tc .vmem S512x2816 .fp8e4m3) (harg3 : arg3.IsWhole) (arg4 : Memref sig .tc .vmem S512x1 .f32) (harg4 : arg4.IsWhole)
  (arg5 : Memref sig .tc .vmem S1x2816x512 .fp8e4m3) (harg5 : arg5.IsWhole) (arg6 : Memref sig .tc .vmem S4x512 .f32) (harg6 : arg6.IsWhole)
  (arg7 : Memref sig .tc .vmem S512x512 .bf16) (harg7 : arg7.IsWhole)
variable (x0 : Vec F S512x2816 .fp8e4m3) (x1 : Vec F S512x1 .f32) (x2 : Vec F S1x2816x512 .fp8e4m3) (x3 : Vec F S4x512 .f32)
  (o : Vec F S512x512 .bf16)

/-- The step of a branch of three blocks or more, the blocks before the sizes. -/
abbrev stp {kW : BitVec 32} {n m l : ℕ} {lW : BitVec 32} (hs : Sizes kW n m l lW) (o : Vec F S512x512 .bf16) : Vec F S512x512 .bf16 :=
  step3 i v1 v5 v9 v13 v17 hf x0 x1 x2 x3 o hs

/-- The step of the branch of one block, in front of a program that begins with it. -/
theorem run1 {α : Type} {p k : Prog (TpuEff nD τ sig (Elt F) Λ₀ .tc) α} {Q : α → sProp 𝕄} {R : sProp 𝕄}
    {T : condW i v1 v5 v9 v13 v17 1#32 = 1#1 → Prog (TpuEff nD τ sig (Elt F) Λ₀ .tc) α}
    (hp : p = if hc : condW i v1 v5 v9 v13 v17 1#32 = 1#1 then T hc else k)
    (hT : ∀ hc, T hc = branch1 i v1 v5 v9 v13 v17 hf arg3 arg4 arg5 arg6 arg7 harg7 hc k)
    (hk : iprop(Blocks c arg3 arg4 arg5 arg6 arg7 x0 x1 x2 x3 (step1 i v1 v5 v9 v13 v17 hf x0 x1 x2 x3 o) ∗ R)
      ⊢ wp frame (wpE (defs₀ (F := F)) Variants.none c none) Set.univ k Q) :
    iprop(Blocks c arg3 arg4 arg5 arg6 arg7 x0 x1 x2 x3 o ∗ R) ⊢ wp frame (wpE (defs₀ (F := F)) Variants.none c none) Set.univ p Q := by
  iintro ⟨HB, HR⟩
  iapply (step1_spec c i v1 v5 v9 v13 v17 hf arg3 arg4 arg5 arg6 arg7 harg7 x0 x1 x2 x3 o p k Q
    (fun hc => by rw [hp, dif_pos hc]; exact hT hc) (fun hc => by rw [hp, dif_neg hc])) $$ HB
  iintro HB
  iapply hk
  isplitl [HB]; · iexact HB
  iexact HR

/-- The step of the branch of two blocks, the same. -/
theorem run2 {α : Type} {p k : Prog (TpuEff nD τ sig (Elt F) Λ₀ .tc) α} {Q : α → sProp 𝕄} {R : sProp 𝕄}
    {T : condW i v1 v5 v9 v13 v17 2#32 = 1#1 → Prog (TpuEff nD τ sig (Elt F) Λ₀ .tc) α}
    (hp : p = if hc : condW i v1 v5 v9 v13 v17 2#32 = 1#1 then T hc else k)
    (hT : ∀ hc, T hc = branch2 i v1 v5 v9 v13 v17 hf arg3 arg4 arg5 arg6 arg7 harg7 hc k)
    (hk : iprop(Blocks c arg3 arg4 arg5 arg6 arg7 x0 x1 x2 x3 (step2 i v1 v5 v9 v13 v17 hf x0 x1 x2 x3 o) ∗ R)
      ⊢ wp frame (wpE (defs₀ (F := F)) Variants.none c none) Set.univ k Q) :
    iprop(Blocks c arg3 arg4 arg5 arg6 arg7 x0 x1 x2 x3 o ∗ R) ⊢ wp frame (wpE (defs₀ (F := F)) Variants.none c none) Set.univ p Q := by
  iintro ⟨HB, HR⟩
  iapply (step2_spec c i v1 v5 v9 v13 v17 hf arg3 arg4 arg5 arg6 arg7 harg7 x0 x1 x2 x3 o p k Q
    (fun hc => by rw [hp, dif_pos hc]; exact hT hc) (fun hc => by rw [hp, dif_neg hc])) $$ HB
  iintro HB
  iapply hk
  isplitl [HB]; · iexact HB
  iexact HR

/-- The step of a branch of three blocks or more, the same. -/
theorem run3 {kW : BitVec 32} {n m l : ℕ} {lW : BitVec 32} (hs : Sizes kW n m l lW) {α : Type} {p k : Prog (TpuEff nD τ sig (Elt F) Λ₀ .tc) α} {Q : α → sProp 𝕄} {R : sProp 𝕄}
    {T : condW i v1 v5 v9 v13 v17 kW = 1#1 → Prog (TpuEff nD τ sig (Elt F) Λ₀ .tc) α}
    (hp : p = if hc : condW i v1 v5 v9 v13 v17 kW = 1#1 then T hc else k)
    (hT : ∀ hc, T hc = branch3 i v1 v5 v9 v13 v17 hf arg3 arg4 arg5 arg6 arg7 harg7 hs hc k)
    (hk : iprop(Blocks c arg3 arg4 arg5 arg6 arg7 x0 x1 x2 x3 (step3 i v1 v5 v9 v13 v17 hf x0 x1 x2 x3 o hs) ∗ R)
      ⊢ wp frame (wpE (defs₀ (F := F)) Variants.none c none) Set.univ k Q) :
    iprop(Blocks c arg3 arg4 arg5 arg6 arg7 x0 x1 x2 x3 o ∗ R) ⊢ wp frame (wpE (defs₀ (F := F)) Variants.none c none) Set.univ p Q := by
  iintro ⟨HB, HR⟩
  iapply (step3_spec c i v1 v5 v9 v13 v17 hf arg3 arg4 arg5 arg6 arg7 harg7 x0 x1 x2 x3 o hs p k Q
    (fun hc => by rw [hp, dif_pos hc]; exact hT hc) (fun hc => by rw [hp, dif_neg hc])) $$ HB
  iintro HB
  iapply hk
  isplitl [HB]; · iexact HB
  iexact HR

/-- What the branches of two to eight blocks leave, -/
def out17 : Vec F S512x512 .bf16 :=
  stp i v1 v5 v9 v13 v17 hf x0 x1 x2 x3 sizes8 <|
  stp i v1 v5 v9 v13 v17 hf x0 x1 x2 x3 sizes7 <|
  stp i v1 v5 v9 v13 v17 hf x0 x1 x2 x3 sizes6 <|
  stp i v1 v5 v9 v13 v17 hf x0 x1 x2 x3 sizes5 <|
  stp i v1 v5 v9 v13 v17 hf x0 x1 x2 x3 sizes4 <|
  stp i v1 v5 v9 v13 v17 hf x0 x1 x2 x3 sizes3 <|
  step2 i v1 v5 v9 v13 v17 hf x0 x1 x2 x3 o

/-- as the middle part of the body runs, -/
theorem part17_spec (K : BitVec 1 → sProp 𝕄) (R : sProp 𝕄)
    (hk : ∀ b, iprop(Blocks c arg3 arg4 arg5 arg6 arg7 x0 x1 x2 x3 (out17 i v1 v5 v9 v13 v17 hf x0 x1 x2 x3 o) ∗ R) ⊢ K b) :
    iprop(Blocks c arg3 arg4 arg5 arg6 arg7 x0 x1 x2 x3 o ∗ R)
      ⊢ wp frame (wpE (defs₀ (F := F)) Variants.none c none) Set.univ
          (k0_part17 i arg2 harg2 arg3 harg3 arg4 harg4 arg5 harg5 arg6 harg6 arg7 harg7 (BitVec.ofNat 32 (i 1).val) v1 v5 v9 v13
            (startW i v1 v5 v9 v13) v17 (chk2 hf) (endW i v1 v5 v9 v13 v17) (nbW i v1 v5 v9 v13 v17) (r0W i v1 v5 v9 v13)) K := by
  rw [k0_part17_eq_skeleton]
  unfold k0_part17_skel
  refine run2 c i v1 v5 v9 v13 v17 hf arg3 arg4 arg5 arg6 arg7 harg7 x0 x1 x2 x3 _ rfl (fun hc => rfl) ?_
  refine run3 c i v1 v5 v9 v13 v17 hf arg3 arg4 arg5 arg6 arg7 harg7 x0 x1 x2 x3 _ sizes3 rfl (fun hc => rfl) ?_
  refine run3 c i v1 v5 v9 v13 v17 hf arg3 arg4 arg5 arg6 arg7 harg7 x0 x1 x2 x3 _ sizes4 rfl (fun hc => rfl) ?_
  refine run3 c i v1 v5 v9 v13 v17 hf arg3 arg4 arg5 arg6 arg7 harg7 x0 x1 x2 x3 _ sizes5 rfl (fun hc => rfl) ?_
  refine run3 c i v1 v5 v9 v13 v17 hf arg3 arg4 arg5 arg6 arg7 harg7 x0 x1 x2 x3 _ sizes6 rfl (fun hc => rfl) ?_
  refine run3 c i v1 v5 v9 v13 v17 hf arg3 arg4 arg5 arg6 arg7 harg7 x0 x1 x2 x3 _ sizes7 rfl (fun hc => rfl) ?_
  refine run3 c i v1 v5 v9 v13 v17 hf arg3 arg4 arg5 arg6 arg7 harg7 x0 x1 x2 x3 _ sizes8 rfl (fun hc => rfl) ?_
  refine BI.Entails.trans (hk _) (le_wp_ret _ _ _ _ _)

/-- and what those of nine to sixteen leave. -/
def out18 : Vec F S512x512 .bf16 :=
  stp i v1 v5 v9 v13 v17 hf x0 x1 x2 x3 sizes16 <|
  stp i v1 v5 v9 v13 v17 hf x0 x1 x2 x3 sizes15 <|
  stp i v1 v5 v9 v13 v17 hf x0 x1 x2 x3 sizes14 <|
  stp i v1 v5 v9 v13 v17 hf x0 x1 x2 x3 sizes13 <|
  stp i v1 v5 v9 v13 v17 hf x0 x1 x2 x3 sizes12 <|
  stp i v1 v5 v9 v13 v17 hf x0 x1 x2 x3 sizes11 <|
  stp i v1 v5 v9 v13 v17 hf x0 x1 x2 x3 sizes10 <|
  stp i v1 v5 v9 v13 v17 hf x0 x1 x2 x3 sizes9 o

/-- as the last part of the body runs. -/
theorem part18_spec (b : BitVec 1) (K : PUnit → sProp 𝕄) (R : sProp 𝕄)
    (hk : iprop(Blocks c arg3 arg4 arg5 arg6 arg7 x0 x1 x2 x3 (out18 i v1 v5 v9 v13 v17 hf x0 x1 x2 x3 o) ∗ R) ⊢ K ⟨⟩) :
    iprop(Blocks c arg3 arg4 arg5 arg6 arg7 x0 x1 x2 x3 o ∗ R)
      ⊢ wp frame (wpE (defs₀ (F := F)) Variants.none c none) Set.univ
          (k0_part18 i arg2 harg2 arg3 harg3 arg4 harg4 arg5 harg5 arg6 harg6 arg7 harg7 (BitVec.ofNat 32 (i 1).val) v1 v5 v9 v13
            (startW i v1 v5 v9 v13) v17 (chk2 hf) (endW i v1 v5 v9 v13 v17) (nbW i v1 v5 v9 v13 v17) (r0W i v1 v5 v9 v13) b) K := by
  rw [k0_part18_eq_skeleton]
  unfold k0_part18_skel
  refine run3 c i v1 v5 v9 v13 v17 hf arg3 arg4 arg5 arg6 arg7 harg7 x0 x1 x2 x3 _ sizes9 rfl (fun hc => rfl) ?_
  refine run3 c i v1 v5 v9 v13 v17 hf arg3 arg4 arg5 arg6 arg7 harg7 x0 x1 x2 x3 _ sizes10 rfl (fun hc => rfl) ?_
  refine run3 c i v1 v5 v9 v13 v17 hf arg3 arg4 arg5 arg6 arg7 harg7 x0 x1 x2 x3 _ sizes11 rfl (fun hc => rfl) ?_
  refine run3 c i v1 v5 v9 v13 v17 hf arg3 arg4 arg5 arg6 arg7 harg7 x0 x1 x2 x3 _ sizes12 rfl (fun hc => rfl) ?_
  refine run3 c i v1 v5 v9 v13 v17 hf arg3 arg4 arg5 arg6 arg7 harg7 x0 x1 x2 x3 _ sizes13 rfl (fun hc => rfl) ?_
  refine run3 c i v1 v5 v9 v13 v17 hf arg3 arg4 arg5 arg6 arg7 harg7 x0 x1 x2 x3 _ sizes14 rfl (fun hc => rfl) ?_
  refine run3 c i v1 v5 v9 v13 v17 hf arg3 arg4 arg5 arg6 arg7 harg7 x0 x1 x2 x3 _ sizes15 rfl (fun hc => rfl) ?_
  refine run3 c i v1 v5 v9 v13 v17 hf arg3 arg4 arg5 arg6 arg7 harg7 x0 x1 x2 x3 _ sizes16 rfl (fun hc => rfl) ?_
  refine BI.Entails.trans hk (le_wp_ret _ _ _ _ _)

/-- What the first step and the branch of one block leave: at the first expert the block is cleared first, -/
def out16 : Vec F S512x512 .bf16 :=
  step1 i v1 v5 v9 v13 v17 hf x0 x1 x2 x3 (if k0_cond1 i = 1#1 then VecWindow.put (s := S512x512) o ![0, 0] S512x512.size k0_pay61 else o)

/-- and what the whole body leaves. -/
def bodyOut : Vec F S512x512 .bf16 :=
  out18 i v1 v5 v9 v13 v17 hf x0 x1 x2 x3 (out17 i v1 v5 v9 v13 v17 hf x0 x1 x2 x3 (out16 i v1 v5 v9 v13 v17 hf x0 x1 x2 x3 o))

/-- The first step, in front of a program that begins with it. -/
theorem run0 {α : Type} {p k : Prog (TpuEff nD τ sig (Elt F) Λ₀ .tc) α} {Q : α → sProp 𝕄} {R : sProp 𝕄}
    {T : k0_cond1 i = 1#1 → Prog (TpuEff nD τ sig (Elt F) Λ₀ .tc) α}
    (hp : p = if hc : k0_cond1 i = 1#1 then T hc else k)
    (hT : ∀ hc, T hc = (Prog.lift (.load arg7 (Rect.unit (s := S512x512) ![0, 0] S512x512.size inb_S512x512_S512x512_0_0).toLoadRect (View.loadsAt_vmem h_S512x512))
      >>= fun _ => Prog.lift (.store arg7 (Rect.unit (s := S512x512) ![0, 0] S512x512.size inb_S512x512_S512x512_0_0) (k0_pay61 (F := F)) Finset.univ (View.stores_vmem h_S512x512 (harg7.storeExact_slice rfl _ packedbf16_S512x512_S512x512_0_0) (fun _ => rfl)) (.inl rfl))
      >>= fun _ => k))
    (hk : iprop(Blocks c arg3 arg4 arg5 arg6 arg7 x0 x1 x2 x3
        (if k0_cond1 i = 1#1 then VecWindow.put (s := S512x512) o ![0, 0] S512x512.size k0_pay61 else o) ∗ R)
      ⊢ wp frame (wpE (defs₀ (F := F)) Variants.none c none) Set.univ k Q) :
    iprop(Blocks c arg3 arg4 arg5 arg6 arg7 x0 x1 x2 x3 o ∗ R) ⊢ wp frame (wpE (defs₀ (F := F)) Variants.none c none) Set.univ p Q := by
  by_cases hc : k0_cond1 i = 1#1
  · rw [hp, dif_pos hc, hT hc]
    rw [if_pos hc] at hk
    simp only [wp_bind]
    unfold Blocks at hk ⊢
    iintro ⟨⟨H0, H1, H2, H3, H4⟩, HR⟩
    iapply (load_owns c o _ _ _ _ _) $$ H4
    iintro H4
    iapply (store_owns c o _ _ _ _ _ _ _) $$ H4
    iintro H4
    iapply hk
    isplitr [HR]
    · isplitl [H0]; · iexact H0
      isplitl [H1]; · iexact H1
      isplitl [H2]; · iexact H2
      isplitl [H3]; · iexact H3
      iexact H4
    iexact HR
  · rw [hp, dif_neg hc]
    rw [if_neg hc] at hk
    exact hk

end

/-! ## The table of group sizes -/

/-- The table of group sizes, as the body reads it. -/
abbrev tbM : Memref sig .tc .smem S4 .i32 := Memref.whole main_arg2

/-- The size of group `j` in a table. -/
def wAt (T : S4.Idx → BitVec 32) (j : Fin 4) : BitVec 32 := T (fun a => ⟨j.val, by fin_cases a; exact j.isLt⟩)

/-- A load of one group size answers it. -/
theorem smem_load (c : Dev nD) {q : PosShare TreeShare} (T : S4.Idx → BitVec 32) (off : Fin 1 → ℕ) (inb : ∀ a, off a + S1.size a ≤ S4.size a)
    (j : Fin 4) (hj : off 0 = j.val) (Q : BitVec 32 → sProp 𝕄) :
    (tbM.view.loc (c : Thread nD τ) ↦{q} T : sProp 𝕄)
      ⊢ iprop(((tbM.view.loc (c : Thread nD τ) ↦{q} T : sProp 𝕄) -∗ Q (wAt T j))
        -∗ wp frame (wpE (defs₀ (F := F)) Variants.none c none) Set.univ
            (smemLoad (Val := Elt F) tbM (Rect.unit (s := S4) off S1.size inb) numel1_S1 rfl) Q) := by
  have e : (tbM.access (Rect.unit (s := S4) off S1.size inb)).read (Elt F) T (Shape.Idx.first (numel1_S1.symm ▸ Nat.one_pos)) = wAt T j := by
    refine congrArg T (funext fun a => Fin.ext ?_)
    obtain rfl : a = (0 : Fin 1) := Subsingleton.elim (α := Fin 1) _ _
    show off 0 + 1 * _ = j.val
    rw [hj]
    rfl
  iintro HT Hk
  unfold smemLoad
  iapply (wp_smemLoadElt (m := tbM) (r := Rect.unit (s := S4) off S1.size inb) (S := Finset.univ) (f := T) Variants.none (c : Thread nD τ) none Set.univ (Finset.subset_univ _)) $$ HT
  iintro HT
  iapply le_wp_ret
  rw [e]
  iapply Hk
  iexact HT

/-- The sizes of a table fit at every point of the grid. -/
def FitsT (T : S4.Idx → BitVec 32) (i : grid0.Coords) : Prop :=
  Fits i (wAt T 0) (wAt T 1) (wAt T 2) (wAt T 3) (wAt T (i 1))

/-- The middle of three resources put last. -/
theorem sep_swap (A R T : sProp 𝕄) : iprop((A ∗ R) ∗ T) ⊢ iprop(A ∗ T ∗ R) := by
  iintro ⟨⟨HA, HR⟩, HT⟩
  isplitl [HA]; · iexact HA
  isplitl [HT]; · iexact HT
  iexact HR

/-- The body reads the size of its own expert's group. -/
theorem off1_eq (i : grid0.Coords) : k0_off1 i 0 = (i 1).val := by
  show (BitVec.ofNat 32 (i 1).val).toNat = (i 1).val
  have h : (i 1).val < 4 := (i 1).isLt
  rw [BitVec.toNat_ofNat, Nat.mod_eq_of_lt (by omega)]

/-- **The body at a point.** From the blocks and the table it runs to the end, leaving the table and the input
blocks as they were and the output block as computed. -/
theorem body_spec (c : Dev nD) (i : grid0.Coords) {q : PosShare TreeShare} (T : S4.Idx → BitVec 32) (hf : FitsT T i)
    (arg3 : Memref sig .tc .vmem S512x2816 .fp8e4m3) (harg3 : arg3.IsWhole) (arg4 : Memref sig .tc .vmem S512x1 .f32) (harg4 : arg4.IsWhole)
    (arg5 : Memref sig .tc .vmem S1x2816x512 .fp8e4m3) (harg5 : arg5.IsWhole) (arg6 : Memref sig .tc .vmem S4x512 .f32) (harg6 : arg6.IsWhole)
    (arg7 : Memref sig .tc .vmem S512x512 .bf16) (harg7 : arg7.IsWhole)
    (x0 : Vec F S512x2816 .fp8e4m3) (x1 : Vec F S512x1 .f32) (x2 : Vec F S1x2816x512 .fp8e4m3) (x3 : Vec F S4x512 .f32)
    (o : Vec F S512x512 .bf16) (K : PUnit → sProp 𝕄) (R : sProp 𝕄)
    (hk : iprop(Blocks c arg3 arg4 arg5 arg6 arg7 x0 x1 x2 x3
        (bodyOut i (wAt T 0) (wAt T 1) (wAt T 2) (wAt T 3) (wAt T (i 1)) hf x0 x1 x2 x3 o)
      ∗ (tbM.view.loc (c : Thread nD τ) ↦{q} T : sProp 𝕄) ∗ R) ⊢ K ⟨⟩) :
    iprop(Blocks c arg3 arg4 arg5 arg6 arg7 x0 x1 x2 x3 o ∗ (tbM.view.loc (c : Thread nD τ) ↦{q} T : sProp 𝕄) ∗ R)
      ⊢ wp frame (wpE (defs₀ (F := F)) Variants.none c none) Set.univ
          (cc0_moe_gmm_fp8 i tbM (Memref.isWhole_whole _) arg3 harg3 arg4 harg4 arg5 harg5 arg6 harg6 arg7 harg7) K := by
  rw [cc0_moe_gmm_fp8_eq_skeleton]
  unfold cc0_moe_gmm_fp8_skel
  rw [k0_part16_eq_skeleton]
  unfold k0_part16_skel
  simp only [wp_bind]
  iintro ⟨HB, HT, HR⟩
  iapply (smem_load c T ![0] _ 0 rfl _) $$ HT
  iintro HT
  iapply (smem_load c T ![1] _ 1 rfl _) $$ HT
  iintro HT
  iapply (smem_load c T ![2] _ 2 rfl _) $$ HT
  iintro HT
  iapply (smem_load c T ![3] _ 3 rfl _) $$ HT
  iintro HT
  iapply (wp_assume Variants.none (c : Thread nD τ) none Set.univ (chk1 hf))
  iapply le_wp_ret
  iapply (smem_load c T (k0_off1 i) _ (i 1) (off1_eq i) _) $$ HT
  iintro HT
  iapply (wp_assume Variants.none (c : Thread nD τ) none Set.univ (chk2 hf))
  iapply le_wp_ret
  refine BI.Entails.trans (Q := iprop(Blocks c arg3 arg4 arg5 arg6 arg7 x0 x1 x2 x3 o ∗ (tbM.view.loc (c : Thread nD τ) ↦{q} T : sProp 𝕄) ∗ R)) ?_ ?_
  · exact sep_swap _ _ _
  refine run0 c i arg3 arg4 arg5 arg6 arg7 harg7 x0 x1 x2 x3 o rfl (fun hc => rfl) ?_
  refine run1 c i (wAt T 0) (wAt T 1) (wAt T 2) (wAt T 3) (wAt T (i 1)) hf arg3 arg4 arg5 arg6 arg7 harg7 x0 x1 x2 x3 _ rfl (fun hc => ?_) ?_
  · rfl
  refine BI.Entails.trans ?_ (le_wp_ret _ _ _ _ _)
  refine part17_spec c i _ _ _ _ _ hf tbM _ arg3 harg3 arg4 harg4 arg5 harg5 arg6 harg6 arg7 harg7 x0 x1 x2 x3 _ _ _ fun b => ?_
  refine part18_spec c i _ _ _ _ _ hf tbM _ arg3 harg3 arg4 harg4 arg5 harg5 arg6 harg6 arg7 harg7 x0 x1 x2 x3 _ b _ _ ?_
  exact BI.Entails.trans hk (le_wp_ret _ _ _ _ _)

end Cert.KernelIdeal.Moe

end
-- ==== Proof.Table.lean ====
module

public import proofs.«01_k».proof.Proof.Run

@[expose] public section

set_option maxRecDepth 16384

noncomputable section

/-! # The tables the kernel is launched with

A table of group sizes is good when the sizes together are at most 512. From a good table the group of every
expert lies within the rows, and the blocks the pipeline fetches by the table lie within the weights. -/

namespace Cert.KernelIdeal.Moe

open Cert.KernelIdeal Cert.KernelIdeal.Gen
open Idealize.ShloMosaic
open Idealize.ShloMosaic.TcCoe Idealize.ShloMosaic.Tactic

variable {F : FTy → Type} [FloatOps F]

/-- The sizes together are at most 512. -/
def Good (T : S4.Idx → BitVec 32) : Prop :=
  (wAt T 0).toNat + (wAt T 1).toNat + (wAt T 2).toNat + (wAt T 3).toNat ≤ 512

/-- The first row of the group of expert `e`: the sizes of the groups before it, summed. -/
def startN (T : S4.Idx → BitVec 32) (e : ℕ) : ℕ :=
  (if 0 < e then (wAt T 0).toNat else 0) + (if 1 < e then (wAt T 1).toNat else 0) + (if 2 < e then (wAt T 2).toNat else 0)

/-- The comparison of two small words is that of their numbers. -/
theorem sgt_small : ∀ e k : Fin 4, Scalar.cmpi .sgt (BitVec.ofNat 32 e.val) (BitVec.ofNat 32 k.val) = if k.val < e.val then 1#1 else 0#1 := by
  decide

/-- The word the body computes for the first row is that number. -/
theorem startW_toNat {T : S4.Idx → BitVec 32} (hT : Good T) (i : grid0.Coords) :
    (startW i (wAt T 0) (wAt T 1) (wAt T 2) (wAt T 3)).toNat = startN T (i 1).val := by
  unfold Good at hT
  unfold startW startN
  have he : (i 1).val < 4 := (i 1).isLt
  generalize (i 1).val = e at he
  generalize wAt T 0 = a at hT
  generalize wAt T 1 = b at hT
  generalize wAt T 2 = c at hT
  generalize wAt T 3 = d at hT
  have sel : ∀ (k : ℕ) (x : BitVec 32), k < 4 →
      Scalar.select (Scalar.cmpi .sgt (BitVec.ofNat 32 e) (BitVec.ofNat 32 k)) x 0#32 = if k < e then x else 0#32 := by
    intro k x hk
    rw [sgt_small ⟨e, he⟩ ⟨k, hk⟩]
    by_cases h : k < e
    · rw [if_pos h, if_pos h]; rfl
    · rw [if_neg h, if_neg h]; rfl
  have h3 := sel 3 d (by omega)
  rw [if_neg (by omega)] at h3
  rw [h3, sel 0 a (by omega), sel 1 b (by omega), sel 2 c (by omega)]
  have ite (k : ℕ) (x : BitVec 32) : (if k < e then x else 0#32).toNat = if k < e then x.toNat else 0 := by split <;> rfl
  have le (k : ℕ) (x : ℕ) : (if k < e then x else 0) ≤ x := by split <;> omega
  have ha := le 0 a.toNat
  have hb := le 1 b.toNat
  have hc := le 2 c.toNat
  have e1 := toNat_addi 0#32 (if 0 < e then a else 0#32) (by rw [ite]; simp; omega)
  have e2 := toNat_addi _ (if 1 < e then b else 0#32) (by rw [e1, ite, ite]; simp; omega)
  have e3 := toNat_addi _ (if 2 < e then c else 0#32) (by rw [e2, e1, ite, ite, ite]; simp; omega)
  have e4 := toNat_addi _ 0#32 (by rw [e3, e2, e1, ite, ite, ite]; simp; omega)
  rw [e4, e3, e2, e1, ite, ite, ite]
  simp

/-- The group of every expert ends within the rows. -/
theorem startN_add_le {T : S4.Idx → BitVec 32} (hT : Good T) (e : Fin 4) : startN T e.val + (wAt T e).toNat ≤ 512 := by
  unfold Good at hT
  unfold startN
  fin_cases e <;> simp <;> omega

/-- The sizes of a good table fit at every point of the grid. -/
theorem fitsT {T : S4.Idx → BitVec 32} (hT : Good T) (i : grid0.Coords) : FitsT T i := by
  unfold FitsT Fits
  rw [startW_toNat hT i]
  exact startN_add_le hT (i 1)

/-! ## The block of the weights fetched at a point -/

/-- The tables' contents, the one table being `T`. -/
def pfT (T : S4.Idx → BitVec 32) : pre0.Contents (Elt F) := fun | ⟨0, _⟩ => T | ⟨_ + 1, h⟩ => absurd h (by simp)

/-- A table's word as an index map reads it. -/
theorem at_eq (T : S4.Idx → BitVec 32) (j : Fin 4) (inb : ∀ a, (![j.val] : Fin 1 → Nat) a + S1.size a ≤ S4.size a) :
    (pfT (F := F) T).at 0 (Rect.unit (s := S4) ![j.val] S1.size inb) numel1_S1 = wAt T j := by
  refine congrArg T (funext fun a => Fin.ext ?_)
  obtain rfl : a = (0 : Fin 1) := Subsingleton.elim (α := Fin 1) _ _
  rfl

/-- A table's word as the idle points are told by it. -/
theorem atD_eq (T : S4.Idx → BitVec 32) (j : Fin 4) (off : Fin 1 → ℕ) (h : off 0 = j.val) :
    (pfT (F := F) T).atD 0 off = wAt T j := by
  have hb : ∀ a : Fin 1, off a + 1 ≤ S4.size a := by
    intro a
    obtain rfl : a = (0 : Fin 1) := Subsingleton.elim _ _
    rw [h]; exact j.isLt
  refine (dif_pos hb).trans ?_
  refine congrArg T (funext fun a => Fin.ext ?_)
  obtain rfl : a = (0 : Fin 1) := Subsingleton.elim (α := Fin 1) _ _
  exact h

/-- Whether a group has a row, as the index map asks it. -/
def posW (T : S4.Idx → BitVec 32) (j : Fin 4) : BitVec 1 := Scalar.cmpi .sgt (wAt T j) 0#32

/-- The expert whose weights are fetched at column block `nt` and expert `e`, and the column block, from which
groups have a row. -/
def wIndex (b0 b1 b2 b3 : BitVec 1) (nt e : ℕ) : Fin 3 → ℕ :=
  let arg0 : BitVec 32 := BitVec.ofNat 32 nt
  let arg1 : BitVec 32 := BitVec.ofNat 32 e
  let next : BitVec 32 := Scalar.select (Scalar.andi b0 (Scalar.cmpi .sle arg1 0#32)) 0#32
    (Scalar.select (Scalar.andi b1 (Scalar.cmpi .sle arg1 1#32)) 1#32
      (Scalar.select (Scalar.andi b2 (Scalar.cmpi .sle arg1 2#32)) 2#32
        (Scalar.select (Scalar.andi b3 (Scalar.cmpi .sle arg1 3#32)) 3#32 4#32)))
  let first : BitVec 32 := Scalar.select b0 0#32 (Scalar.select b1 1#32 (Scalar.select b2 2#32 (Scalar.select b3 3#32 0#32)))
  let last : BitVec 32 := Scalar.select b3 3#32 (Scalar.select b2 2#32 (Scalar.select b1 1#32 (Scalar.select b0 0#32 0#32)))
  let more : BitVec 1 := Scalar.cmpi .slt (Scalar.addi arg0 1#32) 11#32
  let some : BitVec 1 := Scalar.cmpi .slt next 4#32
  ![(Scalar.select some next (Scalar.select more first last)).toNat, 0,
    (Scalar.select (Scalar.ori some (Scalar.xori more 1#1)) arg0 (Scalar.addi arg0 1#32)).toNat]

/-- It is what the printed index map computes. -/
theorem transform_2_eq (T : S4.Idx → BitVec 32) (i : grid0.Coords) :
    cc0_transform_2 inb_S4_S1_3 numel1_S1 inb_S4_S1_2 inb_S4_S1_1 inb_S4_S1_0 (pfT (F := F) T) i
      = wIndex (posW T 0) (posW T 1) (posW T 2) (posW T 3) (i 0).val (i 1).val := by
  have e0 := at_eq (F := F) T 0 inb_S4_S1_0
  have e1 := at_eq (F := F) T 1 inb_S4_S1_1
  have e2 := at_eq (F := F) T 2 inb_S4_S1_2
  have e3 := at_eq (F := F) T 3 inb_S4_S1_3
  unfold posW
  rw [← e0, ← e1, ← e2, ← e3]
  rfl

/-- The block is inside the weights. -/
theorem wIndex_lt : ∀ (b0 b1 b2 b3 : Fin 2) (nt : Fin 11) (e : Fin 4),
    let f := wIndex (BitVec.ofFin b0) (BitVec.ofFin b1) (BitVec.ofFin b2) (BitVec.ofFin b3) nt.val e.val
    f 0 < 4 ∧ f 1 = 0 ∧ f 2 < 11 := by
  decide +kernel

/-- Where the expert's own group has a row, its own weights are fetched. -/
theorem wIndex_own : ∀ (b0 b1 b2 b3 : Fin 2) (nt : Fin 11) (e : Fin 4), (![b0, b1, b2, b3] : Fin 4 → Fin 2) e = 1 →
    let f := wIndex (BitVec.ofFin b0) (BitVec.ofFin b1) (BitVec.ofFin b2) (BitVec.ofFin b3) nt.val e.val
    f 0 = e.val ∧ f 1 = 0 ∧ f 2 = nt.val := by
  decide +kernel

/-- The pipeline's side condition holds of every table. -/
theorem ok_pfT (T : S4.Idx → BitVec 32) : ok0 (pfT (F := F) T) := by
  intro i
  have hl := wIndex_lt (posW T 0).toFin (posW T 1).toFin (posW T 2).toFin (posW T 3).toFin (i 0) (i 1)
  rw [transform_2_eq]
  obtain ⟨h0, h1, h2⟩ := hl
  refine ⟨fun a => ?_, Or.inr ?_⟩
  · fin_cases a
    · show (wIndex _ _ _ _ _ _ 0 + 1) * 1 ≤ 4
      exact (by omega : ∀ n : ℕ, n < 4 → (n + 1) * 1 ≤ 4) _ h0
    · show (wIndex _ _ _ _ _ _ 1 + 1) * 2816 ≤ 2816
      exact (by omega : ∀ n : ℕ, n = 0 → (n + 1) * 2816 ≤ 2816) _ h1
    · show (wIndex _ _ _ _ _ _ 2 + 1) * 512 ≤ 5632
      exact (by omega : ∀ n : ℕ, n < 11 → (n + 1) * 512 ≤ 5632) _ h2
  · exact Or.inr ⟨by decide, rfl, by show wIndex _ _ _ _ _ _ 1 * 2816 = 0; exact (by omega : ∀ n : ℕ, n = 0 → n * 2816 = 0) _ h1, rfl⟩

end Cert.KernelIdeal.Moe

end
-- ==== Proof.Frame.lean ====
module

public import proofs.«01_k».proof.Proof.Table
public import Idealize.ShloMosaic.Lib.Pipeline.Quiescent
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Adequacy
public import Idealize.ShloMosaic.Init

@[expose] public section

set_option maxRecDepth 16384

noncomputable section

/-! # The pipeline, launched with a good table

The body's run at one point, put through the pipeline: what the output block's staging buffer holds after every
point, the pipeline's obligation, and the launch. The table of group sizes is any good one. -/

namespace Cert.KernelIdeal.Moe

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-! ## Points that store nothing, and points that store everything -/

section Idle

variable (i : grid0.Coords) (v1 v5 v9 v13 v17 : BitVec 32) (hf : Fits i v1 v5 v9 v13 v17)
variable (x0 : Vec F S512x2816 .fp8e4m3) (x1 : Vec F S512x1 .f32) (x2 : Vec F S1x2816x512 .fp8e4m3) (x3 : Vec F S4x512 .f32)

/-- A branch not taken leaves the output block. -/
theorem step3_off {kW : BitVec 32} {n m l : ℕ} {lW : BitVec 32} (hs : Sizes kW n m l lW) (o : Vec F S512x512 .bf16)
    (hc : ¬ condW i v1 v5 v9 v13 v17 kW = 1#1) : step3 i v1 v5 v9 v13 v17 hf x0 x1 x2 x3 o hs = o := dif_neg hc

/-- Where no branch is taken and the block is not cleared, the body leaves the output block. -/
theorem bodyOut_idle (o : Vec F S512x512 .bf16) (h1 : ¬ k0_cond1 i = 1#1)
    (hc : ∀ k : Fin 16, ¬ condW i v1 v5 v9 v13 v17 (BitVec.ofNat 32 (k.val + 1)) = 1#1) :
    bodyOut i v1 v5 v9 v13 v17 hf x0 x1 x2 x3 o = o := by
  have e16 : out16 i v1 v5 v9 v13 v17 hf x0 x1 x2 x3 o = o := by
    unfold out16
    rw [if_neg h1]
    exact dif_neg (hc 0)
  have e17 : out17 i v1 v5 v9 v13 v17 hf x0 x1 x2 x3 o = o := by
    unfold out17
    rw [show step2 i v1 v5 v9 v13 v17 hf x0 x1 x2 x3 o = o from dif_neg (hc 1)]
    unfold stp
    rw [step3_off _ _ _ _ _ _ _ _ _ _ _ sizes3 _ (hc 2), step3_off _ _ _ _ _ _ _ _ _ _ _ sizes4 _ (hc 3),
      step3_off _ _ _ _ _ _ _ _ _ _ _ sizes5 _ (hc 4), step3_off _ _ _ _ _ _ _ _ _ _ _ sizes6 _ (hc 5),
      step3_off _ _ _ _ _ _ _ _ _ _ _ sizes7 _ (hc 6), step3_off _ _ _ _ _ _ _ _ _ _ _ sizes8 _ (hc 7)]
  unfold bodyOut
  rw [e16, e17]
  unfold out18 stp
  rw [step3_off _ _ _ _ _ _ _ _ _ _ _ sizes9 _ (hc 8), step3_off _ _ _ _ _ _ _ _ _ _ _ sizes10 _ (hc 9),
    step3_off _ _ _ _ _ _ _ _ _ _ _ sizes11 _ (hc 10), step3_off _ _ _ _ _ _ _ _ _ _ _ sizes12 _ (hc 11),
    step3_off _ _ _ _ _ _ _ _ _ _ _ sizes13 _ (hc 12), step3_off _ _ _ _ _ _ _ _ _ _ _ sizes14 _ (hc 13),
    step3_off _ _ _ _ _ _ _ _ _ _ _ sizes15 _ (hc 14), step3_off _ _ _ _ _ _ _ _ _ _ _ sizes16 _ (hc 15)]

/-- Where the block is cleared, what the body leaves does not depend on what the block held. -/
theorem bodyOut_first (o o' : Vec F S512x512 .bf16) (h1 : k0_cond1 i = 1#1) :
    bodyOut i v1 v5 v9 v13 v17 hf x0 x1 x2 x3 o = bodyOut i v1 v5 v9 v13 v17 hf x0 x1 x2 x3 o' := by
  have e : VecWindow.put (s := S512x512) o ![0, 0] S512x512.size (k0_pay61 (F := F))
      = VecWindow.put (s := S512x512) o' ![0, 0] S512x512.size (k0_pay61 (F := F)) := by
    funext a
    have h : ∀ b : Fin S512x512.rank, (![0, 0] : Fin 2 → ℕ) b ≤ (a b).val ∧ (a b).val < (![0, 0] : Fin 2 → ℕ) b + S512x512.size b := by
      intro b
      have := (a b).isLt
      fin_cases b <;> simp at this ⊢ <;> omega
    unfold VecWindow.put
    rw [dif_pos h, dif_pos h]
  unfold bodyOut out16
  rw [if_pos h1, if_pos h1, e]

end Idle

/-! ## The pipeline at a table -/

section Launch

variable (T : S4.Idx → BitVec 32) (hT : Good T)

/-- The table's contents, admitted. -/
def adm : (pcfg0 (F := F)).Adm := ⟨pfT T, ok_pfT T⟩
/-- The pipeline at the table, -/
abbrev cfgA : Pipeline.Cfg sig Λ₀ := cfg0 (F := F) (adm T)
/-- as the program's one. -/
abbrev pcs : Fin 1 → Pipeline.Cfg sig Λ₀ := Pipeline.pin (pcfgs (F := F)) fun _ => adm T

/-- A point's coordinates. -/
abbrev crd (t : Fin (cfgA (F := F) T).N) : grid0.Coords := (cfgA (F := F) T).grid.coords t

/-- The first window's staging buffer at a point. -/
abbrev ms0 (t : Fin (cfgA (F := F) T).N) : Memref sig .tc .vmem S512x2816 .fp8e4m3 := spec0_0.stage ((cfgA (F := F) T).slots t (0 : Fin 5))
/-- The first window's staging buffer is whole. -/
abbrev hs0 (t : Fin (cfgA (F := F) T).N) : (ms0 T t).IsWhole := hstage0_0 (((cfgA (F := F) T).slots t (0 : Fin 5)).cast nbuf0_0)
/-- The second window's staging buffer at a point, -/
abbrev ms1 (t : Fin (cfgA (F := F) T).N) : Memref sig .tc .vmem S512x1 .f32 := spec0_1.stage ((cfgA (F := F) T).slots t (1 : Fin 5))
/-- and that it is whole. -/
abbrev hs1 (t : Fin (cfgA (F := F) T).N) : (ms1 T t).IsWhole := hstage0_1 (((cfgA (F := F) T).slots t (1 : Fin 5)).cast nbuf0_1)
/-- The third window's staging buffer at a point, -/
abbrev ms2 (t : Fin (cfgA (F := F) T).N) : Memref sig .tc .vmem S1x2816x512 .fp8e4m3 := spec0_2.stage ((cfgA (F := F) T).slots t (2 : Fin 5))
/-- and that it is whole. -/
abbrev hs2 (t : Fin (cfgA (F := F) T).N) : (ms2 T t).IsWhole := hstage0_2 (((cfgA (F := F) T).slots t (2 : Fin 5)).cast nbuf0_2)
/-- The fourth window's staging buffer at a point, -/
abbrev ms3 (t : Fin (cfgA (F := F) T).N) : Memref sig .tc .vmem S4x512 .f32 := spec0_3.stage ((cfgA (F := F) T).slots t (3 : Fin 5))
/-- and that it is whole. -/
abbrev hs3 (t : Fin (cfgA (F := F) T).N) : (ms3 T t).IsWhole := hstage0_3 (((cfgA (F := F) T).slots t (3 : Fin 5)).cast nbuf0_3)
/-- The output window's staging buffer at a point, -/
abbrev ms4 (t : Fin (cfgA (F := F) T).N) : Memref sig .tc .vmem S512x512 .bf16 := spec0_4.stage ((cfgA (F := F) T).slots t (4 : Fin 5))
/-- and that it is whole. -/
abbrev hs4 (t : Fin (cfgA (F := F) T).N) : (ms4 T t).IsWhole := hstage0_4 (((cfgA (F := F) T).slots t (4 : Fin 5)).cast nbuf0_4)

/-! ## The schedule -/

/-- The body clears the block at the first expert. -/
theorem cond1_iff : ∀ t : Fin grid0.N, k0_cond1 (grid0.coords t) = 1#1 ↔ t.val % 4 = 0 := by decide +kernel

/-- The output block is written back after the last expert. -/
theorem flush4 (t : Fin (cfgA (F := F) T).N) : ((cfgA (F := F) T).win (4 : Fin 5)).flush t = decide (t.val % 4 = 3) := by
  rw [Pipeline.Window.flush_eq_flushF]
  revert t
  show ∀ t : Fin grid0.N, (true && (decide (t.val + 1 = grid0.N) || decide (∃ h : t.val + 1 < grid0.N, ∃ a, cc0_transform_4 (grid0.coords ⟨t.val + 1, h⟩) a ≠ cc0_transform_4 (grid0.coords t) a))) = decide (t.val % 4 = 3)
  decide +kernel

/-- Whether the body stores nothing: the block is not cleared and the branch of no number of blocks is taken. -/
def idleW (b : BitVec 1) (f : BitVec 32 → BitVec 1) : Bool :=
  !(b == 1#1) &&
    !(f 1#32 == 1#1) && !(f 2#32 == 1#1) && !(f 3#32 == 1#1) && !(f 4#32 == 1#1) && !(f 5#32 == 1#1) && !(f 6#32 == 1#1) && !(f
    7#32 == 1#1) && !(f 8#32 == 1#1) && !(f 9#32 == 1#1) && !(f 10#32 == 1#1) && !(f 11#32 == 1#1) && !(f 12#32 == 1#1) && !(f
    13#32 == 1#1) && !(f 14#32 == 1#1) && !(f 15#32 == 1#1) && !(f 16#32 == 1#1)

/-- Then none of the conditions holds. -/
theorem idleW_off {b : BitVec 1} {f : BitVec 32 → BitVec 1} (h : idleW b f = true) :
    ¬ b = 1#1 ∧ ∀ k : Fin 16, ¬ f (BitVec.ofNat 32 (k.val + 1)) = 1#1 := by
  unfold idleW at h
  simp only [Bool.and_eq_true, Bool.not_eq_true', beq_eq_false_iff_ne, ne_eq] at h
  obtain ⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩ := h
  refine ⟨h0, fun k => ?_⟩
  fin_cases k <;> assumption

/-- The pipeline's idle points are those. -/
theorem idle4_eq (i : grid0.Coords) :
    idle0 (pfT (F := F) T) 4 i = idleW (k0_cond1 i) (condW i (wAt T 0) (wAt T 1) (wAt T 2) (wAt T 3) (wAt T (i 1))) := by
  rw [← atD_eq (F := F) T 0 ![0] rfl, ← atD_eq (F := F) T 1 ![1] rfl, ← atD_eq (F := F) T 2 ![2] rfl, ← atD_eq (F := F) T 3 ![3] rfl,
    ← atD_eq (F := F) T (i 1) (k0_off1 i) (off1_eq i)]
  rfl

/-- At an idle point no branch is taken and the block is not cleared. -/
theorem idle4 (i : grid0.Coords) (hi : idle0 (pfT (F := F) T) 4 i = true) :
    ¬ k0_cond1 i = 1#1 ∧ ∀ k : Fin 16, ¬ condW i (wAt T 0) (wAt T 1) (wAt T 2) (wAt T 3) (wAt T (i 1)) (BitVec.ofNat 32 (k.val + 1)) = 1#1 := by
  rw [idle4_eq] at hi
  exact idleW_off hi

/-- At the first expert the output is not idle. -/
theorem idle4_first (i : grid0.Coords) (h1 : k0_cond1 i = 1#1) : idle0 (pfT (F := F) T) 4 i = false := by
  show (!(k0_cond1 i == 1#1) && _ && _ && _ && _ && _ && _ && _ && _ && _ && _ && _ && _ && _ && _ && _ && _) = false
  rw [h1]
  simp

/-- The output's staging buffer holds nothing of its block exactly before the first expert. -/
theorem fresh4 (t : Fin (cfgA (F := F) T).N) : (cfgA (F := F) T).fresh (4 : Fin 5) t.val = decide (t.val % 4 = 0) := by
  refine Pipeline.Cfg.fresh_tab (cfgA (F := F) T) (4 : Fin 5) (fun n => decide (n % 4 = 0)) rfl (fun t => ?_) t.val (Nat.le_of_lt t.isLt)
  rw [flush4]
  have hm : t.val % 4 < 4 := Nat.mod_lt _ (by decide)
  have hidle : t.val % 4 = 0 → (cfgA (F := F) T).idle (4 : Fin 5) ((cfgA (F := F) T).grid.coords t) = false := fun h =>
    idle4_first T _ ((cond1_iff t).mpr h)
  by_cases h0 : t.val % 4 = 0
  · rw [hidle h0]
    simp; omega
  · have : decide (t.val % 4 = 0) = false := decide_eq_false h0
    rw [this, Bool.and_false, Bool.or_false]
    exact decide_eq_decide.mpr (by omega)

/-! ## What the staging buffers hold -/

variable (m : (ℓ : Loc nD τ sig) → Buf (Elt F) ℓ) (ρ : Dev nD → PrngReg)

/-- Window `w`'s block at point `t`, of its array at launch. -/
def iblk (c : Dev nD) (w : Fin (cfgA (F := F) T).W) (t : Fin (cfgA (F := F) T).N) :
    (((cfgA (F := F) T).win w).xblock (crd T t)).Idx → Elt F ((cfgA (F := F) T).win w).elt :=
  (((cfgA (F := F) T).win w).blk t).view.read (Elt F) (m (((cfgA (F := F) T).win w).arr.view.loc (c : Thread nD τ)))

/-- What the output's staging buffer holds after the body at point `t`, from what it held before. -/
def step0 (c : Dev nD) (t : Fin (cfgA (F := F) T).N) (prev : Vec F S512x512 .bf16) : Vec F S512x512 .bf16 :=
  bodyOut (crd T t) (wAt T 0) (wAt T 1) (wAt T 2) (wAt T 3) (wAt T ((crd (F := F) T t) 1)) (fitsT hT (crd (F := F) T t))
    (iblk T m c (0 : Fin 5) t) (iblk T m c (1 : Fin 5) t) (iblk T m c (2 : Fin 5) t) (iblk T m c (3 : Fin 5) t) prev

/-- What it holds after point `n`, -/
def traj0 (c : Dev nD) : (n : ℕ) → n < (cfgA (F := F) T).N → Vec F S512x512 .bf16
  | 0, h => step0 T hT m c ⟨0, h⟩ k0_pay61
  | n + 1, h => step0 T hT m c ⟨n + 1, h⟩ (traj0 c n (Nat.lt_of_succ_lt h))

/-- and before point `t`. -/
def prev0 (c : Dev nD) (t : Fin (cfgA (F := F) T).N) : Vec F S512x512 .bf16 :=
  if h : t.val = 0 then k0_pay61 else traj0 T hT m c (t.val - 1) (by omega)

/-- A point takes what the buffer held before to what it holds after. -/
theorem traj0_eq (c : Dev nD) (t : Fin (cfgA (F := F) T).N) : traj0 T hT m c t.val t.isLt = step0 T hT m c t (prev0 T hT m c t) := by
  obtain ⟨n, hn⟩ := t
  cases n with
  | zero => rfl
  | succ n => unfold prev0; simp only [Nat.add_one_ne_zero, dif_neg, not_false_eq_true]; rfl

/-- An idle point leaves the buffer. -/
theorem step0_idle (c : Dev nD) (t : Fin (cfgA (F := F) T).N) (prev : Vec F S512x512 .bf16)
    (hi : (cfgA (F := F) T).idle (4 : Fin 5) ((cfgA (F := F) T).grid.coords t) = true) : step0 T hT m c t prev = prev := by
  obtain ⟨h1, hc⟩ := idle4 (F := F) T (crd T t) hi
  exact bodyOut_idle _ _ _ _ _ _ _ _ _ _ _ _ h1 hc

/-! ## The pipeline's proof data -/

/-- Before and after every point the body holds its half of the table. -/
def Phi (c : Dev nD) : sProp 𝕄 := iprop((tbM.view.loc (c : Thread nD τ) ↦{fullShare.right} T))

/-- The proof data of the pipeline on core `c`. -/
def dats (_ : Fin 1) (c : Dev nD) : Dat τ (Elt F) Unit ℕ (UR sig nD τ) ℕ (cfgA (F := F) T) c where
  A w := m (((cfgA (F := F) T).win w).arr.view.loc (c : Thread nD τ))
  after w t := match w with
    | ⟨0, _⟩ => iblk T m c (0 : Fin 5) t
    | ⟨1, _⟩ => iblk T m c (1 : Fin 5) t
    | ⟨2, _⟩ => iblk T m c (2 : Fin 5) t
    | ⟨3, _⟩ => iblk T m c (3 : Fin 5) t
    | ⟨4, _⟩ => (traj0 T hT m c t.val t.isLt)
  Φ t := Phi T c
  q _ := fullShare
  owed _ := 0

/-- What the output window holds after a point is the trajectory there. -/
theorem after4 (c : Dev nD) (t : Fin (cfgA (F := F) T).N) : (dats T hT m 0 c).after (4 : Fin 5) t = traj0 T hT m c t.val t.isLt := rfl

/-- Input window 0 holds its block. -/
theorem before0 (c : Dev nD) (t : Fin (cfgA (F := F) T).N) (d) : (dats T hT m 0 c).before (0 : Fin 5) t d = iblk T m c (0 : Fin 5) t :=
  ((dats T hT m 0 c).before_in_eq_fetched (0 : Fin 5) rfl (fun _ => rfl) (fun _ _ _ => rfl) (fun t => rfl) t d).trans rfl
/-- Input window 1 holds its block. -/
theorem before1 (c : Dev nD) (t : Fin (cfgA (F := F) T).N) (d) : (dats T hT m 0 c).before (1 : Fin 5) t d = iblk T m c (1 : Fin 5) t :=
  ((dats T hT m 0 c).before_in_eq_fetched (1 : Fin 5) rfl (fun _ => rfl) (fun _ _ _ => rfl) (fun t => rfl) t d).trans rfl
/-- Input window 2 holds its block. -/
theorem before2 (c : Dev nD) (t : Fin (cfgA (F := F) T).N) (d) : (dats T hT m 0 c).before (2 : Fin 5) t d = iblk T m c (2 : Fin 5) t :=
  ((dats T hT m 0 c).before_in_eq_fetched (2 : Fin 5) rfl (fun _ => rfl) (fun _ _ _ => rfl) (fun t => rfl) t d).trans rfl
/-- Input window 3 holds its block. -/
theorem before3 (c : Dev nD) (t : Fin (cfgA (F := F) T).N) (d) : (dats T hT m 0 c).before (3 : Fin 5) t d = iblk T m c (3 : Fin 5) t :=
  ((dats T hT m 0 c).before_in_eq_fetched (3 : Fin 5) rfl (fun _ => rfl) (fun _ _ _ => rfl) (fun t => rfl) t d).trans rfl

/-- What the output's buffer should hold carries through idle points. -/
theorem hcarry4 (c : Dev nD) (t : Fin (cfgA (F := F) T).N) (ht : t.val ≠ 0)
    (hi : (cfgA (F := F) T).idle (4 : Fin 5) ((cfgA (F := F) T).grid.coords t) = true) :
    (dats T hT m 0 c).after (4 : Fin 5) t = (dats T hT m 0 c).after (4 : Fin 5) ⟨t.val - 1, by omega⟩ := by
  rw [after4, after4, traj0_eq, step0_idle T hT m c t _ hi]
  unfold prev0
  rw [dif_neg ht]

/-- The output's buffer holds, when the body runs, anything before the first expert and else what the point before left. -/
theorem before4 (c : Dev nD) (t : Fin (cfgA (F := F) T).N) (d) :
    (dats T hT m 0 c).before (4 : Fin 5) t d = if t.val % 4 = 0 then d else prev0 T hT m c t := by
  rw [(dats T hT m 0 c).before_out_traj (4 : Fin 5) rfl (fun _ _ => rfl) (fun t ht hi _ => hcarry4 T hT m c t ht hi) t.val t rfl d, fresh4]
  by_cases hf : t.val % 4 = 0
  · rw [if_pos (decide_eq_true hf), if_pos hf]
  · have h0 : t.val ≠ 0 := fun h0 => hf (by rw [h0])
    rw [if_neg (by simpa using hf), if_neg hf, after4]
    unfold prev0; rw [dif_neg h0]

/-- From what the buffer holds at a point the body leaves what it should hold after. -/
theorem step0_before (c : Dev nD) (t : Fin (cfgA (F := F) T).N) (d) :
    step0 T hT m c t ((dats T hT m 0 c).before (4 : Fin 5) t d) = traj0 T hT m c t.val t.isLt := by
  rw [before4, traj0_eq]
  by_cases hf : t.val % 4 = 0
  · exact bodyOut_first _ _ _ _ _ _ _ _ _ _ _ _ _ ((cond1_iff t).mpr hf)
  · rw [if_neg hf]

/-! ## The body's obligation -/

/-- The body at point `t` on its staging buffers, as the pipeline calls it. -/
abbrev bodyAt (t : Fin (cfgA (F := F) T).N) : Prog (TpuEff nD τ sig (Elt F) Λ₀ .tc) PUnit :=
  cc0_moe_gmm_fp8 (crd T t) (Memref.whole main_arg2) (Memref.isWhole_whole _) (ms0 T t) (hs0 T t) (ms1 T t) (hs1 T t) (ms2 T t) (hs2 T t) (ms3 T t) (hs3 T t) (ms4 T t) (hs4 T t)

/-- What the output's buffer should hold is what the pipeline asks of it, at an idle point or not. -/
theorem post4 (c : Dev nD) (t : Fin (cfgA (F := F) T).N) :
    owns (c : Thread nD τ) (ms4 T t) fullShare (traj0 T hT m c t.val t.isLt) ⊢
      (match (cfgA (F := F) T).idle (4 : Fin 5) ((cfgA (F := F) T).grid.coords t) with
        | true =>
          match ((cfgA (F := F) T).win (4 : Fin 5)).flush t with
          | false => iprop(∃ d, owns (c : Thread nD τ) (((cfgA (F := F) T).win (4 : Fin 5)).stage ((cfgA (F := F) T).slots t (4 : Fin 5))) fullShare ((dats T hT m 0 c).before (4 : Fin 5) t d))
          | true => owns (c : Thread nD τ) (((cfgA (F := F) T).win (4 : Fin 5)).stage ((cfgA (F := F) T).slots t (4 : Fin 5))) fullShare ((dats T hT m 0 c).after (4 : Fin 5) t)
        | false => owns (c : Thread nD τ) (((cfgA (F := F) T).win (4 : Fin 5)).stage ((cfgA (F := F) T).slots t (4 : Fin 5))) fullShare ((dats T hT m 0 c).after (4 : Fin 5) t) : sProp 𝕄) := by
  cases hi : (cfgA (F := F) T).idle (4 : Fin 5) ((cfgA (F := F) T).grid.coords t)
  · exact .rfl
  cases hw : ((cfgA (F := F) T).win (4 : Fin 5)).flush t
  · have e := step0_before T hT m c t k0_pay61
    rw [step0_idle T hT m c t _ hi] at e
    rw [← e]
    iintro H
    iexists _
    iexact H
  · exact .rfl

/-- The body's obligation at point `t`: its blocks hold what the windows' buffers hold, and it leaves what they
should hold after. -/
theorem sound_body (c : Dev nD) (t : Fin (cfgA (F := F) T).N) :
    iprop((dats T hT m 0 c).Φ t.castSucc ∗ (dats T hT m 0 c).owesAt () t.castSucc
        ∗ (∃ d, owns (c : Thread nD τ) (ms0 T t) fullShare ((dats T hT m 0 c).before (0 : Fin 5) t d))
        ∗ (∃ d, owns (c : Thread nD τ) (ms1 T t) fullShare ((dats T hT m 0 c).before (1 : Fin 5) t d))
        ∗ (∃ d, owns (c : Thread nD τ) (ms2 T t) fullShare ((dats T hT m 0 c).before (2 : Fin 5) t d))
        ∗ (∃ d, owns (c : Thread nD τ) (ms3 T t) fullShare ((dats T hT m 0 c).before (3 : Fin 5) t d))
        ∗ (∃ d, owns (c : Thread nD τ) (ms4 T t) fullShare ((dats T hT m 0 c).before (4 : Fin 5) t d)))
      ⊢ wp frame (wpE (defs₀ (F := F)) Variants.none c none) Set.univ (bodyAt T t) fun _ =>
          iprop((dats T hT m 0 c).Φ t.succ ∗ (dats T hT m 0 c).owesAt () t.succ
            ∗ bigSep Finset.univ fun w : Fin (cfgA (F := F) T).W =>
                match (cfgA (F := F) T).idle w ((cfgA (F := F) T).grid.coords t) with
                | true =>
                  match ((cfgA (F := F) T).win w).flush t with
                  | false => iprop(∃ d, owns (c : Thread nD τ) (((cfgA (F := F) T).win w).stage ((cfgA (F := F) T).slots t w)) fullShare ((dats T hT m 0 c).before w t d))
                  | true => owns (c : Thread nD τ) (((cfgA (F := F) T).win w).stage ((cfgA (F := F) T).slots t w)) fullShare ((dats T hT m 0 c).after w t)
                | false => owns (c : Thread nD τ) (((cfgA (F := F) T).win w).stage ((cfgA (F := F) T).slots t w)) fullShare ((dats T hT m 0 c).after w t)) := by
  rw [bigSep_W0]
  simp only [before0, before1, before2, before3]
  rewrite [show (dats T hT m 0 c).Φ t.succ = Phi T c from rfl, show (dats T hT m 0 c).Φ t.castSucc = Phi T c from rfl,
    show (dats T hT m 0 c).owesAt () t.succ = (dats T hT m 0 c).owesAt () t.castSucc from rfl]
  unfold Phi
  iintro ⟨HT, Ho, ⟨%d0, H0⟩, ⟨%d1, H1⟩, ⟨%d2, H2⟩, ⟨%d3, H3⟩, ⟨%d4, H4⟩⟩
  iapply (body_spec c (crd T t) (q := fullShare.right) T (fitsT hT (crd (F := F) T t)) (ms0 T t) (hs0 T t) (ms1 T t) (hs1 T t) (ms2 T t) (hs2 T t) (ms3 T t) (hs3 T t) (ms4 T t) (hs4 T t)
    (iblk T m c (0 : Fin 5) t) (iblk T m c (1 : Fin 5) t) (iblk T m c (2 : Fin 5) t) (iblk T m c (3 : Fin 5) t)
    ((dats T hT m 0 c).before (4 : Fin 5) t d4) _ ((dats T hT m 0 c).owesAt () t.castSucc) ?_)
  · rw [show bodyOut (crd T t) (wAt T 0) (wAt T 1) (wAt T 2) (wAt T 3) (wAt T ((crd (F := F) T t) 1)) (fitsT hT (crd (F := F) T t))
      (iblk T m c (0 : Fin 5) t) (iblk T m c (1 : Fin 5) t) (iblk T m c (2 : Fin 5) t) (iblk T m c (3 : Fin 5) t)
      ((dats T hT m 0 c).before (4 : Fin 5) t d4) = traj0 T hT m c t.val t.isLt from step0_before T hT m c t d4]
    unfold Blocks
    iintro ⟨⟨H0, H1, H2, H3, H4⟩, HT, Ho⟩
    isplitl [HT]; · iexact HT
    isplitl [Ho]; · iexact Ho
    isplitl [H0]; · iexact H0
    isplitl [H1]; · iexact H1
    isplitl [H2]; · iexact H2
    isplitl [H3]; · iexact H3
    iapply (post4 T hT m c t)
    iexact H4
  · unfold Blocks
    isplitl [H0 H1 H2 H3 H4]
    · isplitl [H0]; · iexact H0
      isplitl [H1]; · iexact H1
      isplitl [H2]; · iexact H2
      isplitl [H3]; · iexact H3
      iexact H4
    isplitl [HT]; · iexact HT
    iexact Ho

/-- The pipeline's body obligation, at every point. -/
theorem body_obligation (c : Dev nD) : BodyObligation (dats T hT m 0 c) (defs₀ (F := F)) Variants.none () Set.univ := fun t => by
  rw [bigSep_W0]
  exact sound_body T hT m c t

/-! ## The launch -/

/-- The pipeline's tokens at launch. -/
def u₀ : UR sig nD τ :=
  initOf (Pipeline.cells (pcs (F := F) T) ((launch0 (F := F)).cellOf_inj fun _ => adm T))
    (Pipeline.launchToks (pcs (F := F) T) ((launch0 (F := F)).cellOf_inj fun _ => adm T))

/-- Every window holds its array in full. -/
theorem share_eq (c : Dev nD) (w : Fin (cfgA (F := F) T).W) : (dats T hT m 0 c).share w = fullShare := by unfold Dat.share; split <;> rfl

/-- The table as the launch hands it to the pipeline. -/
theorem prefHeld_eq (c : Dev nD) (q : Fin 1 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg2) ↦{q 0} v 0)) := by
  unfold Pipeline.prefHeld
  rw [show (Finset.univ : Finset (Fin 1)) = {(0 : Fin 1)} from by decide, bigSep_singleton]
  rfl

/-- The body's half of the table is handed over at the first point, -/
theorem phi0_intro (c : Dev nD) :
    iprop(BI.emp ∗ Pipeline.prefHeld pre0 c (fun _ => fullShare.right) (adm (F := F) T).1 ∗ Pipeline.scopedRest spec0 c) ⊢ (dats T hT m 0 c).Φ 0 := by
  rw [prefHeld_eq, scopedRest0_eq, show (dats T hT m 0 c).Φ 0 = Phi T c from rfl]
  unfold Phi
  iintro ⟨-, HT, -⟩
  iexact HT

/-- and let go at the last. -/
theorem phiN_exit (c : Dev nD) : (dats T hT m 0 c).Φ (Fin.last (cfgA (F := F) T).N) ⊢ iprop(BI.emp ∗ Pipeline.scopedRest spec0 c) := by
  rw [scopedRest0_eq, show (dats T hT m 0 c).Φ (Fin.last (cfgA (F := F) T).N) = Phi T c from rfl]
  unfold Phi
  iintro -
  isplitr; · iempintro
  iempintro

/-- At the end every array holds what the pipeline computes, and the table what it held. -/
def QC : PUnit × MemSt nD τ sig (Elt F) → Prop := fun r =>
  ∀ c : Dev nD, (∀ w : Fin (cfgA (F := F) T).W, r.2.mem (((cfgA (F := F) T).win w).arr.view.loc (c : Thread nD τ)) = (dats T hT m 0 c).arrAt w (cfgA (F := F) T).N)
    ∧ ∀ j, r.2.mem ((c : Thread nD τ).loc (pre0.ref j)) = (adm (F := F) T).1 j

variable (hp : ∀ c : Dev nD, m ((c : Thread nD τ).loc main_arg2) = T)

include hp in
/-- The prefetched table at launch is the table the pipeline is stated for. -/
theorem V_pre (c : Dev nD) (j : Fin 1) : m ((c : Thread nD τ).loc (pre0.ref j)) = (adm (F := F) T).1 j := by
  fin_cases j
  exact hp c

include hp in
set_option backward.isDefEq.respectTransparency.types false in
set_option maxHeartbeats 4000000 in
/-- **The kernel runs.** From a memory whose table is good every weakly fair execution ends, with the arrays as the
pipeline computes them and every semaphore at zero. -/
theorem run_main_quiescent : θ_run (defs (F := F)) (onTc (τ := τ) (main (F := F))) ⟨m, fun _ => 0, ρ⟩ (fun r => QC T hT m r ∧ r.2.sem = fun _ => 0) :=
  Pipeline.θ_run_region_noSem_pf_quiescent pcfgs (fun _ => adm T) (dats T hT m) () ((launch0 (F := F)).cellOf_inj fun _ => adm T) (0 : Fin 1)
    (launch0 (F := F)).win.to₀ (launch0 (F := F)).pre emb₁ defs₀ Variants.none m ρ main
    (hbody := fun c => (body_obligation T hT m c).loose) (hne := (launch0 (F := F)).block_pos)
    (harr := (launch0 (F := F)).arr_whole) (hstage := (launch0 (F := F)).stage_whole) (howed := fun _ _ => rfl)
    (u₀ := u₀ (F := F) T) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs T) (dats T hT m) 0 (launch0 (F := F)).win.arr_inj c (launch0 (F := F)).arr_whole
      (share_eq T hT m c) _ _ fun _ => rfl)
    (hpf := V_pre T m hp)
    (X := fun _ => iprop(emp)) (Y := fun _ => iprop(emp)) (Z := fun _ => iprop(emp))
    (hX := fun c => by rw [unscopedRestP0_eq]; iintro -; isplitr <;> iempintro)
    (hin := phi0_intro T hT m)
    (hout := phiN_exit T hT m)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hT hp in
/-- **The frame.** Then the argument arrays end unchanged, and every semaphore at zero. -/
theorem frame :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨((h.1 c).1 (0 : Fin 5)).trans ((dats T hT m 0 c).arrAt_in (0 : Fin 5) rfl _),
    ((h.1 c).1 (1 : Fin 5)).trans ((dats T hT m 0 c).arrAt_in (1 : Fin 5) rfl _), ((h.1 c).2 0).trans (hp c).symm,
    ((h.1 c).1 (2 : Fin 5)).trans ((dats T hT m 0 c).arrAt_in (2 : Fin 5) rfl _),
    ((h.1 c).1 (3 : Fin 5)).trans ((dats T hT m 0 c).arrAt_in (3 : Fin 5) rfl _)⟩, h.2⟩) (run_main_quiescent T hT m ρ hp)

end Launch

end Cert.KernelIdeal.Moe

end
-- ==== Proof.Same.lean ====
module

public import proofs.«01_k».proof.Defs
public import proofs.«01_k».proof.Proof.Gen.Kernel
public import proofs.«01_k».proof.Proof.Frame

@[expose] public section

noncomputable section

/-! # The kernel and the idealized kernel are one program

Idealizing changes nothing in this kernel's text, so the two printed programs are equal. What is proved of the
idealized program over every `F` then holds of the kernel. -/

namespace Cert.Kernel.Moe

open Idealize.ShloMosaic Idealize.SL.Sem

variable {F : FTy → Type} [FloatOps F]

/-- The two bodies are equal. -/
theorem body_eq : @Cert.Kernel.cc0_moe_gmm_fp8 F _ Cert.Kernel.Gen.facts = @Cert.KernelIdeal.cc0_moe_gmm_fp8 F _ Cert.KernelIdeal.Gen.facts := rfl

/-- The two tables of bodies are equal. -/
theorem defs0_eq : @Cert.Kernel.defs₀ F _ Cert.Kernel.Gen.facts = @Cert.KernelIdeal.defs₀ F _ Cert.KernelIdeal.Gen.facts := by
  show Defs.onTc _ = Defs.onTc _
  refine congrArg Defs.onTc ?_
  funext l a
  match l with
  | 0 =>
    obtain ⟨t, s⟩ := a
    rfl

/-- The two tables of programs are equal. -/
theorem defs_eq : @Cert.Kernel.defs F _ Cert.Kernel.Gen.facts = @Cert.KernelIdeal.defs F _ Cert.KernelIdeal.Gen.facts :=
  congrArg (Pipeline.defs (Cert.KernelIdeal.pcfgs (F := F))) (defs0_eq (F := F))

/-- From a good table the kernel ends with its arguments unchanged and its counters at zero. -/
theorem frame (T : Cert.KernelIdeal.S4.Idx → BitVec 32) (hT : Cert.KernelIdeal.Moe.Good T)
    (m : (ℓ : Loc Cert.Kernel.nD Cert.Kernel.τ Cert.Kernel.sig) → Buf (Elt F) ℓ) (ρ : Dev Cert.Kernel.nD → PrngReg)
    (hp : ∀ c : Dev Cert.Kernel.nD, m ((c.tc : Thread Cert.Kernel.nD Cert.Kernel.τ).loc Cert.Kernel.main_arg2) = T) :
    θ_run (Cert.Kernel.defs (F := F)) (onTc (τ := Cert.Kernel.τ) (Cert.Kernel.main (F := F))) ⟨m, fun _ => 0, ρ⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0) := by
  have key := Cert.KernelIdeal.Moe.frame (F := F) T hT m ρ hp
  rw [← defs_eq] at key
  exact key

end Cert.Kernel.Moe

end
-- ==== Proof.Pre.lean ====
module

public import proofs.«01_k».proof.Proof.Table
public import proofs.«01_k».proof.Proof.Gen.Pre_groups_fit
public import Idealize.ShloMosaic.Lib.ReduceAll

@[expose] public section

noncomputable section

/-! # What the precondition says of the table

The precondition compares every size with 0 and 512 and their sum with 512, as signed words. -/

namespace Cert.KernelIdeal.Moe

open Cert.KernelIdeal Cert.KernelIdeal.Gen
open Idealize.ShloMosaic

/-- Four words between 0 and 512, with a signed sum of at most 512: their numbers sum to at most 512. -/
theorem sum_le_of_words (a b c d : BitVec 32) (ha : a.toNat ≤ 512) (hb : b.toNat ≤ 512) (hc : c.toNat ≤ 512)
    (hd : d.toNat ≤ 512) (h : (a + (b + (c + (d + 0#32)))).toInt ≤ 512) : a.toNat + b.toNat + c.toNat + d.toNat ≤ 512 := by
  have e : (a + (b + (c + (d + 0#32)))).toNat = a.toNat + b.toNat + c.toNat + d.toNat := by
    simp only [BitVec.toNat_add, BitVec.toNat_ofNat]
    omega
  rw [BitVec.toInt_eq_toNat_cond, e] at h
  split at h <;> omega

/-- A signed word between 0 and 512 is a number of at most 512. -/
theorem toNat_le_of_toInt (x : BitVec 32) (h0 : (0#32).toInt ≤ x.toInt) (h1 : x.toInt ≤ (512#32).toInt) : x.toNat ≤ 512 := by
  rw [show (0#32).toInt = 0 from rfl] at h0
  rw [show (512#32).toInt = 512 from rfl] at h1
  rw [BitVec.toInt_eq_toNat_cond] at h0 h1
  split at h0 <;> omega

/-- The sum over a table of four words, written out. -/
theorem reduce_four (T : S4.Idx → BitVec 32) {u : Shape} (init : u.Idx → BitVec 32) {t : Shape} (ht : ∀ a b : t.Idx, a = b)
    (h : S4.ReducesTo [0] t) (hu : 0 < u.numel) (j : t.Idx) :
    Host.reduce IntOp.addi T init h hu j
      = wAt T 0 + (wAt T 1 + (wAt T 2 + (wAt T 3 + init (Shape.Idx.first hu)))) := by
  rw [Host.reduce_eq_foldl, List.filter_eq_self.2 (fun i _ => decide_eq_true (ht _ _)), List.foldl_map]
  have e : ∀ k : Fin 4, T (S4.rowMajor.symm k) = wAt T k := by
    intro k
    unfold wAt
    congr 1
    refine (Equiv.symm_apply_eq _).2 ?_
    apply Fin.ext
    exact (Shape.rowMajor_val_one (d := ![4]) (fun a => ⟨k.val, by fin_cases a; exact k.isLt⟩)).symm
  have l : ∀ (f : Fin 4 → BitVec 32) (x : BitVec 32), (List.finRange 4).foldl (fun r i => IntOp.addi r (f i)) x
      = f 0 + (f 1 + (f 2 + (f 3 + x))) := by
    intro f x
    show x + f 0 + f 1 + f 2 + f 3 = _
    ac_rfl
  exact (l (fun k => T (S4.rowMajor.symm k)) _).trans (by rw [e, e, e, e])

/-- A table that satisfies the precondition is good. -/
theorem good_of_pre {F : FTy → Type} [FloatOps F] (a0 : FVec F Cert.Pre_groups_fit.S512x2816 .fp8e4m3)
    (a1 : FVec F Cert.Pre_groups_fit.S512x1 .f32) (T : S4.Idx → BitVec 32)
    (a3 : FVec F Cert.Pre_groups_fit.S4x2816x5632 .fp8e4m3) (a4 : FVec F Cert.Pre_groups_fit.S4x5632 .f32)
    (h : Cert.Pre_groups_fit.fn a0 a1 T a3 a4 = fun _ => 1#1) : Good T := by
  have e := congrFun h (fun a => a.elim0)
  dsimp only [Cert.Pre_groups_fit.fn] at e
  obtain ⟨e1, e2⟩ := IntOp.andi_eq_one.1 e
  have hw : ∀ y : S4.Idx, (T y).toNat ≤ 512 := by
    intro y
    have hy := Host.reduce_andi_all _ _ _ _ _ e1 y
    obtain ⟨h1, h2⟩ := IntOp.andi_eq_one.1 hy
    exact toNat_le_of_toInt _ (IntOp.cmpi_sge.1 h1) (IntOp.cmpi_sle.1 h2)
  have hs := IntOp.cmpi_sle.1 e2
  rw [reduce_four T _ (fun a b => funext fun x => x.elim0) _ _ _] at hs
  exact sum_le_of_words _ _ _ _ (hw _) (hw _) (hw _) (hw _) hs

end Cert.KernelIdeal.Moe

end
-- ==== Proof.RefRun.lean ====
module

public import proofs.«01_k».proof.Proof.Gen.ReferenceIdeal.Frame
public import Idealize.ShloMosaic.Lib.StableHlo.RunRead
public import Idealize.ShloMosaic.Lib.Claim
public import Idealize.ShloMosaic.Lib.IdealHost
public import Idealize.ShloMosaic.Lib.Pipeline.Value

@[expose] public section

set_option maxRecDepth 16384

noncomputable section

/-! # The reference's run

The reference's one region writes the activations and the weights out in `f32`; the lines after it are host
operations on whole arrays. The result is `refOut` of what the region left and of the other arguments. -/

namespace Cert.ReferenceIdeal.Moe

open Cert.ReferenceIdeal Cert.ReferenceIdeal.Gen
open Idealize.ShloMosaic Idealize.ShloMosaic.TcCoe
open Idealize.SL Idealize.SL.Sem
open Idealize.ShloMosaic.ValueIdx
open Idealize.ShloMosaic.Pipeline (Dat Cfg Window)

/-! ## The host lines as functions of whole arrays -/

/-- The row numbers. -/
def rowIds : Vec Ideal S512 .i32 := iotaInDim S512 32 0

/-- The running sums of the group sizes: where each group ends. -/
def ends (gs : Vec Ideal S4 .i32) : Vec Ideal S4 .i32 :=
  Host.reduceWindow IntOp.addi ![4] ![1] ![3] ![0] gs (broadcastInDim S_ ![] bcast_S_S_ (constantI S_ 32 0#32))
    reduceWindows_S4_S4_w4s1p3_0 h_S_

/-- Which rows are at or after each group's start. -/
def afterStart (gs : Vec Ideal S4 .i32) : Vec Ideal S4x512 .i1 :=
  cmpi .sge (broadcastInDim S4x512 ![0, 1] bcast_S1x512_S4x512_0_1 (broadcastInDim S1x512 ![1] bcast_S512_S1x512_1 rowIds))
    (broadcastInDim S4x512 ![0, 1] bcast_S4x1_S4x512_0_1 (broadcastInDim S4x1 ![0] bcast_S4_S4x1_0 (subi (ends gs) gs)))

/-- Which rows are before each group's end. -/
def beforeEnd (gs : Vec Ideal S4 .i32) : Vec Ideal S4x512 .i1 :=
  cmpi .slt (broadcastInDim S4x512 ![0, 1] bcast_S1x512_S4x512_0_1 (broadcastInDim S1x512 ![1] bcast_S512_S1x512_1 rowIds))
    (broadcastInDim S4x512 ![0, 1] bcast_S4x1_S4x512_0_1 (broadcastInDim S4x1 ![0] bcast_S4_S4x1_0 (ends gs)))

/-- Which rows are in each group. -/
def mine (gs : Vec Ideal S4 .i32) : Vec Ideal S4x512 .i1 := andi (afterStart gs) (beforeEnd gs)

/-- Every row's dot products with every group's weights. -/
def dots (xf : Vec Ideal S512x2816 .f32) (wf : Vec Ideal S4x2816x5632 .f32) : Vec Ideal S4x512x5632 .f32 :=
  transpose S4x512x5632 [0, 2, 1]
    (Host.dotGeneral (F := Ideal) (φ₁ := .f32) (φ₂ := .f32) dot_S4x2816x5632_S512x2816_S4x5632x512_1_1_02_0_n_n none wf xf : Vec Ideal S4x5632x512 .f32)
    transposes_S4x5632x512_S4x512x5632_0_2_1

/-- The dot products of a row's own group, zero at the other groups. -/
def ownDots (xf : Vec Ideal S512x2816 .f32) (wf : Vec Ideal S4x2816x5632 .f32) (gs : Vec Ideal S4 .i32) :
    Vec Ideal S4x512x5632 .f32 :=
  select
    (broadcastInDim S4x512x5632 ![0, 1, 2] bcast_S4x512x1_S4x512x5632_0_1_2 (broadcastInDim S4x512x1 ![0, 1] bcast_S4x512_S4x512x1_0_1 (mine gs)))
    (dots xf wf) (broadcastInDim S4x512x5632 ![] bcast_S_S4x512x5632 (constant (F := Ideal) S_ .f32 0x00000000#32))

/-- Their sum over the groups. -/
def summed (xf : Vec Ideal S512x2816 .f32) (wf : Vec Ideal S4x2816x5632 .f32) (gs : Vec Ideal S4 .i32) :
    Vec Ideal S512x5632 .f32 :=
  Host.reduceAdd (F := Ideal) (φ := .f32) (ownDots xf wf gs) (constant (F := Ideal) S_ .f32 0x00000000#32) reducesTo_S4x512x5632_S512x5632_d0 h_S_

/-- For each row, which groups have ended. -/
def ended (gs : Vec Ideal S4 .i32) : Vec Ideal S512x4 .i1 :=
  cmpi .sge (broadcastInDim S512x4 ![0, 1] bcast_S512x1_S512x4_0_1 (broadcastInDim S512x1 ![0] bcast_S512_S512x1_0 rowIds))
    (broadcastInDim S512x4 ![0, 1] bcast_S1x4_S512x4_0_1 (broadcastInDim S1x4 ![1] bcast_S4_S1x4_1 (ends gs)))

/-- The number of groups that have ended. -/
def endedCount (gs : Vec Ideal S4 .i32) : Vec Ideal S512 .i32 :=
  Host.reduce IntOp.addi (extui 32 (ended gs) natLt_1_32 : Vec Ideal S512x4 .i32) (constantI S_ 32 0#32) reducesTo_S512x4_S512_d1 h_S_

/-- The row's expert: that number, at most the last expert. -/
def expert (gs : Vec Ideal S4 .i32) : Vec Ideal S512 .i32 :=
  minsi (endedCount gs) (broadcastInDim S512 ![] bcast_S_S512 (constantI S_ 32 3#32))

/-- The same, a negative number counted from the end, as an index of rows. -/
def expertIdx (gs : Vec Ideal S4 .i32) : Vec Ideal S512x1 .i32 :=
  broadcastInDim S512x1 ![0] bcast_S512_S512x1_0
    (select (cmpi .slt (expert gs) (broadcastInDim S512 ![] bcast_S_S512 (constantI S_ 32 0#32)))
      (addi (expert gs) (broadcastInDim S512 ![] bcast_S_S512 (constantI S_ 32 4#32))) (expert gs))

/-- The result. -/
def refOut (xf : Vec Ideal S512x2816 .f32) (xs : Vec Ideal S512x1 .f32) (gs : Vec Ideal S4 .i32)
    (wf : Vec Ideal S4x2816x5632 .f32) (ws : Vec Ideal S4x5632 .f32) : Vec Ideal S512x5632 .bf16 :=
  truncf (F := Ideal) (φ := .f32) .bf16
    (mulf (F := Ideal) (φ := .f32) (mulf (F := Ideal) (φ := .f32) (summed xf wf gs) (broadcastInDim S512x5632 ![0, 1] bcast_S512x1_S512x5632_0_1 xs))
      (Host.gather gather_S4x5632_S512x1_S512x5632_1_0_n_n_0_1_15632 ws (expertIdx gs) : Vec Ideal S512x5632 .f32))
    bitsLt_bf16_f32

/-! ## What the host lines leave -/

/-- The result's buffer after the host lines. -/
theorem lines_out (V : Valuation τ sig (Elt Ideal)) :
    StableHlo.after (List.flatten [hostOps1, hostOps1_1, hostOps1_2, hostOps1_3, hostOps1_4]) V (Proc.devRef .tc main_v39)
      = refOut (V (Proc.devRef .tc main_v0_0)) (V (Proc.devRef .tc main_arg1)) (V (Proc.devRef .tc main_arg2))
          (V (Proc.devRef .tc main_v0_1)) (V (Proc.devRef .tc main_arg4)) := by
  simp only [hostOps1, hostOps1_1, hostOps1_2, hostOps1_3, hostOps1_4, List.flatten_cons, List.flatten_nil,
    List.append_nil, List.cons_append, List.nil_append]
  after_reads_simp
  rfl

/-! ## What the region leaves -/

section Region

variable (m : (ℓ : Loc nD τ sig) → Buf (Elt Ideal) ℓ) (c : Dev nD)

/-- The activations the region writes out are the argument's. -/
theorem region_x : (dats m 0 c).arrAt (2 : Fin 4) cfg0.N = (m ((c : Thread nD τ).loc main_arg0) : Vec Ideal S512x2816 .f32) := by
  refine (dats m 0 c).arrAt_eq_of_cover (2 : Fin 4) _ (fun t ht => ?_) (fun i => ?_)
  · show (cfg0.win 2).cut _ ((dats m 0 c).after 2 t) = _
    rw [after0_2]
    unfold out0_2
    rw [View.canon_unit_zero (funext fun a => by fin_cases a <;> rfl)]
    unfold k0_pay1
    rw [View.ld_unit_zero (funext fun a => by fin_cases a <;> rfl)]
    rfl
  · obtain ⟨q, l, rfl⟩ : ∃ (q : Fin 512) (l : Fin 2816), i = ix2 q l := ⟨i 0, i 1, eq_ix2 (n0 := 512) (n1 := 2816) i⟩
    refine ⟨t0_0, flush0_2 _, cast (congrArg (· ∈ _) ?_) (View.emb_mem_set (v := ((cfg0.win (2 : Fin 4)).blk t0_0).view) (ix2 q l))⟩
    funext d
    refine Fin.ext ?_
    fin_cases d
    · show 0 * 512 + 1 * q.val = q.val; omega
    · show 0 * 2816 + 1 * l.val = l.val; omega

/-- The weights the region writes out are the argument's. -/
theorem region_w : (dats m 0 c).arrAt (3 : Fin 4) cfg0.N = (m ((c : Thread nD τ).loc main_arg3) : Vec Ideal S4x2816x5632 .f32) := by
  refine (dats m 0 c).arrAt_eq_of_cover (3 : Fin 4) _ (fun t ht => ?_) (fun i => ?_)
  · show (cfg0.win 3).cut _ ((dats m 0 c).after 3 t) = _
    rw [after0_3]
    unfold out0_3
    rw [View.canon_unit_zero (funext fun a => by fin_cases a <;> rfl)]
    unfold k0_pay2
    rw [View.ld_unit_zero (funext fun a => by fin_cases a <;> rfl)]
    rfl
  · obtain ⟨e, k, l, rfl⟩ : ∃ (e : Fin 4) (k : Fin 2816) (l : Fin 5632), i = ix3 e k l := ⟨i 0, i 1, i 2, eq_ix3 (n0 := 4) (n1 := 2816) (n2 := 5632) i⟩
    refine ⟨t0_0, flush0_3 _, cast (congrArg (· ∈ _) ?_) (View.emb_mem_set (v := ((cfg0.win (3 : Fin 4)).blk t0_0).view) (ix3 e k l))⟩
    funext d
    refine Fin.ext ?_
    fin_cases d
    · show 0 * 4 + 1 * e.val = e.val; omega
    · show 0 * 2816 + 1 * k.val = k.val; omega
    · show 0 * 5632 + 1 * l.val = l.val; omega

/-- The result's buffer at the end of the run. -/
theorem tail_out : Pipeline.afterTail₀ cfgs (dats m) 0 (V0 m) [hostOps1, hostOps1_1, hostOps1_2, hostOps1_3, hostOps1_4] c main_v39
    = refOut (m ((c : Thread nD τ).loc main_arg0)) (m ((c : Thread nD τ).loc main_arg1)) (m ((c : Thread nD τ).loc main_arg2))
        (m ((c : Thread nD τ).loc main_arg3)) (m ((c : Thread nD τ).loc main_arg4)) := by
  unfold Pipeline.afterTail₀
  rw [lines_out]
  have h0 : (Pipeline.withArrays spec0 c (V0 m c) fun w => (dats m 0 c).arrAt w cfg0.N) (Proc.devRef .tc main_v0_0)
      = (m ((c : Thread nD τ).loc main_arg0) : Vec Ideal S512x2816 .f32) :=
    (Pipeline.withArrays_arr spec0 winFacts0.arr_inj c (V0 m c) _ (2 : Fin 4)).trans (region_x m c)
  have h1 : (Pipeline.withArrays spec0 c (V0 m c) fun w => (dats m 0 c).arrAt w cfg0.N) (Proc.devRef .tc main_v0_1)
      = (m ((c : Thread nD τ).loc main_arg3) : Vec Ideal S4x2816x5632 .f32) :=
    (Pipeline.withArrays_arr spec0 winFacts0.arr_inj c (V0 m c) _ (3 : Fin 4)).trans (region_w m c)
  have h2 := (Pipeline.withArrays_of_ne spec0 c (V0 m c) (fun w => (dats m 0 c).arrAt w cfg0.N) main_arg1 (by exact (by decide : ∀ w, Pipeline.arrRef spec0 w ≠ main_arg1))).trans (V_main_arg1 m c)
  have h3 := (Pipeline.withArrays_of_ne spec0 c (V0 m c) (fun w => (dats m 0 c).arrAt w cfg0.N) main_arg2 (by exact (by decide : ∀ w, Pipeline.arrRef spec0 w ≠ main_arg2))).trans (V_main_arg2 m c)
  have h4 := (Pipeline.withArrays_of_ne spec0 c (V0 m c) (fun w => (dats m 0 c).arrAt w cfg0.N) main_arg4 (by exact (by decide : ∀ w, Pipeline.arrRef spec0 w ≠ main_arg4))).trans (V_main_arg4 m c)
  exact congr (congr (congr (congr (congrArg refOut h0) h2) h3) h1) h4

/-- **The reference's run**: it ends with the result's buffer at `refOut` of the arguments and the arguments unchanged. -/
theorem run_out (ρ : Dev nD → PrngReg) :
    θ_run defs (onTc (τ := τ) (main (F := Ideal))) ⟨m, fun _ => 0, ρ⟩ (fun r => ∀ c : Dev nD,
      r.2.mem ((c.tc : Thread nD τ).loc main_v39)
        = refOut (m ((c : Thread nD τ).loc main_arg0)) (m ((c : Thread nD τ).loc main_arg1)) (m ((c : Thread nD τ).loc main_arg2))
            (m ((c : Thread nD τ).loc main_arg3)) (m ((c : Thread nD τ).loc main_arg4))) :=
  (θ_run defs _ _).mono (fun _ h c =>
    ((h c).2 main_v39 (Pipeline.mem_restRefs_of main_v39 (by decide) (by decide))).trans (tail_out m c)) (run_main m ρ)

end Region

end Cert.ReferenceIdeal.Moe

end
-- ==== Proof.StepValue.lean ====
module

public import proofs.«01_k».proof.Proof.Run
public import Idealize.ShloMosaic.PureOps.Ideal.Laws
public import Idealize.ShloMosaic.Lib.MatmulPlain
public import Idealize.ShloMosaic.Lib.Affine
public import Idealize.ShloMosaic.Lib.Pipeline.Value

@[expose] public section

set_option maxRecDepth 16384

noncomputable section

/-! # What one branch leaves, element by element

Over the extended reals the casts are the identity, so a branch writes into each row of its blocks that
lies in the group the scaled dot product of that row, and keeps the others. -/

namespace Cert.KernelIdeal.Moe

open Cert.KernelIdeal Cert.KernelIdeal.Gen
open Idealize.ShloMosaic Idealize.ShloMosaic.ValueIdx
open scoped BigOperators

section Value

variable (x0 : Vec Ideal S512x2816 .fp8e4m3) (x1 : Vec Ideal S512x1 .f32) (x2 : Vec Ideal S1x2816x512 .fp8e4m3)
  (x3 : Vec Ideal S4x512 .f32)

/-- The value of row `r`, column `n`, for the expert `e`: the dot product of the row with the expert's
column, times the row's scale, times the column's. -/
def valAt (e : Fin 4) (r n : Fin 512) : EReal :=
  ((∑ k : Fin 2816, (x0 (ix2 r k) : EReal) * (x2 (ix3 0 k n) : EReal)) * (x1 (ix2 r 0) : EReal)) * (x3 (ix2 e n) : EReal)

omit x0 x1 x2 x3 in
/-- An element of a product of a matrix of rows with the weights, from zero, is the dot product. -/
theorem dot_apply {n : ℕ} {φ ψ : FTy} (x : FVec Ideal ⟨2, ![n, 2816]⟩ φ) (w : FVec Ideal S2816x512 ψ) (a : Fin n) (b : Fin 512) :
    (matmul (φ₁ := φ) (φ₂ := ψ) (DotDims.plain n 2816 512) none x w (constant ⟨2, ![n, 512]⟩ .f32 0x00000000#32) : FVec Ideal ⟨2, ![n, 512]⟩ .f32) (ix2 a b)
      = ∑ k : Fin 2816, (x (ix2 a k) : EReal) * (w (ix2 k b) : EReal) := by
  refine (Ideal.matmul_plain_apply (φ₁ := φ) (φ₂ := ψ) (M := n) (K := 2816) (N := 512) none x w _ a b).trans ?_
  have h0 : (constant ⟨2, ![n, 512]⟩ .f32 0x00000000#32 : FVec Ideal ⟨2, ![n, 512]⟩ .f32) (ix2 a b) = (0 : EReal) := Ideal.ofBits_zero_f32
  rw [h0]
  exact zero_add _

/-- An element of the product a branch of `n` rows computes is the value of its row and column. -/
theorem prodAt_apply {n : ℕ} {r : BitVec 32} {e : Fin 4} {offE : Fin 2 → ℕ} (hoff : offE = ![e.val, 0]) (h : Rows n r offE)
    (a : Fin n) (b : Fin 512) (q : Fin 512) (hq : q.val = r.toNat + a.val) :
    prodAt x0 x1 x2 x3 h (ix2 a b) = valAt x0 x1 x2 x3 e q b := by
  subst hoff
  have hx : ∀ k : Fin 2816, VecWindow.window (s := S512x2816) x0 ![r.toNat, 0] (⟨2, ![n, 2816]⟩ : Shape).size h.x (ix2 a k)
      = x0 (ix2 q k) := fun k => congrArg x0 (funext fun d => Fin.ext (by
        fin_cases d
        · show r.toNat + 1 * a.val = q.val; omega
        · show 0 + 1 * k.val = k.val; omega))
  have hw : ∀ k : Fin 2816, shapeCast S2816x512 (VecWindow.window (s := S1x2816x512) x2 ![0, 0, 0] S1x2816x512.size
      inb_S1x2816x512_S1x2816x512_0_0_0) shapeCasts_S1x2816x512_S2816x512 (ix2 k b) = x2 (ix3 0 k b) := fun k => by
    refine (shapeCast_apply _ _ _ (ix3 (0 : Fin 1) k b) ?_).trans (congrArg x2 (funext fun d => Fin.ext (by
        fin_cases d
        · rfl
        · show 0 + 1 * k.val = k.val; omega
        · show 0 + 1 * b.val = b.val; omega)))
    rw [Shape.rowMajor_val_three, Shape.rowMajor_val_two]
    show (0 * 2816 + k.val) * 512 + b.val = k.val * 512 + b.val
    omega
  have hxs : broadcastTo ⟨2, ![n, 512]⟩ (VecWindow.window (s := S512x1) x1 ![r.toNat, 0] (⟨2, ![n, 1]⟩ : Shape).size h.xs)
      (bc_col n) (ix2 a b) = x1 (ix2 q 0) := by
    refine (broadcastTo_apply _ _ _ (ix2 a (0 : Fin 1)) fun d => ?_).trans (congrArg x1 (funext fun d => Fin.ext (by
        fin_cases d
        · show r.toNat + 1 * a.val = q.val; omega
        · rfl)))
    fin_cases d
    · show a.val = if n = 1 then 0 else a.val
      split <;> omega
    · rfl
  have hws : broadcastTo ⟨2, ![n, 512]⟩ (VecWindow.window (s := S4x512) x3 ![e.val, 0] S1x512.size h.ws)
      (bc_row n) (ix2 a b) = x3 (ix2 e b) := by
    refine (broadcastTo_apply _ _ _ (ix2 (0 : Fin 1) b) fun d => ?_).trans (congrArg x3 (funext fun d => Fin.ext (by
        fin_cases d
        · show e.val + 1 * 0 = e.val; omega
        · show 0 + 1 * b.val = b.val; omega)))
    fin_cases d <;> rfl
  have hm := fun w => dot_apply (n := n) (φ := .fp8e4m3) (ψ := .fp8e4m3) (VecWindow.window (s := S512x2816) x0 ![r.toNat, 0] (⟨2, ![n, 2816]⟩ : Shape).size h.x) w a b
  show ((_ : EReal) * _) * _ = _
  unfold valAt
  exact congrArg₂ (· * ·) (congrArg₂ (· * ·)
    ((hm _).trans (Finset.sum_congr rfl fun k _ => congrArg₂ (· * ·) (hx k) (hw k))) hxs) hws

/-! ## The mask and the stores -/

omit x0 x1 x2 x3 in
/-- The mask of the 32 rows at row `r` holds on the rows from `s` to `e`. -/
theorem maskOf_iff (s e r : BitVec 32) (hs : s.toNat ≤ 512) (he : e.toNat ≤ 512) (hr : r.toNat ≤ 512) (a : Fin 32) :
    maskOf s e r (ix2 a 0) = 1#1 ↔ s.toNat ≤ r.toNat + a.val ∧ r.toNat + a.val < e.toNat := by
  have hv : (r + BitVec.ofNat 32 a.val).toNat = r.toNat + a.val := by
    rw [BitVec.toNat_add, BitVec.toNat_ofNat, Nat.mod_eq_of_lt (a := a.val) (by omega), Nat.mod_eq_of_lt (by omega)]
  have h32 : iota .tc S32x1 32 [0] iota_S32x1_d0_w32 (ix2 a 0) = BitVec.ofNat 32 a.val := by
    show BitVec.ofNat 32 (0 * 32 + a.val) = _
    rw [Nat.zero_mul, Nat.zero_add]
  have hi' : maskOf s e r (ix2 a 0) = IntOp.andi (IntOp.cmpi .sge (r + iota .tc S32x1 32 [0] iota_S32x1_d0_w32 (ix2 a 0)) s)
      (IntOp.cmpi .slt (r + iota .tc S32x1 32 [0] iota_S32x1_d0_w32 (ix2 a 0)) e) := rfl
  have hi : maskOf s e r (ix2 a 0) = IntOp.andi (IntOp.cmpi .sge (r + BitVec.ofNat 32 a.val) s) (IntOp.cmpi .slt (r + BitVec.ofNat 32 a.val) e) := by rw [hi', h32]
  rw [hi, IntOp.andi_eq_one, IntOp.cmpi_sge, IntOp.cmpi_slt, BitVec.toInt_eq_toNat_of_lt (by omega), BitVec.toInt_eq_toNat_of_lt (by omega),
    BitVec.toInt_eq_toNat_of_lt (by omega), hv]
  omega

variable (V : Fin 512 → Fin 512 → EReal)

omit x0 x1 x2 x3 in
/-- A row of a window of whole rows is inside it when its number is. -/
theorem in_window {R n : ℕ} (q b : Fin 512) :
    (∀ a : Fin 2, (![R, 0] : Fin 2 → ℕ) a ≤ ((ix2 q b : S512x512.Idx) a).val
      ∧ ((ix2 q b : S512x512.Idx) a).val < (![R, 0] : Fin 2 → ℕ) a + (⟨2, ![n, 512]⟩ : Shape).size a) ↔ R ≤ q.val ∧ q.val < R + n := by
  refine ⟨fun h => h 0, fun h a => ?_⟩
  fin_cases a
  · exact h
  · exact ⟨Nat.zero_le _, by show b.val < 0 + 512; omega⟩

omit x0 x1 x2 x3 in
/-- 32 blended rows leave the values in the rows of the group and the old elements in the others. -/
theorem putBlend_val {s e R : ℕ} {off : Fin 2 → ℕ} (hoff : off = ![R, 0]) (h : Out 32 off) (m : IVec S32x1 1)
    (hm : ∀ a : Fin 32, m (ix2 a 0) = 1#1 ↔ s ≤ R + a.val ∧ R + a.val < e) (y : FVec Ideal S32x512 .f32)
    (hy : ∀ (a : Fin 32) (q b : Fin 512), q.val = R + a.val → y (ix2 a b) = V q b) (o : Vec Ideal S512x512 .bf16) (q b : Fin 512) :
    putBlend off h m y o (ix2 q b) = if (R ≤ q.val ∧ q.val < R + 32) ∧ s ≤ q.val ∧ q.val < e then V q b else o (ix2 q b) := by
  subst hoff
  by_cases hq : R ≤ q.val ∧ q.val < R + 32
  · have ha : q.val - R < 32 := by omega
    have hput : putBlend ![R, 0] h m y o (ix2 q b)
        = blend m y (VecWindow.window (s := S512x512) o ![R, 0] S32x512.size h.inb) (ix2 (⟨q.val - R, ha⟩ : Fin 32) b) := by
      refine (dif_pos ((in_window (n := 32) q b).2 hq)).trans (congrArg (blend m y _) (funext fun d => Fin.ext ?_))
      fin_cases d
      · rfl
      · rfl
    have hw : VecWindow.window (s := S512x512) o ![R, 0] S32x512.size h.inb (ix2 (⟨q.val - R, ha⟩ : Fin 32) b) = o (ix2 q b) :=
      congrArg o (funext fun d => Fin.ext (by
        fin_cases d
        · show R + 1 * (q.val - R) = q.val; omega
        · show 0 + 1 * b.val = b.val; omega))
    have hmask : broadcastTo S32x512 (shapeCast S32x1 m shapeCasts_S32x1_S32x1) broadcasts_S32x1_S32x512 (ix2 (⟨q.val - R, ha⟩ : Fin 32) b)
        = m (ix2 (⟨q.val - R, ha⟩ : Fin 32) 0) := by
      refine (broadcastTo_apply _ _ _ (ix2 (⟨q.val - R, ha⟩ : Fin 32) (0 : Fin 1)) fun d => ?_).trans (shapeCast_apply _ _ _ _ rfl)
      fin_cases d <;> rfl
    have hold : shapeCast S32x512 (VecWindow.window (s := S512x512) o ![R, 0] S32x512.size h.inb) shapeCasts_S32x512_S32x512
        (ix2 (⟨q.val - R, ha⟩ : Fin 32) b) = o (ix2 q b) := (shapeCast_apply _ _ _ _ rfl).trans hw
    have hsel : blend m y (VecWindow.window (s := S512x512) o ![R, 0] S32x512.size h.inb) (ix2 (⟨q.val - R, ha⟩ : Fin 32) b)
        = Scalar.select (broadcastTo S32x512 (shapeCast S32x1 m shapeCasts_S32x1_S32x1) broadcasts_S32x1_S32x512 (ix2 (⟨q.val - R, ha⟩ : Fin 32) b))
          (y (ix2 (⟨q.val - R, ha⟩ : Fin 32) b) : EReal)
          (shapeCast S32x512 (VecWindow.window (s := S512x512) o ![R, 0] S32x512.size h.inb) shapeCasts_S32x512_S32x512
        (ix2 (⟨q.val - R, ha⟩ : Fin 32) b)) := rfl
    rw [hput, hsel, hmask, hold, hy ⟨q.val - R, ha⟩ q b (by show q.val = R + (q.val - R); omega)]
    have hmm := hm ⟨q.val - R, ha⟩
    have hv : R + (q.val - R) = q.val := by omega
    rw [show R + (⟨q.val - R, ha⟩ : Fin 32).val = q.val from hv] at hmm
    unfold Scalar.select
    by_cases hc : m (ix2 (⟨q.val - R, ha⟩ : Fin 32) 0) = 1#1
    · exact (if_pos hc).trans (if_pos ⟨hq, hmm.1 hc⟩).symm
    · exact (if_neg hc).trans (if_neg fun hh => hc (hmm.2 hh.2)).symm
  · rw [if_neg fun hh => hq hh.1]
    exact dif_neg fun hh => hq ((in_window (n := 32) q b).1 hh)

omit x0 x1 x2 x3 in
/-- A store of whole rows leaves the values in them. -/
theorem putRows_val {R n : ℕ} {off : Fin 2 → ℕ} (hoff : off = ![R, 0]) (y : FVec Ideal ⟨2, ![n, 512]⟩ .f32)
    (hy : ∀ (a : Fin n) (q b : Fin 512), q.val = R + a.val → y (ix2 a b) = V q b) (o : Vec Ideal S512x512 .bf16) (q b : Fin 512) :
    putRows off y o (ix2 q b) = if R ≤ q.val ∧ q.val < R + n then V q b else o (ix2 q b) := by
  subst hoff
  by_cases hq : R ≤ q.val ∧ q.val < R + n
  · rw [if_pos hq]
    refine (dif_pos ((in_window (n := n) q b).2 hq)).trans ?_
    refine Eq.trans ?_ (hy ⟨q.val - R, by omega⟩ q b (by show q.val = R + (q.val - R); omega))
    refine congrArg y (funext fun d => Fin.ext ?_)
    fin_cases d
    · rfl
    · rfl
  · rw [if_neg hq]
    exact dif_neg fun hh => hq ((in_window (n := n) q b).1 hh)

omit x0 x1 x2 x3 in
/-- The rows of a product from row `d` on. -/
theorem rowsOf_apply {n d r : ℕ} (h : d + r ≤ n) (y : FVec Ideal ⟨2, ![n, 512]⟩ .f32) (a : Fin r) (b : Fin 512) :
    rowsOf d r h y (ix2 a b) = y (ix2 (⟨d + a.val, by omega⟩ : Fin n) b) := by
  refine congrArg y (funext fun k => Fin.ext ?_)
  fin_cases k
  · rfl
  · show 0 + b.val = b.val; omega

end Value

end Cert.KernelIdeal.Moe

end
-- ==== Proof.BodyValue.lean ====
module

public import proofs.«01_k».proof.Proof.StepValue
public import Idealize.ShloMosaic.Lib.IdealHost

@[expose] public section

set_option maxRecDepth 16384

noncomputable section

/-! # What the body leaves, element by element

Exactly one branch is taken when the expert's group has a row, none when it has none. So the body leaves
the scaled dot products in the rows of the group, and the other rows as the first step left them. -/

namespace Cert.KernelIdeal.Moe

open Cert.KernelIdeal Cert.KernelIdeal.Gen
open Idealize.ShloMosaic Idealize.ShloMosaic.ValueIdx
open scoped BigOperators

section Value

variable (i : grid0.Coords) (v1 v5 v9 v13 v17 : BitVec 32) (hf : Fits i v1 v5 v9 v13 v17)
variable (x0 : Vec Ideal S512x2816 .fp8e4m3) (x1 : Vec Ideal S512x1 .f32) (x2 : Vec Ideal S1x2816x512 .fp8e4m3)
  (x3 : Vec Ideal S4x512 .f32)
variable {e : Fin 4} (he : (i 1).val = e.val)

/-- The row is in the expert's group. -/
def InG (q : Fin 512) : Prop :=
  (startW i v1 v5 v9 v13).toNat ≤ q.val ∧ q.val < (startW i v1 v5 v9 v13).toNat + v17.toNat

/-- Whether a row is in the group can be decided. -/
instance (q : Fin 512) : Decidable (InG i v1 v5 v9 v13 v17 q) := by unfold InG; infer_instance

/-- The block `o'` is the block `o` with, when the condition holds, the values in the rows of the group. -/
def After (e : Fin 4) (P : Prop) (o o' : Vec Ideal S512x512 .bf16) : Prop :=
  ∀ q b : Fin 512, (P → InG i v1 v5 v9 v13 v17 q → o' (ix2 q b) = valAt x0 x1 x2 x3 e q b)
    ∧ (¬ (P ∧ InG i v1 v5 v9 v13 v17 q) → o' (ix2 q b) = o (ix2 q b))

/-- Two such steps are one. -/
theorem After.trans {P Q : Prop} {o o' o'' : Vec Ideal S512x512 .bf16} (h : After i v1 v5 v9 v13 v17 x0 x1 x2 x3 e P o o')
    (h' : After i v1 v5 v9 v13 v17 x0 x1 x2 x3 e Q o' o'') : After i v1 v5 v9 v13 v17 x0 x1 x2 x3 e (P ∨ Q) o o'' := by
  intro q b
  refine ⟨fun hpq hq => ?_, fun hn => ?_⟩
  · by_cases hQ : Q
    · exact (h' q b).1 hQ hq
    · exact ((h' q b).2 fun hh => hQ hh.1).trans ((h q b).1 (hpq.resolve_right hQ) hq)
  · exact ((h' q b).2 fun hh => hn ⟨.inr hh.1, hh.2⟩).trans ((h q b).2 fun hh => hn ⟨.inl hh.1, hh.2⟩)

/-- A step that does nothing unless its condition holds. -/
theorem After.of {P : Prop} {o o' : Vec Ideal S512x512 .bf16} (hP : P → After i v1 v5 v9 v13 v17 x0 x1 x2 x3 e True o o') (hN : ¬ P → o' = o) :
    After i v1 v5 v9 v13 v17 x0 x1 x2 x3 e P o o' := by
  intro q b
  refine ⟨fun h hq => (hP h q b).1 trivial hq, fun hn => ?_⟩
  by_cases h : P
  · exact (hP h q b).2 fun hh => hn ⟨h, hh.2⟩
  · rw [hN h]

include hf in
/-- 32 blended rows from row `c` of a taken branch. -/
theorem blend_at {k : BitVec 32} (hc : condW i v1 v5 v9 v13 v17 k = 1#1) {c : BitVec 32} (hck : c.toNat + 32 ≤ 32 * k.toNat)
    (h : Out 32 (rowAt i v1 v5 v9 v13 c)) (y : FVec Ideal S32x512 .f32)
    (hy : ∀ (a : Fin 32) (q b : Fin 512), q.val = (r0W i v1 v5 v9 v13).toNat + c.toNat + a.val → y (ix2 a b) = valAt x0 x1 x2 x3 e q b)
    (o : Vec Ideal S512x512 .bf16) (q b : Fin 512) :
    putBlend (rowAt i v1 v5 v9 v13 c) h (maskAt i v1 v5 v9 v13 v17 c) y o (ix2 q b)
      = if ((r0W i v1 v5 v9 v13).toNat + c.toNat ≤ q.val ∧ q.val < (r0W i v1 v5 v9 v13).toNat + c.toNat + 32)
          ∧ (startW i v1 v5 v9 v13).toNat ≤ q.val ∧ q.val < (startW i v1 v5 v9 v13).toNat + v17.toNat
        then valAt x0 x1 x2 x3 e q b else o (ix2 q b) := by
  have hr := r0_fits hf hc
  have hR := toNat_r0_add hf hc (c := c) (by omega)
  have hend := endW_toNat hf
  have hf' := hf
  unfold Fits at hf'
  refine putBlend_val (valAt x0 x1 x2 x3 e) (congrArg (fun n : ℕ => (![n, 0] : Fin 2 → ℕ)) hR) h _ (fun a => ?_) y hy o q b
  have hm := maskOf_iff (startW i v1 v5 v9 v13) (endW i v1 v5 v9 v13 v17) (Scalar.addi (r0W i v1 v5 v9 v13) c) (by omega) (by omega) (by omega) a
  rw [hR, hend] at hm
  exact hm

include he in
/-- An element of the product of a branch. -/
theorem prod_at {n : ℕ} (h : Rows n (r0W i v1 v5 v9 v13) (k0_off4 i)) (a : Fin n) (q b : Fin 512)
    (hq : q.val = (r0W i v1 v5 v9 v13).toNat + a.val) : prodAt x0 x1 x2 x3 h (ix2 a b) = valAt x0 x1 x2 x3 e q b :=
  prodAt_apply x0 x1 x2 x3 (by rw [k0_off4_eq, he]) h a b q hq

include he in
/-- An element of the rows from `d` on of the product of a branch. -/
theorem rows_at {n d r : ℕ} {c : BitVec 32} (hcd : c.toNat = d) (hd : d + r ≤ n) (h : Rows n (r0W i v1 v5 v9 v13) (k0_off4 i)) (a : Fin r) (q b : Fin 512)
    (hq : q.val = (r0W i v1 v5 v9 v13).toNat + c.toNat + a.val) : rowsOf d r hd (prodAt x0 x1 x2 x3 h) (ix2 a b) = valAt x0 x1 x2 x3 e q b :=
  (rowsOf_apply hd _ a b).trans (prod_at i v1 v5 v9 v13 x0 x1 x2 x3 he h _ q b (by show q.val = _ + (d + a.val); omega))

include hf in
/-- The group of a taken branch lies within its blocks, and meets the first and the last of them. -/
theorem group_blocks {k : BitVec 32} (hc : condW i v1 v5 v9 v13 v17 k = 1#1) :
    (r0W i v1 v5 v9 v13).toNat ≤ (startW i v1 v5 v9 v13).toNat ∧ (startW i v1 v5 v9 v13).toNat < (r0W i v1 v5 v9 v13).toNat + 32
      ∧ (startW i v1 v5 v9 v13).toNat + v17.toNat ≤ (r0W i v1 v5 v9 v13).toNat + 32 * k.toNat
      ∧ (r0W i v1 v5 v9 v13).toNat + 32 * k.toNat < (startW i v1 v5 v9 v13).toNat + v17.toNat + 32 := by
  obtain ⟨h0, hk⟩ := (condW_iff hf k).mp hc
  rw [nbW_toNat hf] at hk
  have hr := r0W_toNat (i := i) (v1 := v1) (v5 := v5) (v9 := v9) (v13 := v13) (by unfold Fits at hf; omega)
  rw [hr]
  omega

include he in
/-- The branch of one block. -/
theorem step1_after (o : Vec Ideal S512x512 .bf16) :
    After i v1 v5 v9 v13 v17 x0 x1 x2 x3 e (condW i v1 v5 v9 v13 v17 1#32 = 1#1) o (step1 i v1 v5 v9 v13 v17 hf x0 x1 x2 x3 o) := by
  refine After.of i v1 v5 v9 v13 v17 x0 x1 x2 x3 (fun hc => ?_) (fun hc => by unfold step1; rw [dif_neg hc])
  have hg := group_blocks i v1 v5 v9 v13 v17 hf hc
  have h1 : (1#32).toNat = 1 := rfl
  have h00 : (0#32).toNat = 0 := rfl
  unfold step1
  rw [dif_pos hc]
  intro q b
  rw [blend_at i v1 v5 v9 v13 v17 hf x0 x1 x2 x3 hc (c := 0#32) (by decide) _ _
    (fun a q b hq => prod_at i v1 v5 v9 v13 x0 x1 x2 x3 he _ a q b (by rw [h00] at hq; omega)) o q b]
  unfold InG
  refine ⟨fun _ hq => if_pos ⟨?_, hq⟩, fun hn => if_neg fun hh => hn ⟨trivial, hh.2⟩⟩
  omega

include he in
/-- The branch of two blocks. -/
theorem step2_after (o : Vec Ideal S512x512 .bf16) :
    After i v1 v5 v9 v13 v17 x0 x1 x2 x3 e (condW i v1 v5 v9 v13 v17 2#32 = 1#1) o (step2 i v1 v5 v9 v13 v17 hf x0 x1 x2 x3 o) := by
  refine After.of i v1 v5 v9 v13 v17 x0 x1 x2 x3 (fun hc => ?_) (fun hc => by unfold step2; rw [dif_neg hc])
  have hg := group_blocks i v1 v5 v9 v13 v17 hf hc
  have h1 : (2#32).toNat = 2 := rfl
  have h00 : (0#32).toNat = 0 := rfl
  have h32 : (32#32).toNat = 32 := rfl
  unfold step2
  rw [dif_pos hc]
  intro q b
  rw [blend_at i v1 v5 v9 v13 v17 hf x0 x1 x2 x3 hc (by decide) _ _
    (fun a q b hq => rows_at i v1 v5 v9 v13 x0 x1 x2 x3 he h32 _ _ a q b hq) _ q b,
    blend_at i v1 v5 v9 v13 v17 hf x0 x1 x2 x3 hc (by decide) _ _
    (fun a q b hq => rows_at i v1 v5 v9 v13 x0 x1 x2 x3 he h00 _ _ a q b hq) o q b]
  unfold InG
  refine ⟨fun _ hq => ?_, fun hn => ?_⟩
  · by_cases hh : q.val < (r0W i v1 v5 v9 v13).toNat + 32
    · rw [if_neg (by omega), if_pos (by omega)]
    · rw [if_pos (by omega)]
  · rw [if_neg (by simp at hn; omega), if_neg (by simp at hn; omega)]

include he in
/-- The branch of three blocks or more. -/
theorem step3_after {kW : BitVec 32} {n m l : ℕ} {lW : BitVec 32} (hs : Sizes kW n m l lW) (o : Vec Ideal S512x512 .bf16) :
    After i v1 v5 v9 v13 v17 x0 x1 x2 x3 e (condW i v1 v5 v9 v13 v17 kW = 1#1) o (step3 i v1 v5 v9 v13 v17 hf x0 x1 x2 x3 o hs) := by
  refine After.of i v1 v5 v9 v13 v17 x0 x1 x2 x3 (fun hc => ?_) (fun hc => by unfold step3; rw [dif_neg hc])
  have hg := group_blocks i v1 v5 v9 v13 v17 hf hc
  have h00 : (0#32).toNat = 0 := rfl
  have h32 : (32#32).toNat = 32 := rfl
  obtain ⟨hn, hm, hl, hlW, hpos, hev⟩ := id hs
  have hR := toNat_r0_add hf hc (c := 32#32) (by omega)
  unfold step3
  rw [dif_pos hc]
  intro q b
  rw [blend_at i v1 v5 v9 v13 v17 hf x0 x1 x2 x3 hc (by omega) _ _
    (fun a q b hq => rows_at i v1 v5 v9 v13 x0 x1 x2 x3 he hlW _ _ a q b hq) _ q b,
    putRows_val (valAt x0 x1 x2 x3 e) (congrArg (fun n : ℕ => (![n, 0] : Fin 2 → ℕ)) hR) _
      (fun a q b hq => rows_at i v1 v5 v9 v13 x0 x1 x2 x3 he h32 _ _ a q b hq) _ q b,
    blend_at i v1 v5 v9 v13 v17 hf x0 x1 x2 x3 hc (by omega) _ _
    (fun a q b hq => rows_at i v1 v5 v9 v13 x0 x1 x2 x3 he h00 _ _ a q b hq) o q b]
  unfold InG
  refine ⟨fun _ hq => ?_, fun hn => ?_⟩
  · by_cases hA : q.val < (r0W i v1 v5 v9 v13).toNat + 32
    · rw [if_neg (by omega), if_neg (by omega), if_pos (by omega)]
    · by_cases hB : q.val < (r0W i v1 v5 v9 v13).toNat + l
      · rw [if_neg (by omega), if_pos (by omega)]
      · rw [if_pos (by omega)]
  · rw [if_neg (by simp at hn; omega), if_neg (by simp at hn; omega), if_neg (by simp at hn; omega)]

/-- One of the branches of up to `N` blocks is taken. -/
def Taken (N : ℕ) : Prop := ∃ k : ℕ, 1 ≤ k ∧ k ≤ N ∧ condW i v1 v5 v9 v13 v17 (BitVec.ofNat 32 k) = 1#1

/-- The next branch, after those of up to `N` blocks. -/
theorem After.next {N : ℕ} {o o' o'' : Vec Ideal S512x512 .bf16} (h : After i v1 v5 v9 v13 v17 x0 x1 x2 x3 e (Taken i v1 v5 v9 v13 v17 N) o o')
    (h' : After i v1 v5 v9 v13 v17 x0 x1 x2 x3 e (condW i v1 v5 v9 v13 v17 (BitVec.ofNat 32 (N + 1)) = 1#1) o' o'') :
    After i v1 v5 v9 v13 v17 x0 x1 x2 x3 e (Taken i v1 v5 v9 v13 v17 (N + 1)) o o'' := by
  have hiff : (Taken i v1 v5 v9 v13 v17 N ∨ condW i v1 v5 v9 v13 v17 (BitVec.ofNat 32 (N + 1)) = 1#1) = Taken i v1 v5 v9 v13 v17 (N + 1) := by
    refine propext ⟨?_, ?_⟩
    · rintro (⟨k, h1, h2, h3⟩ | h)
      · exact ⟨k, h1, by omega, h3⟩
      · exact ⟨N + 1, by omega, le_refl _, h⟩
    · rintro ⟨k, h1, h2, h3⟩
      by_cases hk : k = N + 1
      · subst hk; exact .inr h3
      · exact .inl ⟨k, h1, by omega, h3⟩
  rw [← hiff]
  exact h.trans i v1 v5 v9 v13 v17 x0 x1 x2 x3 h'

include he in
/-- The next branch, of three blocks or more. -/
theorem After.step {N : ℕ} {o o' : Vec Ideal S512x512 .bf16} (h : After i v1 v5 v9 v13 v17 x0 x1 x2 x3 e (Taken i v1 v5 v9 v13 v17 N) o o')
    {n m l : ℕ} {lW : BitVec 32} (hs : Sizes (BitVec.ofNat 32 (N + 1)) n m l lW) :
    After i v1 v5 v9 v13 v17 x0 x1 x2 x3 e (Taken i v1 v5 v9 v13 v17 (N + 1)) o (stp i v1 v5 v9 v13 v17 hf x0 x1 x2 x3 hs o') :=
  h.next i v1 v5 v9 v13 v17 x0 x1 x2 x3 (step3_after i v1 v5 v9 v13 v17 hf x0 x1 x2 x3 he hs o')

include hf in
/-- A group that has a row takes one of the branches. -/
theorem taken (h : 0 < v17.toNat) : Taken i v1 v5 v9 v13 v17 16 := by
  have hn := nbW_toNat hf
  have hf' := hf
  unfold Fits at hf'
  refine ⟨(nbW i v1 v5 v9 v13 v17).toNat, by omega, by omega, (condW_iff hf _).2 ⟨h, ?_⟩⟩
  rw [BitVec.toNat_ofNat, Nat.mod_eq_of_lt (by omega)]

/-- The output block as the first step of the body leaves it: cleared at the first expert. -/
def cleared (o : Vec Ideal S512x512 .bf16) : Vec Ideal S512x512 .bf16 :=
  if k0_cond1 i = 1#1 then VecWindow.put (s := S512x512) o ![0, 0] S512x512.size (k0_pay61 (F := Ideal)) else o

/-- An element of the block the first step leaves. -/
theorem cleared_apply (o : Vec Ideal S512x512 .bf16) (q b : Fin 512) :
    cleared i o (ix2 q b) = if k0_cond1 i = 1#1 then (0 : EReal) else o (ix2 q b) := by
  unfold cleared
  by_cases h : k0_cond1 i = 1#1
  · rw [if_pos h, if_pos h]
    refine (dif_pos fun a => ?_).trans Ideal.ofBits_zero_bf16
    fin_cases a
    · exact ⟨Nat.zero_le _, by show q.val < 0 + 512; omega⟩
    · exact ⟨Nat.zero_le _, by show b.val < 0 + 512; omega⟩
  · rw [if_neg h, if_neg h]

include he in
/-- The whole body, from the block the first step leaves. -/
theorem body_after (o : Vec Ideal S512x512 .bf16) :
    After i v1 v5 v9 v13 v17 x0 x1 x2 x3 e (Taken i v1 v5 v9 v13 v17 16) (cleared i o) (bodyOut i v1 v5 v9 v13 v17 hf x0 x1 x2 x3 o) := by
  have h0 : After i v1 v5 v9 v13 v17 x0 x1 x2 x3 e (Taken i v1 v5 v9 v13 v17 0) (cleared i o) (cleared i o) := fun q b =>
    ⟨fun ⟨k, hk, hk', _⟩ => by omega, fun _ => rfl⟩
  have h1 := h0.next i v1 v5 v9 v13 v17 x0 x1 x2 x3 (step1_after i v1 v5 v9 v13 v17 hf x0 x1 x2 x3 he _)
  have h2 := h1.next i v1 v5 v9 v13 v17 x0 x1 x2 x3 (step2_after i v1 v5 v9 v13 v17 hf x0 x1 x2 x3 he _)
  have h3 := h2.step i v1 v5 v9 v13 v17 hf x0 x1 x2 x3 he sizes3
  have h4 := h3.step i v1 v5 v9 v13 v17 hf x0 x1 x2 x3 he sizes4
  have h5 := h4.step i v1 v5 v9 v13 v17 hf x0 x1 x2 x3 he sizes5
  have h6 := h5.step i v1 v5 v9 v13 v17 hf x0 x1 x2 x3 he sizes6
  have h7 := h6.step i v1 v5 v9 v13 v17 hf x0 x1 x2 x3 he sizes7
  have h8 := h7.step i v1 v5 v9 v13 v17 hf x0 x1 x2 x3 he sizes8
  have h9 := h8.step i v1 v5 v9 v13 v17 hf x0 x1 x2 x3 he sizes9
  have h10 := h9.step i v1 v5 v9 v13 v17 hf x0 x1 x2 x3 he sizes10
  have h11 := h10.step i v1 v5 v9 v13 v17 hf x0 x1 x2 x3 he sizes11
  have h12 := h11.step i v1 v5 v9 v13 v17 hf x0 x1 x2 x3 he sizes12
  have h13 := h12.step i v1 v5 v9 v13 v17 hf x0 x1 x2 x3 he sizes13
  have h14 := h13.step i v1 v5 v9 v13 v17 hf x0 x1 x2 x3 he sizes14
  have h15 := h14.step i v1 v5 v9 v13 v17 hf x0 x1 x2 x3 he sizes15
  have h16 := h15.step i v1 v5 v9 v13 v17 hf x0 x1 x2 x3 he sizes16
  unfold bodyOut out18 out17 out16
  exact h16

include he in
/-- **The body's value.** The rows of the expert's group hold their scaled dot products; the others are zero
at the first expert and unchanged at the rest. -/
theorem body_val (o : Vec Ideal S512x512 .bf16) (q b : Fin 512) :
    bodyOut i v1 v5 v9 v13 v17 hf x0 x1 x2 x3 o (ix2 q b)
      = if InG i v1 v5 v9 v13 v17 q then valAt x0 x1 x2 x3 e q b else if k0_cond1 i = 1#1 then (0 : EReal) else o (ix2 q b) := by
  have hA := body_after i v1 v5 v9 v13 v17 hf x0 x1 x2 x3 he o
  by_cases h : InG i v1 v5 v9 v13 v17 q
  · rw [if_pos h]
    exact (hA q b).1 (taken i v1 v5 v9 v13 v17 hf (by unfold InG at h; omega)) h
  · rw [if_neg h, (hA q b).2 fun hh => h hh.2, cleared_apply]

end Value

end Cert.KernelIdeal.Moe

end
-- ==== Proof.Value.lean ====
module

public import proofs.«01_k».proof.Proof.BodyValue
public import proofs.«01_k».proof.Proof.Frame

@[expose] public section

set_option maxRecDepth 16384

noncomputable section

/-! # The kernel's result

The output block of a block of columns is built up expert by expert: after the point of expert `e` a row
holds its scaled dot product with the weights of the last expert up to `e` whose group it is in, or zero.
The block is written back after the last expert, so the result is that for all the experts. -/

namespace Cert.KernelIdeal.Moe

open Cert.KernelIdeal Cert.KernelIdeal.Gen
open Idealize.ShloMosaic Idealize.ShloMosaic.ValueIdx
open Idealize.ShloMosaic.TcCoe
open Idealize.ShloMosaic.Pipeline (Dat Cfg Window)
open scoped BigOperators

/-! ## The result as a function of the arguments -/

section Result

variable (T : S4.Idx → BitVec 32) (X : Vec Ideal S512x2816 .fp8e4m3) (XS : Vec Ideal S512x1 .f32)
  (W : Vec Ideal S4x2816x5632 .fp8e4m3) (WS : Vec Ideal S4x5632 .f32)

/-- Row `r` is in the group of expert `e`. -/
def RowIn (e : Fin 4) (r : Fin 512) : Prop := startN T e.val ≤ r.val ∧ r.val < startN T e.val + (wAt T e).toNat

/-- Whether a row is in a group can be decided. -/
instance (e : Fin 4) (r : Fin 512) : Decidable (RowIn T e r) := by unfold RowIn; infer_instance

/-- The scaled dot product of row `r` with column `n` of the weights of expert `e`. -/
def groupVal (e : Fin 4) (r : Fin 512) (n : Fin 5632) : EReal :=
  ((∑ k : Fin 2816, (X (ix2 r k) : EReal) * (W (ix3 e k n) : EReal)) * (XS (ix2 r 0) : EReal)) * (WS (ix2 e n) : EReal)

/-- An element of the result after the experts before `e`. -/
def outTo : ℕ → Fin 512 → Fin 5632 → EReal
  | 0, _, _ => 0
  | e + 1, r, n => if h : e < 4 then (if RowIn T ⟨e, h⟩ r then groupVal X XS W WS ⟨e, h⟩ r n else outTo e r n) else outTo e r n

/-- The result. -/
def outArr : Vec Ideal S512x5632 .bf16 := fun i => outTo T X XS W WS 4 (i 0) (i 1)

end Result

/-! ## The blocks of the arguments -/

/-- Point `t` is expert `t % 4` of column block `t / 4`. -/
theorem coords_eq : ∀ t : Fin grid0.N, (grid0.coords t 0).val = t.val / 4 ∧ (grid0.coords t 1).val = t.val % 4 := by decide +kernel

/-- The first window's one block. -/
theorem transform_0_eq : ∀ i : grid0.Coords, cc0_transform_0 i = ![0, 0] := by decide +kernel
/-- The second window's one block. -/
theorem transform_1_eq : ∀ i : grid0.Coords, cc0_transform_1 i = ![0, 0] := by decide +kernel
/-- The block of the weights' scales at a point. -/
theorem transform_3_eq : ∀ i : grid0.Coords, cc0_transform_3 i = ![0, (i 0).val] := by decide +kernel
/-- The block of the result at a point. -/
theorem transform_4_eq : ∀ i : grid0.Coords, cc0_transform_4 i = ![0, (i 0).val] := by decide +kernel

section Blocks

variable (T : S4.Idx → BitVec 32) (hT : Good T) (m : (ℓ : Loc nD τ sig) → Buf (Elt Ideal) ℓ) (c : Dev nD)
variable (t : Fin (cfgA (F := Ideal) T).N)

/-- The rows, their scales, the weights and their scales, as launched. -/
abbrev argX : Vec Ideal S512x2816 .fp8e4m3 := m ((c : Thread nD τ).loc main_arg0)
/-- The rows' scales. -/
abbrev argXS : Vec Ideal S512x1 .f32 := m ((c : Thread nD τ).loc main_arg1)
/-- The weights. -/
abbrev argW : Vec Ideal S4x2816x5632 .fp8e4m3 := m ((c : Thread nD τ).loc main_arg3)
/-- The weights' scales. -/
abbrev argWS : Vec Ideal S4x5632 .f32 := m ((c : Thread nD τ).loc main_arg4)

/-- The first window's block is the whole of the rows. -/
theorem iblk0_apply (r : Fin 512) (k : Fin 2816) : iblk T m c (0 : Fin 5) t (ix2 r k) = argX m c (ix2 r k) := by
  refine congrArg (argX m c) (funext fun d => Fin.ext ?_)
  have h := transform_0_eq (crd (F := Ideal) T t)
  fin_cases d
  · show cc0_transform_0 (crd (F := Ideal) T t) 0 * 512 + 1 * r.val = r.val
    rw [h]; show 0 * 512 + 1 * r.val = r.val; omega
  · show cc0_transform_0 (crd (F := Ideal) T t) 1 * 2816 + 1 * k.val = k.val
    rw [h]; show 0 * 2816 + 1 * k.val = k.val; omega

/-- The second window's block is the whole of the rows' scales. -/
theorem iblk1_apply (r : Fin 512) : iblk T m c (1 : Fin 5) t (ix2 r (0 : Fin 1)) = argXS m c (ix2 r 0) := by
  refine congrArg (argXS m c) (funext fun d => Fin.ext ?_)
  have h := transform_1_eq (crd (F := Ideal) T t)
  fin_cases d
  · show cc0_transform_1 (crd (F := Ideal) T t) 0 * 512 + 1 * r.val = r.val
    rw [h]; show 0 * 512 + 1 * r.val = r.val; omega
  · show cc0_transform_1 (crd (F := Ideal) T t) 1 * 1 + 1 * 0 = 0
    rw [h]; rfl

/-- The fourth window's block is a block of columns of the weights' scales. -/
theorem iblk3_apply (e : Fin 4) (b : Fin 512) (n : Fin 5632) (hn : n.val = 512 * (t.val / 4) + b.val) :
    iblk T m c (3 : Fin 5) t (ix2 e b) = argWS m c (ix2 e n) := by
  refine congrArg (argWS m c) (funext fun d => Fin.ext ?_)
  have h := transform_3_eq (crd (F := Ideal) T t)
  have hc := (coords_eq t).1
  fin_cases d
  · show cc0_transform_3 (crd (F := Ideal) T t) 0 * 4 + 1 * e.val = e.val
    rw [h]; show 0 * 4 + 1 * e.val = e.val; omega
  · show cc0_transform_3 (crd (F := Ideal) T t) 1 * 512 + 1 * b.val = n.val
    rw [h]; show (grid0.coords t 0).val * 512 + 1 * b.val = n.val; omega

/-- The third window's block, where the expert's group has a row, is a block of columns of its weights. -/
theorem iblk2_apply (k : Fin 2816) (b : Fin 512) (e : Fin 4) (he : e.val = t.val % 4) (hpos : 0 < (wAt T e).toNat)
    (hlt : (wAt T e).toNat ≤ 512) (n : Fin 5632) (hn : n.val = 512 * (t.val / 4) + b.val) :
    iblk T m c (2 : Fin 5) t (ix3 (0 : Fin 1) k b) = argW m c (ix3 e k n) := by
  have hc := coords_eq t
  have hpw : ∀ j : Fin 4, (![(posW T 0).toFin, (posW T 1).toFin, (posW T 2).toFin, (posW T 3).toFin] : Fin 4 → Fin 2) j = (posW T j).toFin := by
    intro j; fin_cases j <;> rfl
  have hone : (posW T e).toFin = 1 := by
    have h1 : posW T e = 1#1 := by
      unfold posW
      refine (ofBool_eq_one _).2 ((slt_iff _ _ (by decide) (by omega)).2 hpos)
    rw [h1]; rfl
  have hee : e = (crd (F := Ideal) T t) 1 := Fin.ext (he.trans hc.2.symm)
  have h := wIndex_own (posW T 0).toFin (posW T 1).toFin (posW T 2).toFin (posW T 3).toFin ((crd (F := Ideal) T t) 0) e
    ((hpw e).trans hone)
  have ht := transform_2_eq (F := Ideal) T (crd (F := Ideal) T t)
  rw [show ((crd (F := Ideal) T t) 1).val = e.val from (congrArg Fin.val hee).symm] at ht
  refine congrArg (argW m c) (funext fun d => Fin.ext ?_)
  fin_cases d
  · show cc0_transform_2 inb_S4_S1_3 numel1_S1 inb_S4_S1_2 inb_S4_S1_1 inb_S4_S1_0 (pfT (F := Ideal) T) (crd (F := Ideal) T t) 0 * 1 + 1 * 0 = e.val
    rw [ht, h.1]; omega
  · show cc0_transform_2 inb_S4_S1_3 numel1_S1 inb_S4_S1_2 inb_S4_S1_1 inb_S4_S1_0 (pfT (F := Ideal) T) (crd (F := Ideal) T t) 1 * 2816 + 1 * k.val = k.val
    rw [ht, h.2.1]; omega
  · show cc0_transform_2 inb_S4_S1_3 numel1_S1 inb_S4_S1_2 inb_S4_S1_1 inb_S4_S1_0 (pfT (F := Ideal) T) (crd (F := Ideal) T t) 2 * 512 + 1 * b.val = n.val
    rw [ht, h.2.2]; show (grid0.coords t 0).val * 512 + 1 * b.val = n.val; omega

/-! ## The output block, point by point -/

/-- What a point does to an element of the output block. -/
theorem step0_apply (prev : Vec Ideal S512x512 .bf16) (q b : Fin 512) (e : Fin 4) (he : e.val = t.val % 4) (n : Fin 5632)
    (hn : n.val = 512 * (t.val / 4) + b.val) :
    step0 T hT m c t prev (ix2 q b)
      = if RowIn T e q then groupVal (argX m c) (argXS m c) (argW m c) (argWS m c) e q n
        else if t.val % 4 = 0 then (0 : EReal) else prev (ix2 q b) := by
  have hc := coords_eq t
  have hee : (crd (F := Ideal) T t) 1 = e := Fin.ext (hc.2.trans he.symm)
  have hv := body_val (crd (F := Ideal) T t) (wAt T 0) (wAt T 1) (wAt T 2) (wAt T 3) (wAt T ((crd (F := Ideal) T t) 1)) (fitsT hT (crd (F := Ideal) T t))
    (iblk T m c (0 : Fin 5) t) (iblk T m c (1 : Fin 5) t) (iblk T m c (2 : Fin 5) t) (iblk T m c (3 : Fin 5) t) (e := e) (congrArg Fin.val hee) prev q b
  have hin : InG (crd (F := Ideal) T t) (wAt T 0) (wAt T 1) (wAt T 2) (wAt T 3) (wAt T ((crd (F := Ideal) T t) 1)) q ↔ RowIn T e q := by
    unfold InG RowIn
    rw [startW_toNat hT, hee]
  refine hv.trans ?_
  by_cases h : RowIn T e q
  · rw [if_pos h, if_pos (hin.2 h)]
    have hle := startN_add_le hT e
    have hpos : 0 < (wAt T e).toNat := by unfold RowIn at h; omega
    unfold valAt groupVal
    refine congrArg₂ (· * ·) (congrArg₂ (· * ·) (Finset.sum_congr rfl fun k _ => congrArg₂ (· * ·) ?_ ?_) ?_) ?_
    · exact iblk0_apply T m c t q k
    · exact iblk2_apply T m c t k b e he hpos (by omega) n hn
    · exact iblk1_apply T m c t q
    · exact iblk3_apply T m c t e b n hn
  · rw [if_neg h, if_neg fun hh => h (hin.1 hh)]
    by_cases h0 : t.val % 4 = 0
    · rw [if_pos h0, if_pos ((cond1_iff t).2 h0)]
    · rw [if_neg h0, if_neg fun hh => h0 ((cond1_iff t).1 hh)]

end Blocks

section Traj

variable (T : S4.Idx → BitVec 32) (hT : Good T) (m : (ℓ : Loc nD τ sig) → Buf (Elt Ideal) ℓ) (c : Dev nD)

/-- After point `n` the output block holds the result up to its expert. -/
theorem traj0_apply : ∀ (n : ℕ) (hn : n < (cfgA (F := Ideal) T).N) (q b : Fin 512) (l : Fin 5632) (hl : l.val = 512 * (n / 4) + b.val),
    traj0 T hT m c n hn (ix2 q b) = outTo T (argX m c) (argXS m c) (argW m c) (argWS m c) (n % 4 + 1) q l := by
  intro n
  induction n with
  | zero =>
    intro hn q b l hl
    rw [traj0_eq T hT m c ⟨0, hn⟩, step0_apply T hT m c ⟨0, hn⟩ _ q b 0 rfl l hl]
    unfold outTo
    rw [dif_pos (by decide)]
    exact if_congr Iff.rfl rfl (if_pos rfl)
  | succ n ih =>
    intro hn q b l hl
    have hm : (n + 1) % 4 < 4 := Nat.mod_lt _ (by decide)
    have hp : prev0 T hT m c ⟨n + 1, hn⟩ = traj0 T hT m c n (Nat.lt_of_succ_lt hn) := dif_neg (Nat.succ_ne_zero n)
    rw [traj0_eq T hT m c ⟨n + 1, hn⟩, step0_apply T hT m c ⟨n + 1, hn⟩ _ q b ⟨(n + 1) % 4, hm⟩ rfl l hl, hp]
    unfold outTo
    rw [dif_pos hm]
    refine if_congr Iff.rfl rfl ?_
    by_cases h0 : (n + 1) % 4 = 0
    · refine (if_pos h0).trans ?_
      rw [h0]
      rfl
    · refine (if_neg h0).trans ?_
      rw [ih (Nat.lt_of_succ_lt hn) q b l (by omega), show n % 4 + 1 = (n + 1) % 4 by omega]

/-- **The result array** at the end of the pipeline. -/
theorem arrAt4 : (dats T hT m 0 c).arrAt (4 : Fin 5) (cfgA (F := Ideal) T).N
    = outArr T (argX m c) (argXS m c) (argW m c) (argWS m c) := by
  refine (dats T hT m 0 c).arrAt_eq_of_cover (4 : Fin 5) _ (fun t ht => ?_) (fun i => ?_)
  · rw [flush4] at ht
    have h3 : t.val % 4 = 3 := of_decide_eq_true ht
    have hc := coords_eq t
    have hN : t.val < 44 := t.isLt
    funext j
    show traj0 T hT m c t.val t.isLt j = _
    obtain ⟨q, b, rfl⟩ : ∃ q b : Fin 512, j = ix2 q b := ⟨j 0, j 1, eq_ix2 (n0 := 512) (n1 := 512) j⟩
    rw [traj0_apply T hT m c t.val t.isLt q b ⟨512 * (t.val / 4) + b.val, by omega⟩ rfl, h3]
    refine congrArg₂ (outTo T (argX m c) (argXS m c) (argW m c) (argWS m c) 4) (Fin.ext ?_) (Fin.ext ?_)
    · show q.val = cc0_transform_4 (crd (F := Ideal) T t) 0 * 512 + 1 * q.val
      rw [transform_4_eq]; show q.val = 0 * 512 + 1 * q.val; omega
    · show 512 * (t.val / 4) + b.val = cc0_transform_4 (crd (F := Ideal) T t) 1 * 512 + 1 * b.val
      rw [transform_4_eq]; show _ = (grid0.coords t 0).val * 512 + 1 * b.val; omega
  · obtain ⟨q, l, rfl⟩ : ∃ (q : Fin 512) (l : Fin 5632), i = ix2 q l := ⟨i 0, i 1, eq_ix2 (n0 := 512) (n1 := 5632) i⟩
    have hlt : 4 * (l.val / 512) + 3 < (cfgA (F := Ideal) T).N := by show _ < 44; omega
    have hb : l.val % 512 < 512 := Nat.mod_lt _ (by decide)
    have hc := coords_eq ⟨4 * (l.val / 512) + 3, hlt⟩
    refine ⟨⟨4 * (l.val / 512) + 3, hlt⟩, ?_, ?_⟩
    · rw [flush4]; exact decide_eq_true (by show (4 * (l.val / 512) + 3) % 4 = 3; omega)
    · have hmem := View.emb_mem_set (v := (((cfgA (F := Ideal) T).win (4 : Fin 5)).blk ⟨4 * (l.val / 512) + 3, hlt⟩).view)
        (ix2 q (⟨l.val % 512, hb⟩ : Fin 512))
      refine cast (congrArg (· ∈ _) ?_) hmem
      funext d
      refine Fin.ext ?_
      fin_cases d
      · show cc0_transform_4 (crd (F := Ideal) T ⟨4 * (l.val / 512) + 3, hlt⟩) 0 * 512 + 1 * q.val = q.val
        rw [transform_4_eq]; show 0 * 512 + 1 * q.val = q.val; omega
      · show cc0_transform_4 (crd (F := Ideal) T ⟨4 * (l.val / 512) + 3, hlt⟩) 1 * 512 + 1 * (l.val % 512) = l.val
        rw [transform_4_eq]
        show (grid0.coords ⟨4 * (l.val / 512) + 3, hlt⟩ 0).val * 512 + 1 * (l.val % 512) = l.val
        rw [hc.1]
        show (4 * (l.val / 512) + 3) / 4 * 512 + 1 * (l.val % 512) = l.val
        omega

end Traj

end Cert.KernelIdeal.Moe

end
-- ==== Proof.RefValue.lean ====
module

public import proofs.«01_k».proof.Proof.RefRun
public import proofs.«01_k».proof.Proof.Value
public import Idealize.ShloMosaic.Lib.Routing.Ops

@[expose] public section

set_option maxRecDepth 16384

noncomputable section

/-! # The reference's result

The reference sums, over the experts, the dot products of the rows of that expert's group, and scales a row by
its own scale and by that of the expert it finds by counting the groups that end before it. At most one group
holds a row, so the sum is one dot product and the expert found is that group's, or the sum is zero. -/

namespace Cert.ReferenceIdeal.Moe

open Cert.ReferenceIdeal Cert.ReferenceIdeal.Gen
open Cert.KernelIdeal.Moe (wAt Good startN startN_add_le RowIn groupVal outTo outArr)
open Idealize.ShloMosaic Idealize.ShloMosaic.ValueIdx Idealize.ShloMosaic.Routing
open scoped BigOperators

/-! ## Words that hold small numbers -/

/-- The signed comparison of small words is that of their numbers: at least, -/
theorem sge_ofNat {a b : ℕ} (ha : a ≤ 512) (hb : b ≤ 512) :
    IntOp.cmpi .sge (BitVec.ofNat 32 a) (BitVec.ofNat 32 b) = 1#1 ↔ b ≤ a := by
  have ea : (BitVec.ofNat 32 a).toNat = a := by rw [BitVec.toNat_ofNat]; exact Nat.mod_eq_of_lt (by omega)
  have eb : (BitVec.ofNat 32 b).toNat = b := by rw [BitVec.toNat_ofNat]; exact Nat.mod_eq_of_lt (by omega)
  rw [IntOp.cmpi_sge, BitVec.toInt_eq_toNat_of_lt (by omega), BitVec.toInt_eq_toNat_of_lt (by omega), ea, eb]
  omega

/-- and less than. -/
theorem slt_ofNat {a b : ℕ} (ha : a ≤ 512) (hb : b ≤ 512) :
    IntOp.cmpi .slt (BitVec.ofNat 32 a) (BitVec.ofNat 32 b) = 1#1 ↔ a < b := by
  have ea : (BitVec.ofNat 32 a).toNat = a := by rw [BitVec.toNat_ofNat]; exact Nat.mod_eq_of_lt (by omega)
  have eb : (BitVec.ofNat 32 b).toNat = b := by rw [BitVec.toNat_ofNat]; exact Nat.mod_eq_of_lt (by omega)
  rw [IntOp.cmpi_slt, BitVec.toInt_eq_toNat_of_lt (by omega), BitVec.toInt_eq_toNat_of_lt (by omega), ea, eb]
  omega

/-- The smaller of a count of at most four and three. -/
theorem min_three : ∀ c : Fin 5, IntOp.minsi (BitVec.ofNat 32 c.val) 3#32 = BitVec.ofNat 32 (min c.val 3) := by decide

/-- A number that is not negative is its own index. -/
theorem wrap_small : ∀ c : Fin 4, (if IntOp.cmpi .slt (BitVec.ofNat 32 c.val) 0#32 = 1#1 then IntOp.addi (BitVec.ofNat 32 c.val) 4#32
    else BitVec.ofNat 32 c.val) = BitVec.ofNat 32 c.val := by decide

/-! ## The groups -/

section Groups

variable {T : S4.Idx → BitVec 32} (hT : Good T)

/-- Where group `n` ends: the sum of the sizes up to its own. -/
def endN (T : S4.Idx → BitVec 32) (n : ℕ) : ℕ :=
  (wAt T 0).toNat + (if 0 < n then (wAt T 1).toNat else 0) + (if 1 < n then (wAt T 2).toNat else 0) + (if 2 < n then (wAt T 3).toNat else 0)

/-- That is its first row plus its size. -/
theorem endN_eq (T : S4.Idx → BitVec 32) (e : Fin 4) : endN T e.val = startN T e.val + (wAt T e).toNat := by
  unfold endN startN
  fin_cases e <;> simp

/-- A group's size, read at an index. -/
theorem size_apply (T : S4.Idx → BitVec 32) (e : Fin 4) : T (ix1 e) = wAt T e :=
  congrArg T (funext fun d => by fin_cases d; rfl)

/-- The running sums are where the groups end. -/
theorem ends_apply (T : S4.Idx → BitVec 32) (e : Fin 4) : ends T (ix1 e) = BitVec.ofNat 32 (endN T e.val) := by
  refine (cumsum1 (N := 4) (Nm1 := 3) rfl T (fun n => if h : n < 4 then (wAt T ⟨n, h⟩).toNat else 0) (fun i => ?_) _ rfl
    reduceWindows_S4_S4_w4s1p3_0 h_S_ e).trans (congrArg _ ?_)
  · rw [size_apply T i, dif_pos i.isLt, BitVec.ofNat_toNat, BitVec.setWidth_eq]
  · unfold endN
    fin_cases e <;> simp [List.range_succ] <;> omega

include hT in
/-- The groups end within the rows. -/
theorem endN_le (e : Fin 4) : endN T e.val ≤ 512 := (endN_eq T e).trans_le (startN_add_le hT e)

/-- A running sum less its own size is where the group starts. -/
theorem starts_apply (T : S4.Idx → BitVec 32) (e : Fin 4) : subi (ends T) T (ix1 e) = BitVec.ofNat 32 (startN T e.val) := by
  show ends T (ix1 e) - T (ix1 e) = _
  rw [ends_apply, size_apply T e, endN_eq, BitVec.ofNat_add, BitVec.ofNat_toNat, BitVec.setWidth_eq, BitVec.add_sub_cancel]

/-- Row numbers, read at an index. -/
theorem rowIds_apply (r : Fin 512) : rowIds (ix1 r) = BitVec.ofNat 32 r.val := rfl

/-- A vector laid out as rows of a `[4, 512]` array, read at an index. -/
theorem asRows (v : Vec Ideal S512 .i32) (e : Fin 4) (r : Fin 512) :
    (broadcastInDim S4x512 ![0, 1] bcast_S1x512_S4x512_0_1 (broadcastInDim S1x512 ![1] bcast_S512_S1x512_1 v)) (ix2 e r) = v (ix1 r) :=
  bcCols (n := 4) (m := 512) _ _ v e r

/-- A vector laid out as columns of it, read at an index. -/
theorem asCols (v : Vec Ideal S4 .i32) (e : Fin 4) (r : Fin 512) :
    (broadcastInDim S4x512 ![0, 1] bcast_S4x1_S4x512_0_1 (broadcastInDim S4x1 ![0] bcast_S4_S4x1_0 v)) (ix2 e r) = v (ix1 e) :=
  bcRows (n := 4) (m := 512) _ _ v e r

include hT in
/-- The reference's mask holds exactly on the rows of the group. -/
theorem mine_iff (e : Fin 4) (r : Fin 512) : mine T (ix2 e r) = 1#1 ↔ RowIn T e r := by
  have h1 : mine T (ix2 e r) = IntOp.andi (IntOp.cmpi .sge (rowIds (ix1 r)) (subi (ends T) T (ix1 e)))
      (IntOp.cmpi .slt (rowIds (ix1 r)) (ends T (ix1 e))) :=
    congrArg₂ IntOp.andi (congrArg₂ (IntOp.cmpi .sge) (asRows _ e r) (asCols _ e r)) (congrArg₂ (IntOp.cmpi .slt) (asRows _ e r) (asCols _ e r))
  have he := endN_le hT e
  have hr := r.isLt
  have hs := startN_add_le hT e
  rw [h1, starts_apply, ends_apply, rowIds_apply, IntOp.andi_eq_one, sge_ofNat (by omega) (by omega), slt_ofNat (by omega) he, endN_eq]
  exact Iff.rfl

include hT in
/-- The groups that have ended at a row. -/
theorem ended_iff (r : Fin 512) (e : Fin 4) : ended T (ix2 r e) = 1#1 ↔ endN T e.val ≤ r.val := by
  have h1 : ended T (ix2 r e) = IntOp.cmpi .sge (rowIds (ix1 r)) (ends T (ix1 e)) :=
    congrArg₂ (IntOp.cmpi .sge) (bcRows (n := 512) (m := 4) _ _ rowIds r e) (bcCols (n := 512) (m := 4) _ _ (ends T) r e)
  have hr := r.isLt
  rw [h1, ends_apply, rowIds_apply, sge_ofNat (by omega) (endN_le hT e)]

/-- The expert the reference finds for a row. -/
def eid (T : S4.Idx → BitVec 32) (r : Fin 512) : Fin 4 := ⟨min (Nat.count (fun n => endN T n ≤ r.val) 4) 3, by omega⟩

/-- The smaller of a vector and three, read at an index. -/
theorem minThree_apply (v : Vec Ideal S512 .i32) (r : Fin 512) :
    minsi v (broadcastInDim S512 ![] bcast_S_S512 (constantI S_ 32 3#32)) (ix1 r) = IntOp.minsi (v (ix1 r)) 3#32 := rfl

/-- A vector of indices wrapped from the end, read at an index. -/
theorem wrapped_apply (v : Vec Ideal S512 .i32) (r : Fin 512) :
    select (cmpi .slt v (broadcastInDim S512 ![] bcast_S_S512 (constantI S_ 32 0#32)))
        (addi v (broadcastInDim S512 ![] bcast_S_S512 (constantI S_ 32 4#32))) v (ix1 r)
      = if IntOp.cmpi .slt (v (ix1 r)) 0#32 = 1#1 then IntOp.addi (v (ix1 r)) 4#32 else v (ix1 r) := rfl

include hT in
/-- The reference's index of a row's expert. -/
theorem expertIdx_apply (r : Fin 512) : expertIdx T (ix2 r (0 : Fin 1)) = BitVec.ofNat 32 (eid T r).val := by
  have hc : endedCount T (ix1 r) = BitVec.ofNat 32 (Nat.count (fun n => endN T n ≤ r.val) 4) :=
    reduce_count (n := 512) (m := 4) (by decide) (ended T) natLt_1_32 reducesTo_S512x4_S512_d1 h_S_ r _ (fun q => ended_iff hT r q)
  have he : expert T (ix1 r) = BitVec.ofNat 32 (eid T r).val := by
    refine (minThree_apply (endedCount T) r).trans ?_
    have hk : Nat.count (fun n => endN T n ≤ r.val) 4 ≤ 4 := Nat.count_le _
    have hv : (eid T r).val = min (Nat.count (fun n => endN T n ≤ r.val) 4) 3 := rfl
    rw [hc, hv]
    generalize Nat.count (fun n => endN T n ≤ r.val) 4 = k at hk
    exact min_three ⟨k, by omega⟩
  have hw := wrapped_apply (expert T) r
  rw [he, wrap_small (eid T r)] at hw
  exact (bcCol (n := 512) _ _ r).trans hw

/-- A row is in one group only, -/
theorem rowIn_unique {e e' : Fin 4} {r : Fin 512} (h : RowIn T e r) (h' : RowIn T e' r) : e' = e := by
  unfold RowIn at h h'
  have h1 : startN T 1 = (wAt T 0).toNat := by simp [startN]
  have h2 : startN T 2 = (wAt T 0).toNat + (wAt T 1).toNat := by simp [startN]
  have h3 : startN T 3 = (wAt T 0).toNat + (wAt T 1).toNat + (wAt T 2).toNat := by simp [startN]
  fin_cases e <;> fin_cases e' <;> first | rfl | (exfalso; simp [h1, h2, h3, startN] at h h'; omega)

/-- the groups that end by a row of it are those before it, -/
theorem ended_before {e : Fin 4} {r : Fin 512} (h : RowIn T e r) (k : Fin 4) : endN T k.val ≤ r.val ↔ k.val < e.val := by
  unfold RowIn startN at h
  unfold endN
  fin_cases e <;> fin_cases k <;> simp at h ⊢ <;> omega

/-- and it is the one the reference finds. -/
theorem eid_eq {e : Fin 4} {r : Fin 512} (h : RowIn T e r) : eid T r = e := by
  refine Fin.ext ?_
  show min (Nat.count (fun n => endN T n ≤ r.val) 4) 3 = e.val
  have k0 : endN T 0 ≤ r.val ↔ 0 < e.val := ended_before h 0
  have k1 : endN T 1 ≤ r.val ↔ 1 < e.val := ended_before h 1
  have k2 : endN T 2 ≤ r.val ↔ 2 < e.val := ended_before h 2
  have k3 : endN T 3 ≤ r.val ↔ 3 < e.val := ended_before h 3
  simp only [Nat.count_succ, Nat.count_zero, k0, k1, k2, k3]
  clear k0 k1 k2 k3 h
  revert e
  decide

end Groups

/-! ## The values -/

section Values

variable {T : S4.Idx → BitVec 32} (hT : Good T) (X : Vec Ideal S512x2816 .fp8e4m3) (XS : Vec Ideal S512x1 .f32)
  (W : Vec Ideal S4x2816x5632 .fp8e4m3) (WS : Vec Ideal S4x5632 .f32)

/-- The host's product of the weights and the activations, read at an index. -/
theorem hostDot_apply (xf : FVec Ideal S512x2816 .f32) (wf : FVec Ideal S4x2816x5632 .f32) (e : Fin 4) (n : Fin 5632) (r : Fin 512) :
    (Host.dotGeneral (F := Ideal) (φ₁ := .f32) (φ₂ := .f32) dot_S4x2816x5632_S512x2816_S4x5632x512_1_1_02_0_n_n none wf xf : Vec Ideal S4x5632x512 .f32) (ix3 e n r)
      = ∑ k : Fin 2816, (wf (ix3 e k n) : EReal) * (xf (ix2 r k) : EReal) := by
  show FloatOps.dotGeneral (F := Ideal) (φ₁ := .f32) (φ₂ := .f32) _ none _ wf xf (ix3 e n r) = _
  rw [Ideal.dotGeneral_apply,
    ← Equiv.sum_comp (contrEquiv1 dot_S4x2816x5632_S512x2816_S4x5632x512_1_1_02_0_n_n 2816 rfl rfl).symm]
  refine Finset.sum_congr rfl fun k _ => ?_
  have c3 := contrEquiv1_symm_val dot_S4x2816x5632_S512x2816_S4x5632x512_1_1_02_0_n_n 2816 rfl rfl k
  have l3 : dot_S4x2816x5632_S512x2816_S4x5632x512_1_1_02_0_n_n.lhsIdx (ix3 e n r)
      ((contrEquiv1 dot_S4x2816x5632_S512x2816_S4x5632x512_1_1_02_0_n_n 2816 rfl rfl).symm k) = ix3 e k n := by
    funext ax; apply Fin.ext
    match ax with
    | ⟨0, _⟩ => simp [DotDims.lhsIdx, dot_S4x2816x5632_S512x2816_S4x5632x512_1_1_02_0_n_n]; rfl
    | ⟨1, _⟩ => simp [DotDims.lhsIdx, dot_S4x2816x5632_S512x2816_S4x5632x512_1_1_02_0_n_n]; exact c3
    | ⟨2, _⟩ => simp [DotDims.lhsIdx, dot_S4x2816x5632_S512x2816_S4x5632x512_1_1_02_0_n_n]; rfl
  have r3 : dot_S4x2816x5632_S512x2816_S4x5632x512_1_1_02_0_n_n.rhsIdx (ix3 e n r)
      ((contrEquiv1 dot_S4x2816x5632_S512x2816_S4x5632x512_1_1_02_0_n_n 2816 rfl rfl).symm k) = ix2 r k := by
    funext ax; apply Fin.ext
    match ax with
    | ⟨0, _⟩ => simp [DotDims.rhsIdx, dot_S4x2816x5632_S512x2816_S4x5632x512_1_1_02_0_n_n]; rfl
    | ⟨1, _⟩ => simp [DotDims.rhsIdx, dot_S4x2816x5632_S512x2816_S4x5632x512_1_1_02_0_n_n]; exact c3
  rw [l3, r3]

/-- The dot product of a row with a column of an expert's weights. -/
def dotVal (e : Fin 4) (r : Fin 512) (n : Fin 5632) : EReal := ∑ k : Fin 2816, (X (ix2 r k) : EReal) * (W (ix3 e k n) : EReal)

/-- The reference's dot products, read at an index. -/
theorem dots_apply (e : Fin 4) (r : Fin 512) (n : Fin 5632) : dots X W (ix3 e r n) = dotVal X W e r n := by
  refine (transpose_apply _ _ transposes_S4x5632x512_S4x512x5632_0_2_1 (ix3 e r n) (ix3 e n r) (fun b => by fin_cases b <;> rfl)).trans ?_
  refine (hostDot_apply X W e n r).trans ?_
  exact Finset.sum_congr rfl fun k _ => mul_comm _ _

include hT in
/-- The reference's dot products of a row's own group. -/
theorem ownDots_apply (e : Fin 4) (r : Fin 512) (n : Fin 5632) :
    ownDots X W T (ix3 e r n) = if RowIn T e r then dotVal X W e r n else 0 := by
  have hm : (broadcastInDim S4x512x5632 ![0, 1, 2] bcast_S4x512x1_S4x512x5632_0_1_2
      (broadcastInDim S4x512x1 ![0, 1] bcast_S4x512_S4x512x1_0_1 (mine T))) (ix3 e r n) = mine T (ix2 e r) :=
    (broadcastInDim_apply _ _ _ (ix3 e r n) (ix3 e r (0 : Fin 1)) (fun a => by fin_cases a <;> rfl)).trans
      (broadcastInDim_apply _ _ _ (ix3 e r (0 : Fin 1)) (ix2 e r) (fun a => by fin_cases a <;> rfl))
  have hz : (broadcastInDim S4x512x5632 ![] bcast_S_S4x512x5632 (constant (F := Ideal) S_ .f32 0x00000000#32)) (ix3 e r n) = (0 : EReal) :=
    Ideal.ofBits_zero_f32
  have hs : ownDots X W T (ix3 e r n) = Scalar.select (mine T (ix2 e r)) (dotVal X W e r n) (0 : EReal) := by
    unfold ownDots select
    exact congr (congr (congrArg Scalar.select hm) (dots_apply X W e r n)) hz
  rw [hs]
  unfold Scalar.select
  by_cases h : RowIn T e r
  · exact (if_pos ((mine_iff hT e r).2 h)).trans (if_pos h).symm
  · exact (if_neg (fun h' => h ((mine_iff hT e r).1 h'))).trans (if_neg h).symm

include hT in
/-- Their sum over the groups. -/
theorem summed_apply (r : Fin 512) (n : Fin 5632) :
    summed X W T (ix2 r n) = ∑ e : Fin 4, if RowIn T e r then dotVal X W e r n else 0 := by
  have hR : S4x512x5632.Reduces [0] S512x5632 := by decide
  refine (hostReduceAdd_apply (φ := .f32) (ownDots X W T) _ reducesTo_S4x512x5632_S512x5632_d0 h_S_ (ix2 r n)).trans ?_
  rw [Ideal.hostReduceAdd_single reducesTo_S4x512x5632_S512x5632_d0 hR]
  have h0 : (constant (F := Ideal) S_ .f32 0x00000000#32) (Shape.Idx.first h_S_) = (0 : EReal) := Ideal.ofBits_zero_f32
  rw [h0, zero_add]
  refine Finset.sum_congr rfl fun e _ => ?_
  refine (congrArg (ownDots X W T) (funext fun a => Fin.ext ?_)).trans (ownDots_apply hT X W e r n)
  match a with
  | ⟨0, _⟩ => rfl
  | ⟨1, _⟩ => rfl
  | ⟨2, _⟩ => rfl

include hT in
/-- The reference's result, read at an index. -/
theorem refOut_apply (r : Fin 512) (n : Fin 5632) :
    refOut X XS T W WS (ix2 r n)
      = ((∑ e : Fin 4, if RowIn T e r then dotVal X W e r n else 0) * (XS (ix2 r (0 : Fin 1)) : EReal)) * (WS (ix2 (eid T r) n) : EReal) := by
  have hg : (Host.gather gather_S4x5632_S512x1_S512x5632_1_0_n_n_0_1_15632 WS (expertIdx T) : Vec Ideal S512x5632 .f32) (ix2 r n)
      = WS (ix2 (eid T r) n) :=
    gather_row (nb := 4) (B := 5632) (n := 512) _ rfl rfl rfl rfl rfl WS (expertIdx T) r n (eid T r) (expertIdx_apply hT r) (by decide)
  have hx : (broadcastInDim S512x5632 ![0, 1] bcast_S512x1_S512x5632_0_1 XS) (ix2 r n) = XS (ix2 r (0 : Fin 1)) :=
    broadcastInDim_apply _ _ _ (ix2 r n) (ix2 r (0 : Fin 1)) (fun a => by fin_cases a <;> rfl)
  have hv : refOut X XS T W WS (ix2 r n)
      = (summed X W T (ix2 r n) * (broadcastInDim S512x5632 ![0, 1] bcast_S512x1_S512x5632_0_1 XS) (ix2 r n) : EReal)
        * (Host.gather gather_S4x5632_S512x1_S512x5632_1_0_n_n_0_1_15632 WS (expertIdx T) : Vec Ideal S512x5632 .f32) (ix2 r n) := rfl
  rw [hv, hg, hx, summed_apply hT]

/-- What the kernel leaves in a row of a group, -/
theorem outTo_of_rowIn {e : Fin 4} {r : Fin 512} (h : RowIn T e r) (n : Fin 5632) :
    outTo T X XS W WS 4 r n = groupVal X XS W WS e r n := by
  have key : ∀ j : Fin 4, RowIn T j r ↔ j = e := fun j => ⟨fun h' => rowIn_unique h h', fun h' => h' ▸ h⟩
  simp only [outTo, key]
  fin_cases e <;> rfl

/-- and in a row of none. -/
theorem outTo_of_not {r : Fin 512} (h : ∀ e : Fin 4, ¬ RowIn T e r) (n : Fin 5632) : outTo T X XS W WS 4 r n = 0 := by
  simp only [outTo, h]
  rfl

include hT in
/-- **The reference's result is the kernel's.** -/
theorem refOut_eq : refOut X XS T W WS = outArr T X XS W WS := by
  funext i
  obtain ⟨r, n, rfl⟩ : ∃ (r : Fin 512) (n : Fin 5632), i = ix2 r n := ⟨i 0, i 1, eq_ix2 (n0 := 512) (n1 := 5632) i⟩
  rw [refOut_apply hT]
  show _ = outTo T X XS W WS 4 r n
  by_cases h : ∃ e : Fin 4, RowIn T e r
  · obtain ⟨e, he⟩ := h
    have key : ∀ j : Fin 4, RowIn T j r ↔ j = e := fun j => ⟨fun h' => rowIn_unique he h', fun h' => h' ▸ he⟩
    have hs : (∑ j : Fin 4, if RowIn T j r then dotVal X W j r n else 0) = dotVal X W e r n := by
      simp only [key, Finset.sum_ite_eq', Finset.mem_univ, if_true]
    rw [hs, eid_eq he, outTo_of_rowIn X XS W WS he]
    rfl
  · have hn : ∀ e : Fin 4, ¬ RowIn T e r := fun e he => h ⟨e, he⟩
    have hs : (∑ j : Fin 4, if RowIn T j r then dotVal X W j r n else 0) = 0 := by
      simp only [hn, if_false, Finset.sum_const_zero]
    rw [hs, outTo_of_not X XS W WS hn, zero_mul, zero_mul]

end Values

end Cert.ReferenceIdeal.Moe

end
-- ==== Proof.Algebraic.lean ====
module

public import proofs.«01_k».proof.Defs
public import proofs.«01_k».proof.Proof.RefValue
public import proofs.«01_k».proof.Proof.Pre
public import proofs.«01_k».proof.Proof.Gen.Pre_groups_fit
public import Idealize.ShloMosaic.Lib.Claim

@[expose] public section

noncomputable section

/-! # The kernel and the reference agree

Each side's run ends with its result a stated array of the arguments; the two arrays are one. -/

namespace Cert.Agree

open Idealize.ShloMosaic Idealize.SL.Sem Cert.KernelIdeal.Moe

/-- The idealized kernel's run: the result array is `outArr` of the arguments, which end unchanged. -/
theorem kernel_run (T : Cert.KernelIdeal.S4.Idx → BitVec 32) (hT : Good T)
    (m : (ℓ : Loc Cert.KernelIdeal.nD Cert.KernelIdeal.τ Cert.KernelIdeal.sig) → Buf (Elt Ideal) ℓ) (ρ : Dev Cert.KernelIdeal.nD → PrngReg)
    (hp : ∀ c : Dev Cert.KernelIdeal.nD, m ((c.tc : Thread Cert.KernelIdeal.nD Cert.KernelIdeal.τ).loc Cert.KernelIdeal.main_arg2) = T) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v0) = outArr T (argX m c) (argXS m c) (argW m c) (argWS m c)
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)) :=
  (θ_run Cert.KernelIdeal.defs _ _).mono (fun _ h c => ⟨((h.1.1 c).1 (4 : Fin 5)).trans (arrAt4 T hT m c), h.2.1 c⟩)
    (θ_run_and (run_main_quiescent T hT m ρ hp) (frame T hT m ρ hp))

/-- **The two programs end with equal results.** -/
theorem algebraic : Cert.algebraic_KernelIdeal_ReferenceIdeal (hKernelIdeal := Cert.KernelIdeal.Gen.facts)
    (hReferenceIdeal := Cert.ReferenceIdeal.Gen.facts) (hPre_groups_fit := Cert.Pre_groups_fit.Gen.facts) := by
  intro m g m' g' hpre hargs
  have hT : Good (m ((0 : Dev Cert.KernelIdeal.nD).tc.loc Cert.KernelIdeal.main_arg2)) := good_of_pre _ _ _ _ _ (hpre 0)
  refine ⟨fun c => outArr (m ((0 : Dev Cert.KernelIdeal.nD).tc.loc Cert.KernelIdeal.main_arg2)) (argX m c) (argXS m c) (argW m c) (argWS m c),
    kernel_run _ hT m g (fun c => by rw [Subsingleton.elim c 0]), ?_⟩
  refine (θ_run Cert.ReferenceIdeal.defs _ _).mono (fun _ h c => ⟨(h.1 c).trans ?_, h.2 c⟩)
    (θ_run_and (Cert.ReferenceIdeal.Moe.run_out m' g') (Cert.ReferenceIdeal.Gen.unchanged m' g'))
  obtain ⟨h0, h1, h2, h3, h4⟩ := hargs c
  obtain rfl : c = 0 := Subsingleton.elim c 0
  refine (congr (congr (congr (congr (congrArg Cert.ReferenceIdeal.Moe.refOut h0) h1) h2) h3) h4).trans ?_
  exact Cert.ReferenceIdeal.Moe.refOut_eq hT _ _ _ _

end Cert.Agree

end
-- ==== Proof.lean ====
module

public import proofs.«01_k».proof.Defs
public import proofs.«01_k».proof.Proof.Same
public import proofs.«01_k».proof.Proof.Pre
public import proofs.«01_k».proof.Proof.Algebraic
public import proofs.«01_k».proof.Proof.Gen.ReferenceIdeal.Frame
public import proofs.«01_k».proof.Proof.Gen.Pre_groups_fit
public import Idealize.ShloMosaic.Adequacy
public import Idealize.ShloMosaic.Init

@[expose] public section

noncomputable section

namespace Cert.Proof

open Idealize.ShloMosaic Idealize.SL.Sem Cert.Kernel

/-- The kernel runs, leaves its arguments alone and ends with its counters at zero. -/
theorem quiescent_kernel : Cert.quiescent_Kernel (hKernel := Cert.Kernel.Gen.facts) (hPre_groups_fit := Cert.Pre_groups_fit.Gen.facts) :=
  fun m g h => Cert.Kernel.Moe.frame (m ((0 : Dev Cert.Kernel.nD).tc.loc Cert.Kernel.main_arg2))
    (Cert.KernelIdeal.Moe.good_of_pre _ _ _ _ _ (h 0)) m g (fun c => by rw [Subsingleton.elim c 0])

/-- So does the idealized kernel. -/
theorem quiescent_kernelIdeal : Cert.quiescent_KernelIdeal (hKernelIdeal := Cert.KernelIdeal.Gen.facts) (hPre_groups_fit := Cert.Pre_groups_fit.Gen.facts) :=
  fun m g h => Cert.KernelIdeal.Moe.frame (m ((0 : Dev Cert.KernelIdeal.nD).tc.loc Cert.KernelIdeal.main_arg2))
    (Cert.KernelIdeal.Moe.good_of_pre _ _ _ _ _ (h 0)) m g (fun c => by rw [Subsingleton.elim c 0])

/-- Everything claimed: the three programs run and leave their arguments alone, the idealization rewrote nothing, and
the idealized kernel's result is the reference's. -/
theorem claim : Cert.Claim := ⟨Cert.Kernel.Gen.facts, Cert.KernelIdeal.Gen.facts, Cert.ReferenceIdeal.Gen.facts, Cert.Pre_groups_fit.Gen.facts,
  quiescent_kernel, quiescent_kernelIdeal, fun m g _ => Cert.ReferenceIdeal.Gen.frame m g,
  fun m g _ => Cert.ReferenceIdeal.Gen.frame m g, trivial, Cert.Agree.algebraic⟩

end Cert.Proof

end
